-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x4096x2 : Shape := ⟨3, ![2, 4096, 2]⟩
abbrev S2x4096 : Shape := ⟨2, ![2, 4096]⟩
abbrev S2x2 : Shape := ⟨2, ![2, 2]⟩
abbrev S3x128 : Shape := ⟨2, ![3, 128]⟩
abbrev S128 : Shape := ⟨1, ![128]⟩
abbrev S128x128 : Shape := ⟨2, ![128, 128]⟩
abbrev S2x128 : Shape := ⟨2, ![2, 128]⟩
abbrev S_ : Shape := ⟨0, ![]⟩
abbrev S4096 : Shape := ⟨1, ![4096]⟩
abbrev S2x4096x1x2 : Shape := ⟨4, ![2, 4096, 1, 2]⟩
abbrev S2x1x4096x2 : Shape := ⟨4, ![2, 1, 4096, 2]⟩
abbrev S2x4096x4096x2 : Shape := ⟨4, ![2, 4096, 4096, 2]⟩
abbrev S2x4096x4096 : Shape := ⟨3, ![2, 4096, 4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩

class Facts : Prop where
  bcast_S_S2x4096x2 : S_.BroadcastsInDim S2x4096x2 (![] : Fin 0 → Fin S2x4096x2.rank)
  reducesTo_S2x4096x2_S_d0_1_2 : S2x4096x2.ReducesTo [0, 1, 2] S_
  h_S_ : 0 < S_.numel
  bcast_S_S2x4096 : S_.BroadcastsInDim S2x4096 (![] : Fin 0 → Fin S2x4096.rank)
  reducesTo_S2x4096_S_d0_1 : S2x4096.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S2x4096x2_S2x4096x1x2_0_1_3 : S2x4096x2.BroadcastsInDim S2x4096x1x2 (![0, 1, 3] : Fin 3 → Fin S2x4096x1x2.rank)
  bcast_S2x4096x2_S2x1x4096x2_0_2_3 : S2x4096x2.BroadcastsInDim S2x1x4096x2 (![0, 2, 3] : Fin 3 → Fin S2x1x4096x2.rank)
  bcast_S2x4096x1x2_S2x4096x4096x2_0_1_2_3 : S2x4096x1x2.BroadcastsInDim S2x4096x4096x2 (![0, 1, 2, 3] : Fin 4 → Fin S2x4096x4096x2.rank)
  bcast_S2x1x4096x2_S2x4096x4096x2_0_1_2_3 : S2x1x4096x2.BroadcastsInDim S2x4096x4096x2 (![0, 1, 2, 3] : Fin 4 → Fin S2x4096x4096x2.rank)
  reducesTo_S2x4096x4096x2_S2x4096x4096_d3 : S2x4096x4096x2.ReducesTo [3] S2x4096x4096
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S4096x4096_S1x4096x4096_1_2 : S4096x4096.BroadcastsInDim S1x4096x4096 (![1, 2] : Fin 2 → Fin S1x4096x4096.rank)
  bcast_S1x4096x4096_S2x4096x4096_0_1_2 : S1x4096x4096.BroadcastsInDim S2x4096x4096 (![0, 1, 2] : Fin 3 → Fin S2x4096x4096.rank)
  natLt_1_32 : 1 < 32
  reducesTo_S2x4096x4096_S2x4096_d2 : S2x4096x4096.ReducesTo [2] S2x4096

variable [Facts]

def fn_part2 {F : FTy → Type} [FloatOps F] (main_v3 : IVec S_ 1) (main_v7 : IVec S_ 1) (main_v11 : IVec S_ 1) (main_v15 : IVec S_ 1) (main_v19 : IVec S_ 1) (main_v35 : IVec S2x4096x4096 32) (main_c_9 : IVec S_ 32) : IVec S_ 1 :=
  let main_v36 : IVec S2x4096 32 := (fun x v => Host.reduce IntOp.addi x v reducesTo_S2x4096x4096_S2x4096_d2 h_S_) main_v35 main_c_9
  let main_c_10 : IVec S_ 32 := constantI S_ 32 5#32
  let main_v37 : IVec S2x4096 32 := broadcastInDim S2x4096 ![] bcast_S_S2x4096 main_c_10
  let main_v38 : IVec S2x4096 1 := cmpi .sle main_v36 main_v37
  let main_c_11 : IVec S_ 1 := constantI S_ 1 1#1
  let main_v39 : IVec S_ 1 := (fun x v => Host.reduce IntOp.andi x v reducesTo_S2x4096_S_d0_1 h_S_) main_v38 main_c_11
  let main_v40 : IVec S_ 1 := andi main_v39 main_v3
  let main_v41 : IVec S_ 1 := andi main_v40 main_v7
  let main_v42 : IVec S_ 1 := andi main_v41 main_v11
  let main_v43 : IVec S_ 1 := andi main_v42 main_v15
  let main_v44 : IVec S_ 1 := andi main_v43 main_v19
  main_v44

def fn_part1 {F : FTy → Type} [FloatOps F] (main_arg0 : FVec F S2x4096x2 .f32) (main_arg7 : FVec F S128x128 .f32) (main_v3 : IVec S_ 1) (main_v7 : IVec S_ 1) (main_v11 : IVec S_ 1) (main_v15 : IVec S_ 1) : IVec S_ 1 :=
  let main_v16 : FVec F S128x128 .f32 := Host.absf main_arg7
  let main_cst_6 : FVec F S_ .f32 := constant S_ .f32 0x7F800000#32
  let main_v17 : FVec F S128x128 .f32 := broadcastInDim S128x128 ![] bcast_S_S128x128 main_cst_6
  let main_v18 : IVec S128x128 1 := cmpf .olt main_v16 main_v17
  let main_c_7 : IVec S_ 1 := constantI S_ 1 1#1
  let main_v19 : IVec S_ 1 := (fun x v => Host.reduce IntOp.andi x v reducesTo_S128x128_S_d0_1 h_S_) main_v18 main_c_7
  let main_v20 : IVec S4096 32 := iotaInDim S4096 32 0
  let main_v21 : FVec F S2x4096x1x2 .f32 := broadcastInDim S2x4096x1x2 ![0, 1, 3] bcast_S2x4096x2_S2x4096x1x2_0_1_3 main_arg0
  let main_v22 : FVec F S2x1x4096x2 .f32 := broadcastInDim S2x1x4096x2 ![0, 2, 3] bcast_S2x4096x2_S2x1x4096x2_0_2_3 main_arg0
  let main_v23 : FVec F S2x4096x4096x2 .f32 := broadcastInDim S2x4096x4096x2 ![0, 1, 2, 3] bcast_S2x4096x1x2_S2x4096x4096x2_0_1_2_3 main_v21
  let main_v24 : FVec F S2x4096x4096x2 .f32 := broadcastInDim S2x4096x4096x2 ![0, 1, 2, 3] bcast_S2x1x4096x2_S2x4096x4096x2_0_1_2_3 main_v22
  let main_v25 : IVec S2x4096x4096x2 1 := cmpf .oeq main_v23 main_v24
  let main_c_8 : IVec S_ 1 := constantI S_ 1 1#1
  let main_v26 : IVec S2x4096x4096 1 := (fun x v => Host.reduce IntOp.andi x v reducesTo_S2x4096x4096x2_S2x4096x4096_d3 h_S_) main_v25 main_c_8
  let main_v27 : IVec S1x4096 32 := broadcastInDim S1x4096 ![1] bcast_S4096_S1x4096_1 main_v20
  let main_v28 : IVec S4096x1 32 := broadcastInDim S4096x1 ![0] bcast_S4096_S4096x1_0 main_v20
  let main_v29 : IVec S4096x4096 32 := broadcastInDim S4096x4096 ![0, 1] bcast_S1x4096_S4096x4096_0_1 main_v27
  let main_v30 : IVec S4096x4096 32 := broadcastInDim S4096x4096 ![0, 1] bcast_S4096x1_S4096x4096_0_1 main_v28
  let main_v31 : IVec S4096x4096 1 := cmpi .slt main_v29 main_v30
  let main_v32 : IVec S1x4096x4096 1 := broadcastInDim S1x4096x4096 ![1, 2] bcast_S4096x4096_S1x4096x4096_1_2 main_v31
  let main_v33 : IVec S2x4096x4096 1 := broadcastInDim S2x4096x4096 ![0, 1, 2] bcast_S1x4096x4096_S2x4096x4096_0_1_2 main_v32
  let main_v34 : IVec S2x4096x4096 1 := andi main_v26 main_v33
  let main_v35 : IVec S2x4096x4096 32 := (extui 32 · natLt_1_32) main_v34
  let main_c_9 : IVec S_ 32 := constantI S_ 32 0#32
  fn_part2 (F := F) main_v3 main_v7 main_v11 main_v15 main_v19 main_v35 main_c_9

def fn {F : FTy → Type} [FloatOps F] (main_arg0 : FVec F S2x4096x2 .f32) (main_arg1 : FVec F S2x4096 .f32) (main_arg2 : FVec F S2x2 .f32) (main_arg3 : FVec F S3x128 .f32) (main_arg4 : FVec F S128 .f32) (main_arg5 : FVec F S3x128 .f32) (main_arg6 : FVec F S128 .f32) (main_arg7 : FVec F S128x128 .f32) (main_arg8 : FVec F S128 .f32) (main_arg9 : FVec F S2x128 .f32) (main_arg10 : FVec F S128 .f32) : IVec S_ 1 :=
  let main_v0 : FVec F S2x4096x2 .f32 := Host.absf main_arg0
  let main_cst : FVec F S_ .f32 := constant S_ .f32 0x7F800000#32
  let main_v1 : FVec F S2x4096x2 .f32 := broadcastInDim S2x4096x2 ![] bcast_S_S2x4096x2 main_cst
  let main_v2 : IVec S2x4096x2 1 := cmpf .olt main_v0 main_v1
  let main_c : IVec S_ 1 := constantI S_ 1 1#1
  let main_v3 : IVec S_ 1 := (fun x v => Host.reduce IntOp.andi x v reducesTo_S2x4096x2_S_d0_1_2 h_S_) main_v2 main_c
  let main_v4 : FVec F S2x4096 .f32 := Host.absf main_arg1
  let main_cst_0 : FVec F S_ .f32 := constant S_ .f32 0x7F800000#32
  let main_v5 : FVec F S2x4096 .f32 := broadcastInDim S2x4096 ![] bcast_S_S2x4096 main_cst_0
  let main_v6 : IVec S2x4096 1 := cmpf .olt main_v4 main_v5
  let main_c_1 : IVec S_ 1 := constantI S_ 1 1#1
  let main_v7 : IVec S_ 1 := (fun x v => Host.reduce IntOp.andi x v reducesTo_S2x4096_S_d0_1 h_S_) main_v6 main_c_1
  let main_v8 : FVec F S3x128 .f32 := Host.absf main_arg5
  let main_cst_2 : FVec F S_ .f32 := constant S_ .f32 0x7F800000#32
  let main_v9 : FVec F S3x128 .f32 := broadcastInDim S3x128 ![] bcast_S_S3x128 main_cst_2
  let main_v10 : IVec S3x128 1 := cmpf .olt main_v8 main_v9
  let main_c_3 : IVec S_ 1 := constantI S_ 1 1#1
  let main_v11 : IVec S_ 1 := (fun x v => Host.reduce IntOp.andi x v reducesTo_S3x128_S_d0_1 h_S_) main_v10 main_c_3
  let main_v12 : FVec F S128 .f32 := Host.absf main_arg6
  let main_cst_4 : FVec F S_ .f32 := constant S_ .f32 0x7F800000#32
  let main_v13 : FVec F S128 .f32 := broadcastInDim S128 ![] bcast_S_S128 main_cst_4
  let main_v14 : IVec S128 1 := cmpf .olt main_v12 main_v13
  let main_c_5 : IVec S_ 1 := constantI S_ 1 1#1
  let main_v15 : IVec S_ 1 := (fun x v => Host.reduce IntOp.andi x v reducesTo_S128_S_d0 h_S_) main_v14 main_c_5
  fn_part1 (F := F) main_arg0 main_arg7 main_v3 main_v7 main_v11 main_v15
-- ==== Kernel.lean ====
abbrev S2x4096x2 : Shape := ⟨3, ![2, 4096, 2]⟩
abbrev S2x4096 : Shape := ⟨2, ![2, 4096]⟩
abbrev S2x2 : Shape := ⟨2, ![2, 2]⟩
abbrev S3x128 : Shape := ⟨2, ![3, 128]⟩
abbrev S128 : Shape := ⟨1, ![128]⟩
abbrev S128x128 : Shape := ⟨2, ![128, 128]⟩
abbrev S2x128 : Shape := ⟨2, ![2, 128]⟩
abbrev S2x4096x1 : Shape := ⟨3, ![2, 4096, 1]⟩
abbrev S2x4096x3 : Shape := ⟨3, ![2, 4096, 3]⟩
abbrev S1x4096x3 : Shape := ⟨3, ![1, 4096, 3]⟩
abbrev S4096x3 : Shape := ⟨2, ![4096, 3]⟩
abbrev S1x128 : Shape := ⟨2, ![1, 128]⟩
abbrev S8192x3 : Shape := ⟨2, ![8192, 3]⟩
abbrev S1x3584x1 : Shape := ⟨3, ![1, 3584, 1]⟩
abbrev S3584 : Shape := ⟨1, ![3584]⟩
abbrev S1x4096x1 : Shape := ⟨3, ![1, 4096, 1]⟩
abbrev S4096 : Shape := ⟨1, ![4096]⟩
abbrev S4096x1 : Shape := ⟨2, ![4096, 1]⟩
abbrev S112 : Shape := ⟨1, ![112]⟩
abbrev S_ : Shape := ⟨0, ![]⟩
abbrev S16 : Shape := ⟨1, ![16]⟩
abbrev S3584x1 : Shape := ⟨2, ![3584, 1]⟩
abbrev S3584x3 : Shape := ⟨2, ![3584, 3]⟩
abbrev S4608x3 : Shape := ⟨2, ![4608, 3]⟩
abbrev S4608x128 : Shape := ⟨2, ![4608, 128]⟩
abbrev S256x3 : Shape := ⟨2, ![256, 3]⟩
abbrev S1x4096x2 : Shape := ⟨3, ![1, 4096, 2]⟩
abbrev S256x128 : Shape := ⟨2, ![256, 128]⟩
abbrev S256x2 : Shape := ⟨2, ![256, 2]⟩
abbrev S4096x2 : Shape := ⟨2, ![4096, 2]⟩
abbrev S256x1 : Shape := ⟨2, ![256, 1]⟩
abbrev S1x4096 : Shape := ⟨2, ![1, 4096]⟩
abbrev S256x4096 : Shape := ⟨2, ![256, 4096]⟩
abbrev S256 : Shape := ⟨1, ![256]⟩
abbrev S2x1 : Shape := ⟨2, ![2, 1]⟩
abbrev S3584x128 : Shape := ⟨2, ![3584, 128]⟩
abbrev S8192x128 : Shape := ⟨2, ![8192, 128]⟩
abbrev S2x4096x128 : Shape := ⟨3, ![2, 4096, 128]⟩
abbrev S2x1x128 : Shape := ⟨3, ![2, 1, 128]⟩
abbrev S2x4097x128 : Shape := ⟨3, ![2, 4097, 128]⟩

abbrev nBuf : Table → Nat
  | .hbm => 60
  | .local .tc .vmem => 31
  | .local .scVector .vmem => 10
  | _ => 0

abbrev bufTy : (tb : Table) → Fin (nBuf tb) → BufTy
  | .hbm, ⟨0, _⟩ => ⟨S2x4096x2, .f32⟩
  | .hbm, ⟨1, _⟩ => ⟨S2x4096, .f32⟩
  | .hbm, ⟨2, _⟩ => ⟨S2x2, .f32⟩
  | .hbm, ⟨3, _⟩ => ⟨S3x128, .f32⟩
  | .hbm, ⟨4, _⟩ => ⟨S128, .f32⟩
  | .hbm, ⟨5, _⟩ => ⟨S3x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S2x128, .f32⟩
  | .hbm, ⟨10, _⟩ => ⟨S128, .f32⟩
  | .hbm, ⟨11, _⟩ => ⟨S2x4096x1, .f32⟩
  | .hbm, ⟨12, _⟩ => ⟨S2x4096x3, .f32⟩
  | .hbm, ⟨13, _⟩ => ⟨S1x4096x3, .f32⟩
  | .hbm, ⟨14, _⟩ => ⟨S4096x3, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S8192x3, .f32⟩
  | .hbm, ⟨20, _⟩ => ⟨S1x3584x1, .f32⟩
  | .hbm, ⟨21, _⟩ => ⟨S3584, .f32⟩
  | .hbm, ⟨22, _⟩ => ⟨S1x3584x1, .f32⟩
  | .hbm, ⟨23, _⟩ => ⟨S3584, .f32⟩
  | .hbm, ⟨24, _⟩ => ⟨S1x4096x1, .f32⟩
  | .hbm, ⟨25, _⟩ => ⟨S4096, .f32⟩
  | .hbm, ⟨26, _⟩ => ⟨S1x4096x1, .f32⟩
  | .hbm, ⟨27, _⟩ => ⟨S4096, .f32⟩
  | .hbm, ⟨28, _⟩ => ⟨S4096x1, .f32⟩
  | .hbm, ⟨29, _⟩ => ⟨S4096, .f32⟩
  | .hbm, ⟨30, _⟩ => ⟨S4096x1, .f32⟩
  | .hbm, ⟨31, _⟩ => ⟨S4096, .f32⟩
  | .hbm, ⟨32, _⟩ => ⟨S4096x1, .f32⟩
  | .hbm, ⟨33, _⟩ => ⟨S4096, .f32⟩
  | .hbm, ⟨34, _⟩ => ⟨S3584, .f32⟩
  | .hbm, ⟨35, _⟩ => ⟨S3584, .f32⟩
  | .hbm, ⟨36, _⟩ => ⟨S3584, .f32⟩
  | .hbm, ⟨37, _⟩ => ⟨S3584x1, .f32⟩
  | .hbm, ⟨38, _⟩ => ⟨S3584x1, .f32⟩
  | .hbm, ⟨39, _⟩ => ⟨S3584x1, .f32⟩
  | .hbm, ⟨40, _⟩ => ⟨S3584x3, .f32⟩
  | .hbm, ⟨41, _⟩ => ⟨S4608x3, .f32⟩
  | .hbm, ⟨42, _⟩ => ⟨S4608x128, .f32⟩
  | .hbm, ⟨43, _⟩ => ⟨S2x128, .f32⟩
  | .hbm, ⟨44, _⟩ => ⟨S2x128, .f32⟩
  | .hbm, ⟨45, _⟩ => ⟨S3584x3, .f32⟩
  | .hbm, ⟨46, _⟩ => ⟨S3584x128, .f32⟩
  | .hbm, ⟨47, _⟩ => ⟨S1x128, .f32⟩
  | .hbm, ⟨48, _⟩ => ⟨S8192x128, .f32⟩
  | .hbm, ⟨49, _⟩ => ⟨S2x4096x128, .f32⟩
  | .hbm, ⟨50, _⟩ => ⟨S2x1x128, .f32⟩
  | .hbm, ⟨51, _⟩ => ⟨S2x4097x128, .f32⟩
  | .hbm, ⟨52, _⟩ => ⟨S_, .f32⟩
  | .hbm, ⟨53, _⟩ => ⟨S1x128, .f32⟩
  | .hbm, ⟨54, _⟩ => ⟨S2x128, .f32⟩
  | .hbm, ⟨55, _⟩ => ⟨S2x128, .f32⟩
  | .hbm, ⟨56, _⟩ => ⟨S2x128, .f32⟩
  | .hbm, ⟨57, _⟩ => ⟨S_, .f32⟩
  | .hbm, ⟨58, _⟩ => ⟨S2x128, .f32⟩
  | .hbm, ⟨59, _⟩ => ⟨S2x128, .f32⟩
  | .local .tc .vmem, ⟨0, _⟩ => ⟨S256x3, .f32⟩
  | .local .tc .vmem, ⟨1, _⟩ => ⟨S256x3, .f32⟩
  | .local .tc .vmem, ⟨2, _⟩ => ⟨S1x4096x2, .f32⟩
  | .local .tc .vmem, ⟨3, _⟩ => ⟨S1x4096x2, .f32⟩
  | .local .tc .vmem, ⟨4, _⟩ => ⟨S4096x3, .f32⟩
  | .local .tc .vmem, ⟨5, _⟩ => ⟨S2x2, .f32⟩
  | .local .tc .vmem, ⟨6, _⟩ => ⟨S3x128, .f32⟩
  | .local .tc .vmem, ⟨7, _⟩ => ⟨S1x128, .f32⟩
  | .local .tc .vmem, ⟨8, _⟩ => ⟨S3x128, .f32⟩
  | .local .tc .vmem, ⟨9, _⟩ => ⟨S1x128, .f32⟩
  | .local .tc .vmem, ⟨10, _⟩ => ⟨S128x128, .f32⟩
  | .local .tc .vmem, ⟨11, _⟩ => ⟨S1x128, .f32⟩
  | .local .tc .vmem, ⟨12, _⟩ => ⟨S2x128, .f32⟩
  | .local .tc .vmem, ⟨13, _⟩ => ⟨S1x128, .f32⟩
  | .local .tc .vmem, ⟨14, _⟩ => ⟨S256x128, .f32⟩
  | .local .tc .vmem, ⟨15, _⟩ => ⟨S256x128, .f32⟩
  | .local .tc .vmem, ⟨16, _⟩ => ⟨S2x128, .f32⟩
  | .local .tc .vmem, ⟨17, _⟩ => ⟨S2x128, .f32⟩
  | .local .tc .vmem, ⟨18, _⟩ => ⟨S256x3, .f32⟩
  | .local .tc .vmem, ⟨19, _⟩ => ⟨S256x3, .f32⟩
  | .local .tc .vmem, ⟨20, _⟩ => ⟨S256x3, .f32⟩
  | .local .tc .vmem, ⟨21, _⟩ => ⟨S256x3, .f32⟩
  | .local .tc .vmem, ⟨22, _⟩ => ⟨S3x128, .f32⟩
  | .local .tc .vmem, ⟨23, _⟩ => ⟨S1x128, .f32⟩
  | .local .tc .vmem, ⟨24, _⟩ => ⟨S3x128, .f32⟩
  | .local .tc .vmem, ⟨25, _⟩ => ⟨S1x128, .f32⟩
  | .local .tc .vmem, ⟨26, _⟩ => ⟨S128x128, .f32⟩
  | .local .tc .vmem, ⟨27, _⟩ => ⟨S1x128, .f32⟩
  | .local .tc .vmem, ⟨28, _⟩ => ⟨S256x128, .f32⟩
  | .local .tc .vmem, ⟨29, _⟩ => ⟨S256x128, .f32⟩
  | .local .tc .vmem, ⟨30, _⟩ => ⟨S1x128, .f32⟩
  | .local .scVector .vmem, ⟨0, _⟩ => ⟨S112, .f32⟩
  | .local .scVector .vmem, ⟨1, _⟩ => ⟨S112, .f32⟩
  | .local .scVector .vmem, ⟨2, _⟩ => ⟨S4096, .f32⟩
  | .local .scVector .vmem, ⟨3, _⟩ => ⟨S4096, .f32⟩
  | .local .scVector .vmem, ⟨4, _⟩ => ⟨S4096, .f32⟩
  | .local .scVector .vmem, ⟨5, _⟩ => ⟨S4096, .f32⟩
  | .local .scVector .vmem, ⟨6, _⟩ => ⟨S4096, .f32⟩
  | .local .scVector .vmem, ⟨7, _⟩ => ⟨S112, .f32⟩
  | .local .scVector .vmem, ⟨8, _⟩ => ⟨S112, .f32⟩
  | .local .scVector .vmem, ⟨9, _⟩ => ⟨S112, .f32⟩
  | _, _ => ⟨S2x4096x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_0 : Ref sig .tc := ⟨.hbm, 57, rfl⟩
abbrev main_v40 : Ref sig .tc := ⟨.hbm, 58, rfl⟩
abbrev main_v41 : Ref sig .tc := ⟨.hbm, 59, rfl⟩
abbrev main_v10_scv : Ref sig .scVector := ⟨.hbm, 21, rfl⟩
abbrev main_v12_scv : Ref sig .scVector := ⟨.hbm, 23, rfl⟩
abbrev main_v14_scv : Ref sig .scVector := ⟨.hbm, 25, rfl⟩
abbrev main_v16_scv : Ref sig .scVector := ⟨.hbm, 27, rfl⟩
abbrev main_v18_scv : Ref sig .scVector := ⟨.hbm, 29, rfl⟩
abbrev main_v20_scv : Ref sig .scVector := ⟨.hbm, 31, rfl⟩
abbrev main_v22_scv : Ref sig .scVector := ⟨.hbm, 33, rfl⟩
abbrev main_v23_0_scv : Ref sig .scVector := ⟨.hbm, 34, rfl⟩
abbrev main_v23_1_scv : Ref sig .scVector := ⟨.hbm, 35, rfl⟩
abbrev main_v23_2_scv : Ref sig .scVector := ⟨.hbm, 36, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg12_1 : Ref sig .tc := ⟨.vmem, 15, rfl⟩
abbrev cc1_stg13_0 : Ref sig .tc := ⟨.vmem, 16, rfl⟩
abbrev cc1_stg14_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem12_1 : DmaSem sig := 25
abbrev cc1_sem13_0 : DmaSem sig := 26
abbrev cc1_sem14_0 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem8_1 : DmaSem sig := 39
abbrev cc2_sem9_0 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v2 : BitVec 32 := Scalar.muli v1 c112_i32
  ![v2.toNat]
@[reducible] def k0_t1_loop : Scf.Loop 32 :=
  let c0_i32_2 : BitVec 32 := 0#32
  let c4096_i32 : BitVec 32 := 4096#32
  let v12 : BitVec 32 := Scalar.addi c0_i32_2 c4096_i32
  let c1_i32 : BitVec 32 := 1#32
  ⟨c0_i32_2, v12, c1_i32⟩

def k0_chk1 (v374 : IVec S16 32) : Prop :=
  (∀ a x, ((![v374] : Fin 1 → IVec S16 32) a x).toNat < S4096.size a) ∧
  (∀ a x, ((![v374] : Fin 1 → IVec S16 32) a x).toNat < S4096.size a)
theorem k0_idx1_inb : ∀ (v374 : IVec S16 32) (k0_hw1 : k0_chk1 v374), ∀ a x, ((![v374] : Fin 1 → IVec S16 32) a x).toNat < S4096.size a := fun v374 k0_hw1 => k0_hw1.1
theorem k0_idx2_inb : ∀ (v374 : IVec S16 32) (k0_hw1 : k0_chk1 v374), ∀ a x, ((![v374] : Fin 1 → IVec S16 32) a x).toNat < S4096.size a := fun v374 k0_hw1 => k0_hw1.2

def k0_chk2 (v9 : IVec S16 32) : Prop :=
  (∀ a x, ((![v9] : Fin 1 → IVec S16 32) a x).toNat < S4096.size a) ∧
  (∀ a x, ((![v9] : Fin 1 → IVec S16 32) a x).toNat < S4096.size a) ∧
  (∀ a x, ((![v9] : Fin 1 → IVec S16 32) a x).toNat < S4096.size a)
theorem k0_idx3_inb : ∀ (v9 : IVec S16 32) (k0_hw2 : k0_chk2 v9), ∀ a x, ((![v9] : Fin 1 → IVec S16 32) a x).toNat < S4096.size a := fun v9 k0_hw2 => k0_hw2.1
theorem k0_idx4_inb : ∀ (v9 : IVec S16 32) (k0_hw2 : k0_chk2 v9), ∀ a x, ((![v9] : Fin 1 → IVec S16 32) a x).toNat < S4096.size a := fun v9 k0_hw2 => k0_hw2.2.1
theorem k0_idx5_inb : ∀ (v9 : IVec S16 32) (k0_hw2 : k0_chk2 v9), ∀ a x, ((![v9] : Fin 1 → IVec S16 32) a x).toNat < S4096.size a := fun v9 k0_hw2 => k0_hw2.2.2

def k0_chk3 (v13_5 : IVec S16 32) : Prop :=
  (∀ a x, ((![v13_5] : Fin 1 → IVec S16 32) a x).toNat < S4096.size a) ∧
  (∀ a x, ((![v13_5] : Fin 1 → IVec S16 32) a x).toNat < S4096.size a) ∧
  (∀ a x, ((![v13_5] : Fin 1 → IVec S16 32) a x).toNat < S4096.size a)
theorem k0_idx6_inb : ∀ (v13_5 : IVec S16 32) (k0_hw3 : k0_chk3 v13_5), ∀ a x, ((![v13_5] : Fin 1 → IVec S16 32) a x).toNat < S4096.size a := fun v13_5 k0_hw3 => k0_hw3.1
theorem k0_idx7_inb : ∀ (v13_5 : IVec S16 32) (k0_hw3 : k0_chk3 v13_5), ∀ a x, ((![v13_5] : Fin 1 → IVec S16 32) a x).toNat < S4096.size a := fun v13_5 k0_hw3 => k0_hw3.2.1
theorem k0_idx8_inb : ∀ (v13_5 : IVec S16 32) (k0_hw3 : k0_chk3 v13_5), ∀ a x, ((![v13_5] : Fin 1 → IVec S16 32) a x).toNat < S4096.size a := fun v13_5 k0_hw3 => k0_hw3.2.2

def k0_chk4 (v13_6 : IVec S16 32) : Prop :=
  (∀ a x, ((![v13_6] : Fin 1 → IVec S16 32) a x).toNat < S4096.size a) ∧
  (∀ a x, ((![v13_6] : Fin 1 → IVec S16 32) a x).toNat < S4096.size a) ∧
  (∀ a x, ((![v13_6] : Fin 1 → IVec S16 32) a x).toNat < S4096.size a)
theorem k0_idx9_inb : ∀ (v13_6 : IVec S16 32) (k0_hw4 : k0_chk4 v13_6), ∀ a x, ((![v13_6] : Fin 1 → IVec S16 32) a x).toNat < S4096.size a := fun v13_6 k0_hw4 => k0_hw4.1
theorem k0_idx10_inb : ∀ (v13_6 : IVec S16 32) (k0_hw4 : k0_chk4 v13_6), ∀ a x, ((![v13_6] : Fin 1 → IVec S16 32) a x).toNat < S4096.size a := fun v13_6 k0_hw4 => k0_hw4.2.1
theorem k0_idx11_inb : ∀ (v13_6 : IVec S16 32) (k0_hw4 : k0_chk4 v13_6), ∀ a x, ((![v13_6] : Fin 1 → IVec S16 32) a x).toNat < S4096.size a := fun v13_6 k0_hw4 => k0_hw4.2.2

def k0_chk5 (v13_7 : IVec S16 32) : Prop :=
  (∀ a x, ((![v13_7] : Fin 1 → IVec S16 32) a x).toNat < S4096.size a) ∧
  (∀ a x, ((![v13_7] : Fin 1 → IVec S16 32) a x).toNat < S4096.size a) ∧
  (∀ a x, ((![v13_7] : Fin 1 → IVec S16 32) a x).toNat < S4096.size a)
theorem k0_idx12_inb : ∀ (v13_7 : IVec S16 32) (k0_hw5 : k0_chk5 v13_7), ∀ a x, ((![v13_7] : Fin 1 → IVec S16 32) a x).toNat < S4096.size a := fun v13_7 k0_hw5 => k0_hw5.1
theorem k0_idx13_inb : ∀ (v13_7 : IVec S16 32) (k0_hw5 : k0_chk5 v13_7), ∀ a x, ((![v13_7] : Fin 1 → IVec S16 32) a x).toNat < S4096.size a := fun v13_7 k0_hw5 => k0_hw5.2.1
theorem k0_idx14_inb : ∀ (v13_7 : IVec S16 32) (k0_hw5 : k0_chk5 v13_7), ∀ a x, ((![v13_7] : Fin 1 → IVec S16 32) a x).toNat < S4096.size a := fun v13_7 k0_hw5 => k0_hw5.2.2

def k0_chk6 (v13_8 : IVec S16 32) : Prop :=
  (∀ a x, ((![v13_8] : Fin 1 → IVec S16 32) a x).toNat < S4096.size a) ∧
  (∀ a x, ((![v13_8] : Fin 1 → IVec S16 32) a x).toNat < S4096.size a) ∧
  (∀ a x, ((![v13_8] : Fin 1 → IVec S16 32) a x).toNat < S4096.size a)
theorem k0_idx15_inb : ∀ (v13_8 : IVec S16 32) (k0_hw6 : k0_chk6 v13_8), ∀ a x, ((![v13_8] : Fin 1 → IVec S16 32) a x).toNat < S4096.size a := fun v13_8 k0_hw6 => k0_hw6.1
theorem k0_idx16_inb : ∀ (v13_8 : IVec S16 32) (k0_hw6 : k0_chk6 v13_8), ∀ a x, ((![v13_8] : Fin 1 → IVec S16 32) a x).toNat < S4096.size a := fun v13_8 k0_hw6 => k0_hw6.2.1
theorem k0_idx17_inb : ∀ (v13_8 : IVec S16 32) (k0_hw6 : k0_chk6 v13_8), ∀ a x, ((![v13_8] : Fin 1 → IVec S16 32) a x).toNat < S4096.size a := fun v13_8 k0_hw6 => k0_hw6.2.2

def k0_chk7 (v13_9 : IVec S16 32) : Prop :=
  (∀ a x, ((![v13_9] : Fin 1 → IVec S16 32) a x).toNat < S4096.size a) ∧
  (∀ a x, ((![v13_9] : Fin 1 → IVec S16 32) a x).toNat < S4096.size a) ∧
  (∀ a x, ((![v13_9] : Fin 1 → IVec S16 32) a x).toNat < S4096.size a)
theorem k0_idx18_inb : ∀ (v13_9 : IVec S16 32) (k0_hw7 : k0_chk7 v13_9), ∀ a x, ((![v13_9] : Fin 1 → IVec S16 32) a x).toNat < S4096.size a := fun v13_9 k0_hw7 => k0_hw7.1
theorem k0_idx19_inb : ∀ (v13_9 : IVec S16 32) (k0_hw7 : k0_chk7 v13_9), ∀ a x, ((![v13_9] : Fin 1 → IVec S16 32) a x).toNat < S4096.size a := fun v13_9 k0_hw7 => k0_hw7.2.1
theorem k0_idx20_inb : ∀ (v13_9 : IVec S16 32) (k0_hw7 : k0_chk7 v13_9), ∀ a x, ((![v13_9] : Fin 1 → IVec S16 32) a x).toNat < S4096.size a := fun v13_9 k0_hw7 => k0_hw7.2.2
@[reducible] def k0_t2_loop : Scf.Loop 32 :=
  let c0_i32_14 : BitVec 32 := 0#32
  let c4096_i32_15 : BitVec 32 := 4096#32
  let v65 : BitVec 32 := Scalar.addi c0_i32_14 c4096_i32_15
  let c1_i32_16 : BitVec 32 := 1#32
  ⟨c0_i32_14, v65, c1_i32_16⟩

def k0_chk8 (v374 : IVec S16 32) : Prop :=
  (∀ a x, ((![v374] : Fin 1 → IVec S16 32) a x).toNat < S4096.size a) ∧
  (∀ a x, ((![v374] : Fin 1 → IVec S16 32) a x).toNat < S4096.size a)
theorem k0_idx21_inb : ∀ (v374 : IVec S16 32) (k0_hw8 : k0_chk8 v374), ∀ a x, ((![v374] : Fin 1 → IVec S16 32) a x).toNat < S4096.size a := fun v374 k0_hw8 => k0_hw8.1
theorem k0_idx22_inb : ∀ (v374 : IVec S16 32) (k0_hw8 : k0_chk8 v374), ∀ a x, ((![v374] : Fin 1 → IVec S16 32) a x).toNat < S4096.size a := fun v374 k0_hw8 => k0_hw8.2

def k0_chk9 (v62 : IVec S16 32) : Prop :=
  (∀ a x, ((![v62] : Fin 1 → IVec S16 32) a x).toNat < S4096.size a) ∧
  (∀ a x, ((![v62] : Fin 1 → IVec S16 32) a x).toNat < S4096.size a) ∧
  (∀ a x, ((![v62] : Fin 1 → IVec S16 32) a x).toNat < S4096.size a)
theorem k0_idx23_inb : ∀ (v62 : IVec S16 32) (k0_hw9 : k0_chk9 v62), ∀ a x, ((![v62] : Fin 1 → IVec S16 32) a x).toNat < S4096.size a := fun v62 k0_hw9 => k0_hw9.1
theorem k0_idx24_inb : ∀ (v62 : IVec S16 32) (k0_hw9 : k0_chk9 v62), ∀ a x, ((![v62] : Fin 1 → IVec S16 32) a x).toNat < S4096.size a := fun v62 k0_hw9 => k0_hw9.2.1
theorem k0_idx25_inb : ∀ (v62 : IVec S16 32) (k0_hw9 : k0_chk9 v62), ∀ a x, ((![v62] : Fin 1 → IVec S16 32) a x).toNat < S4096.size a := fun v62 k0_hw9 => k0_hw9.2.2

def k0_chk10 (v66_5 : IVec S16 32) : Prop :=
  (∀ a x, ((![v66_5] : Fin 1 → IVec S16 32) a x).toNat < S4096.size a) ∧
  (∀ a x, ((![v66_5] : Fin 1 → IVec S16 32) a x).toNat < S4096.size a) ∧
  (∀ a x, ((![v66_5] : Fin 1 → IVec S16 32) a x).toNat < S4096.size a)
theorem k0_idx26_inb : ∀ (v66_5 : IVec S16 32) (k0_hw10 : k0_chk10 v66_5), ∀ a x, ((![v66_5] : Fin 1 → IVec S16 32) a x).toNat < S4096.size a := fun v66_5 k0_hw10 => k0_hw10.1
theorem k0_idx27_inb : ∀ (v66_5 : IVec S16 32) (k0_hw10 : k0_chk10 v66_5), ∀ a x, ((![v66_5] : Fin 1 → IVec S16 32) a x).toNat < S4096.size a := fun v66_5 k0_hw10 => k0_hw10.2.1
theorem k0_idx28_inb : ∀ (v66_5 : IVec S16 32) (k0_hw10 : k0_chk10 v66_5), ∀ a x, ((![v66_5] : Fin 1 → IVec S16 32) a x).toNat < S4096.size a := fun v66_5 k0_hw10 => k0_hw10.2.2

def k0_chk11 (v66_6 : IVec S16 32) : Prop :=
  (∀ a x, ((![v66_6] : Fin 1 → IVec S16 32) a x).toNat < S4096.size a) ∧
  (∀ a x, ((![v66_6] : Fin 1 → IVec S16 32) a x).toNat < S4096.size a) ∧
  (∀ a x, ((![v66_6] : Fin 1 → IVec S16 32) a x).toNat < S4096.size a)
theorem k0_idx29_inb : ∀ (v66_6 : IVec S16 32) (k0_hw11 : k0_chk11 v66_6), ∀ a x, ((![v66_6] : Fin 1 → IVec S16 32) a x).toNat < S4096.size a := fun v66_6 k0_hw11 => k0_hw11.1
theorem k0_idx30_inb : ∀ (v66_6 : IVec S16 32) (k0_hw11 : k0_chk11 v66_6), ∀ a x, ((![v66_6] : Fin 1 → IVec S16 32) a x).toNat < S4096.size a := fun v66_6 k0_hw11 => k0_hw11.2.1
theorem k0_idx31_inb : ∀ (v66_6 : IVec S16 32) (k0_hw11 : k0_chk11 v66_6), ∀ a x, ((![v66_6] : Fin 1 → IVec S16 32) a x).toNat < S4096.size a := fun v66_6 k0_hw11 => k0_hw11.2.2

def k0_chk12 (v66_7 : IVec S16 32) : Prop :=
  (∀ a x, ((![v66_7] : Fin 1 → IVec S16 32) a x).toNat < S4096.size a) ∧
  (∀ a x, ((![v66_7] : Fin 1 → IVec S16 32) a x).toNat < S4096.size a) ∧
  (∀ a x, ((![v66_7] : Fin 1 → IVec S16 32) a x).toNat < S4096.size a)
theorem k0_idx32_inb : ∀ (v66_7 : IVec S16 32) (k0_hw12 : k0_chk12 v66_7), ∀ a x, ((![v66_7] : Fin 1 → IVec S16 32) a x).toNat < S4096.size a := fun v66_7 k0_hw12 => k0_hw12.1
theorem k0_idx33_inb : ∀ (v66_7 : IVec S16 32) (k0_hw12 : k0_chk12 v66_7), ∀ a x, ((![v66_7] : Fin 1 → IVec S16 32) a x).toNat < S4096.size a := fun v66_7 k0_hw12 => k0_hw12.2.1
theorem k0_idx34_inb : ∀ (v66_7 : IVec S16 32) (k0_hw12 : k0_chk12 v66_7), ∀ a x, ((![v66_7] : Fin 1 → IVec S16 32) a x).toNat < S4096.size a := fun v66_7 k0_hw12 => k0_hw12.2.2

def k0_chk13 (v66_8 : IVec S16 32) : Prop :=
  (∀ a x, ((![v66_8] : Fin 1 → IVec S16 32) a x).toNat < S4096.size a) ∧
  (∀ a x, ((![v66_8] : Fin 1 → IVec S16 32) a x).toNat < S4096.size a) ∧
  (∀ a x, ((![v66_8] : Fin 1 → IVec S16 32) a x).toNat < S4096.size a)
theorem k0_idx35_inb : ∀ (v66_8 : IVec S16 32) (k0_hw13 : k0_chk13 v66_8), ∀ a x, ((![v66_8] : Fin 1 → IVec S16 32) a x).toNat < S4096.size a := fun v66_8 k0_hw13 => k0_hw13.1
theorem k0_idx36_inb : ∀ (v66_8 : IVec S16 32) (k0_hw13 : k0_chk13 v66_8), ∀ a x, ((![v66_8] : Fin 1 → IVec S16 32) a x).toNat < S4096.size a := fun v66_8 k0_hw13 => k0_hw13.2.1
theorem k0_idx37_inb : ∀ (v66_8 : IVec S16 32) (k0_hw13 : k0_chk13 v66_8), ∀ a x, ((![v66_8] : Fin 1 → IVec S16 32) a x).toNat < S4096.size a := fun v66_8 k0_hw13 => k0_hw13.2.2

def k0_chk14 (v66_9 : IVec S16 32) : Prop :=
  (∀ a x, ((![v66_9] : Fin 1 → IVec S16 32) a x).toNat < S4096.size a) ∧
  (∀ a x, ((![v66_9] : Fin 1 → IVec S16 32) a x).toNat < S4096.size a) ∧
  (∀ a x, ((![v66_9] : Fin 1 → IVec S16 32) a x).toNat < S4096.size a)
theorem k0_idx38_inb : ∀ (v66_9 : IVec S16 32) (k0_hw14 : k0_chk14 v66_9), ∀ a x, ((![v66_9] : Fin 1 → IVec S16 32) a x).toNat < S4096.size a := fun v66_9 k0_hw14 => k0_hw14.1
theorem k0_idx39_inb : ∀ (v66_9 : IVec S16 32) (k0_hw14 : k0_chk14 v66_9), ∀ a x, ((![v66_9] : Fin 1 → IVec S16 32) a x).toNat < S4096.size a := fun v66_9 k0_hw14 => k0_hw14.2.1
theorem k0_idx40_inb : ∀ (v66_9 : IVec S16 32) (k0_hw14 : k0_chk14 v66_9), ∀ a x, ((![v66_9] : Fin 1 → IVec S16 32) a x).toNat < S4096.size a := fun v66_9 k0_hw14 => k0_hw14.2.2
@[reducible] def k0_t3_loop : Scf.Loop 32 :=
  let c0_i32_28 : BitVec 32 := 0#32
  let c4096_i32_29 : BitVec 32 := 4096#32
  let v118 : BitVec 32 := Scalar.addi c0_i32_28 c4096_i32_29
  let c1_i32_30 : BitVec 32 := 1#32
  ⟨c0_i32_28, v118, c1_i32_30⟩

def k0_chk15 (v374 : IVec S16 32) : Prop :=
  (∀ a x, ((![v374] : Fin 1 → IVec S16 32) a x).toNat < S4096.size a) ∧
  (∀ a x, ((![v374] : Fin 1 → IVec S16 32) a x).toNat < S4096.size a)
theorem k0_idx41_inb : ∀ (v374 : IVec S16 32) (k0_hw15 : k0_chk15 v374), ∀ a x, ((![v374] : Fin 1 → IVec S16 32) a x).toNat < S4096.size a := fun v374 k0_hw15 => k0_hw15.1
theorem k0_idx42_inb : ∀ (v374 : IVec S16 32) (k0_hw15 : k0_chk15 v374), ∀ a x, ((![v374] : Fin 1 → IVec S16 32) a x).toNat < S4096.size a := fun v374 k0_hw15 => k0_hw15.2

def k0_chk16 (v115 : IVec S16 32) : Prop :=
  (∀ a x, ((![v115] : Fin 1 → IVec S16 32) a x).toNat < S4096.size a) ∧
  (∀ a x, ((![v115] : Fin 1 → IVec S16 32) a x).toNat < S4096.size a) ∧
  (∀ a x, ((![v115] : Fin 1 → IVec S16 32) a x).toNat < S4096.size a)
theorem k0_idx43_inb : ∀ (v115 : IVec S16 32) (k0_hw16 : k0_chk16 v115), ∀ a x, ((![v115] : Fin 1 → IVec S16 32) a x).toNat < S4096.size a := fun v115 k0_hw16 => k0_hw16.1
theorem k0_idx44_inb : ∀ (v115 : IVec S16 32) (k0_hw16 : k0_chk16 v115), ∀ a x, ((![v115] : Fin 1 → IVec S16 32) a x).toNat < S4096.size a := fun v115 k0_hw16 => k0_hw16.2.1
theorem k0_idx45_inb : ∀ (v115 : IVec S16 32) (k0_hw16 : k0_chk16 v115), ∀ a x, ((![v115] : Fin 1 → IVec S16 32) a x).toNat < S4096.size a := fun v115 k0_hw16 => k0_hw16.2.2

def k0_chk17 (v119_5 : IVec S16 32) : Prop :=
  (∀ a x, ((![v119_5] : Fin 1 → IVec S16 32) a x).toNat < S4096.size a) ∧
  (∀ a x, ((![v119_5] : Fin 1 → IVec S16 32) a x).toNat < S4096.size a) ∧
  (∀ a x, ((![v119_5] : Fin 1 → IVec S16 32) a x).toNat < S4096.size a)
theorem k0_idx46_inb : ∀ (v119_5 : IVec S16 32) (k0_hw17 : k0_chk17 v119_5), ∀ a x, ((![v119_5] : Fin 1 → IVec S16 32) a x).toNat < S4096.size a := fun v119_5 k0_hw17 => k0_hw17.1
theorem k0_idx47_inb : ∀ (v119_5 : IVec S16 32) (k0_hw17 : k0_chk17 v119_5), ∀ a x, ((![v119_5] : Fin 1 → IVec S16 32) a x).toNat < S4096.size a := fun v119_5 k0_hw17 => k0_hw17.2.1
theorem k0_idx48_inb : ∀ (v119_5 : IVec S16 32) (k0_hw17 : k0_chk17 v119_5), ∀ a x, ((![v119_5] : Fin 1 → IVec S16 32) a x).toNat < S4096.size a := fun v119_5 k0_hw17 => k0_hw17.2.2

def k0_chk18 (v119_6 : IVec S16 32) : Prop :=
  (∀ a x, ((![v119_6] : Fin 1 → IVec S16 32) a x).toNat < S4096.size a) ∧
  (∀ a x, ((![v119_6] : Fin 1 → IVec S16 32) a x).toNat < S4096.size a) ∧
  (∀ a x, ((![v119_6] : Fin 1 → IVec S16 32) a x).toNat < S4096.size a)
theorem k0_idx49_inb : ∀ (v119_6 : IVec S16 32) (k0_hw18 : k0_chk18 v119_6), ∀ a x, ((![v119_6] : Fin 1 → IVec S16 32) a x).toNat < S4096.size a := fun v119_6 k0_hw18 => k0_hw18.1
theorem k0_idx50_inb : ∀ (v119_6 : IVec S16 32) (k0_hw18 : k0_chk18 v119_6), ∀ a x, ((![v119_6] : Fin 1 → IVec S16 32) a x).toNat < S4096.size a := fun v119_6 k0_hw18 => k0_hw18.2.1
theorem k0_idx51_inb : ∀ (v119_6 : IVec S16 32) (k0_hw18 : k0_chk18 v119_6), ∀ a x, ((![v119_6] : Fin 1 → IVec S16 32) a x).toNat < S4096.size a := fun v119_6 k0_hw18 => k0_hw18.2.2

def k0_chk19 (v119_7 : IVec S16 32) : Prop :=
  (∀ a x, ((![v119_7] : Fin 1 → IVec S16 32) a x).toNat < S4096.size a) ∧
  (∀ a x, ((![v119_7] : Fin 1 → IVec S16 32) a x).toNat < S4096.size a) ∧
  (∀ a x, ((![v119_7] : Fin 1 → IVec S16 32) a x).toNat < S4096.size a)
theorem k0_idx52_inb : ∀ (v119_7 : IVec S16 32) (k0_hw19 : k0_chk19 v119_7), ∀ a x, ((![v119_7] : Fin 1 → IVec S16 32) a x).toNat < S4096.size a := fun v119_7 k0_hw19 => k0_hw19.1
theorem k0_idx53_inb : ∀ (v119_7 : IVec S16 32) (k0_hw19 : k0_chk19 v119_7), ∀ a x, ((![v119_7] : Fin 1 → IVec S16 32) a x).toNat < S4096.size a := fun v119_7 k0_hw19 => k0_hw19.2.1
theorem k0_idx54_inb : ∀ (v119_7 : IVec S16 32) (k0_hw19 : k0_chk19 v119_7), ∀ a x, ((![v119_7] : Fin 1 → IVec S16 32) a x).toNat < S4096.size a := fun v119_7 k0_hw19 => k0_hw19.2.2

def k0_chk20 (v119_8 : IVec S16 32) : Prop :=
  (∀ a x, ((![v119_8] : Fin 1 → IVec S16 32) a x).toNat < S4096.size a) ∧
  (∀ a x, ((![v119_8] : Fin 1 → IVec S16 32) a x).toNat < S4096.size a) ∧
  (∀ a x, ((![v119_8] : Fin 1 → IVec S16 32) a x).toNat < S4096.size a)
theorem k0_idx55_inb : ∀ (v119_8 : IVec S16 32) (k0_hw20 : k0_chk20 v119_8), ∀ a x, ((![v119_8] : Fin 1 → IVec S16 32) a x).toNat < S4096.size a := fun v119_8 k0_hw20 => k0_hw20.1
theorem k0_idx56_inb : ∀ (v119_8 : IVec S16 32) (k0_hw20 : k0_chk20 v119_8), ∀ a x, ((![v119_8] : Fin 1 → IVec S16 32) a x).toNat < S4096.size a := fun v119_8 k0_hw20 => k0_hw20.2.1
theorem k0_idx57_inb : ∀ (v119_8 : IVec S16 32) (k0_hw20 : k0_chk20 v119_8), ∀ a x, ((![v119_8] : Fin 1 → IVec S16 32) a x).toNat < S4096.size a := fun v119_8 k0_hw20 => k0_hw20.2.2

def k0_chk21 (v119_9 : IVec S16 32) : Prop :=
  (∀ a x, ((![v119_9] : Fin 1 → IVec S16 32) a x).toNat < S4096.size a) ∧
  (∀ a x, ((![v119_9] : Fin 1 → IVec S16 32) a x).toNat < S4096.size a) ∧
  (∀ a x, ((![v119_9] : Fin 1 → IVec S16 32) a x).toNat < S4096.size a)
theorem k0_idx58_inb : ∀ (v119_9 : IVec S16 32) (k0_hw21 : k0_chk21 v119_9), ∀ a x, ((![v119_9] : Fin 1 → IVec S16 32) a x).toNat < S4096.size a := fun v119_9 k0_hw21 => k0_hw21.1
theorem k0_idx59_inb : ∀ (v119_9 : IVec S16 32) (k0_hw21 : k0_chk21 v119_9), ∀ a x, ((![v119_9] : Fin 1 → IVec S16 32) a x).toNat < S4096.size a := fun v119_9 k0_hw21 => k0_hw21.2.1
theorem k0_idx60_inb : ∀ (v119_9 : IVec S16 32) (k0_hw21 : k0_chk21 v119_9), ∀ a x, ((![v119_9] : Fin 1 → IVec S16 32) a x).toNat < S4096.size a := fun v119_9 k0_hw21 => k0_hw21.2.2
@[reducible] def k0_t4_loop : Scf.Loop 32 :=
  let c0_i32_42 : BitVec 32 := 0#32
  let c4096_i32_43 : BitVec 32 := 4096#32
  let v171 : BitVec 32 := Scalar.addi c0_i32_42 c4096_i32_43
  let c1_i32_44 : BitVec 32 := 1#32
  ⟨c0_i32_42, v171, c1_i32_44⟩

def k0_chk22 (v374 : IVec S16 32) : Prop :=
  (∀ a x, ((![v374] : Fin 1 → IVec S16 32) a x).toNat < S4096.size a) ∧
  (∀ a x, ((![v374] : Fin 1 → IVec S16 32) a x).toNat < S4096.size a)
theorem k0_idx61_inb : ∀ (v374 : IVec S16 32) (k0_hw22 : k0_chk22 v374), ∀ a x, ((![v374] : Fin 1 → IVec S16 32) a x).toNat < S4096.size a := fun v374 k0_hw22 => k0_hw22.1
theorem k0_idx62_inb : ∀ (v374 : IVec S16 32) (k0_hw22 : k0_chk22 v374), ∀ a x, ((![v374] : Fin 1 → IVec S16 32) a x).toNat < S4096.size a := fun v374 k0_hw22 => k0_hw22.2

def k0_chk23 (v168 : IVec S16 32) : Prop :=
  (∀ a x, ((![v168] : Fin 1 → IVec S16 32) a x).toNat < S4096.size a) ∧
  (∀ a x, ((![v168] : Fin 1 → IVec S16 32) a x).toNat < S4096.size a) ∧
  (∀ a x, ((![v168] : Fin 1 → IVec S16 32) a x).toNat < S4096.size a)
theorem k0_idx63_inb : ∀ (v168 : IVec S16 32) (k0_hw23 : k0_chk23 v168), ∀ a x, ((![v168] : Fin 1 → IVec S16 32) a x).toNat < S4096.size a := fun v168 k0_hw23 => k0_hw23.1
theorem k0_idx64_inb : ∀ (v168 : IVec S16 32) (k0_hw23 : k0_chk23 v168), ∀ a x, ((![v168] : Fin 1 → IVec S16 32) a x).toNat < S4096.size a := fun v168 k0_hw23 => k0_hw23.2.1
theorem k0_idx65_inb : ∀ (v168 : IVec S16 32) (k0_hw23 : k0_chk23 v168), ∀ a x, ((![v168] : Fin 1 → IVec S16 32) a x).toNat < S4096.size a := fun v168 k0_hw23 => k0_hw23.2.2

def k0_chk24 (v172_5 : IVec S16 32) : Prop :=
  (∀ a x, ((![v172_5] : Fin 1 → IVec S16 32) a x).toNat < S4096.size a) ∧
  (∀ a x, ((![v172_5] : Fin 1 → IVec S16 32) a x).toNat < S4096.size a) ∧
  (∀ a x, ((![v172_5] : Fin 1 → IVec S16 32) a x).toNat < S4096.size a)
theorem k0_idx66_inb : ∀ (v172_5 : IVec S16 32) (k0_hw24 : k0_chk24 v172_5), ∀ a x, ((![v172_5] : Fin 1 → IVec S16 32) a x).toNat < S4096.size a := fun v172_5 k0_hw24 => k0_hw24.1
theorem k0_idx67_inb : ∀ (v172_5 : IVec S16 32) (k0_hw24 : k0_chk24 v172_5), ∀ a x, ((![v172_5] : Fin 1 → IVec S16 32) a x).toNat < S4096.size a := fun v172_5 k0_hw24 => k0_hw24.2.1
theorem k0_idx68_inb : ∀ (v172_5 : IVec S16 32) (k0_hw24 : k0_chk24 v172_5), ∀ a x, ((![v172_5] : Fin 1 → IVec S16 32) a x).toNat < S4096.size a := fun v172_5 k0_hw24 => k0_hw24.2.2

def k0_chk25 (v172_6 : IVec S16 32) : Prop :=
  (∀ a x, ((![v172_6] : Fin 1 → IVec S16 32) a x).toNat < S4096.size a) ∧
  (∀ a x, ((![v172_6] : Fin 1 → IVec S16 32) a x).toNat < S4096.size a) ∧
  (∀ a x, ((![v172_6] : Fin 1 → IVec S16 32) a x).toNat < S4096.size a)
theorem k0_idx69_inb : ∀ (v172_6 : IVec S16 32) (k0_hw25 : k0_chk25 v172_6), ∀ a x, ((![v172_6] : Fin 1 → IVec S16 32) a x).toNat < S4096.size a := fun v172_6 k0_hw25 => k0_hw25.1
theorem k0_idx70_inb : ∀ (v172_6 : IVec S16 32) (k0_hw25 : k0_chk25 v172_6), ∀ a x, ((![v172_6] : Fin 1 → IVec S16 32) a x).toNat < S4096.size a := fun v172_6 k0_hw25 => k0_hw25.2.1
theorem k0_idx71_inb : ∀ (v172_6 : IVec S16 32) (k0_hw25 : k0_chk25 v172_6), ∀ a x, ((![v172_6] : Fin 1 → IVec S16 32) a x).toNat < S4096.size a := fun v172_6 k0_hw25 => k0_hw25.2.2

def k0_chk26 (v172_7 : IVec S16 32) : Prop :=
  (∀ a x, ((![v172_7] : Fin 1 → IVec S16 32) a x).toNat < S4096.size a) ∧
  (∀ a x, ((![v172_7] : Fin 1 → IVec S16 32) a x).toNat < S4096.size a) ∧
  (∀ a x, ((![v172_7] : Fin 1 → IVec S16 32) a x).toNat < S4096.size a)
theorem k0_idx72_inb : ∀ (v172_7 : IVec S16 32) (k0_hw26 : k0_chk26 v172_7), ∀ a x, ((![v172_7] : Fin 1 → IVec S16 32) a x).toNat < S4096.size a := fun v172_7 k0_hw26 => k0_hw26.1
theorem k0_idx73_inb : ∀ (v172_7 : IVec S16 32) (k0_hw26 : k0_chk26 v172_7), ∀ a x, ((![v172_7] : Fin 1 → IVec S16 32) a x).toNat < S4096.size a := fun v172_7 k0_hw26 => k0_hw26.2.1
theorem k0_idx74_inb : ∀ (v172_7 : IVec S16 32) (k0_hw26 : k0_chk26 v172_7), ∀ a x, ((![v172_7] : Fin 1 → IVec S16 32) a x).toNat < S4096.size a := fun v172_7 k0_hw26 => k0_hw26.2.2

def k0_chk27 (v172_8 : IVec S16 32) : Prop :=
  (∀ a x, ((![v172_8] : Fin 1 → IVec S16 32) a x).toNat < S4096.size a) ∧
  (∀ a x, ((![v172_8] : Fin 1 → IVec S16 32) a x).toNat < S4096.size a) ∧
  (∀ a x, ((![v172_8] : Fin 1 → IVec S16 32) a x).toNat < S4096.size a)
theorem k0_idx75_inb : ∀ (v172_8 : IVec S16 32) (k0_hw27 : k0_chk27 v172_8), ∀ a x, ((![v172_8] : Fin 1 → IVec S16 32) a x).toNat < S4096.size a := fun v172_8 k0_hw27 => k0_hw27.1
theorem k0_idx76_inb : ∀ (v172_8 : IVec S16 32) (k0_hw27 : k0_chk27 v172_8), ∀ a x, ((![v172_8] : Fin 1 → IVec S16 32) a x).toNat < S4096.size a := fun v172_8 k0_hw27 => k0_hw27.2.1
theorem k0_idx77_inb : ∀ (v172_8 : IVec S16 32) (k0_hw27 : k0_chk27 v172_8), ∀ a x, ((![v172_8] : Fin 1 → IVec S16 32) a x).toNat < S4096.size a := fun v172_8 k0_hw27 => k0_hw27.2.2

def k0_chk28 (v172_9 : IVec S16 32) : Prop :=
  (∀ a x, ((![v172_9] : Fin 1 → IVec S16 32) a x).toNat < S4096.size a) ∧
  (∀ a x, ((![v172_9] : Fin 1 → IVec S16 32) a x).toNat < S4096.size a) ∧
  (∀ a x, ((![v172_9] : Fin 1 → IVec S16 32) a x).toNat < S4096.size a)
theorem k0_idx78_inb : ∀ (v172_9 : IVec S16 32) (k0_hw28 : k0_chk28 v172_9), ∀ a x, ((![v172_9] : Fin 1 → IVec S16 32) a x).toNat < S4096.size a := fun v172_9 k0_hw28 => k0_hw28.1
theorem k0_idx79_inb : ∀ (v172_9 : IVec S16 32) (k0_hw28 : k0_chk28 v172_9), ∀ a x, ((![v172_9] : Fin 1 → IVec S16 32) a x).toNat < S4096.size a := fun v172_9 k0_hw28 => k0_hw28.2.1
theorem k0_idx80_inb : ∀ (v172_9 : IVec S16 32) (k0_hw28 : k0_chk28 v172_9), ∀ a x, ((![v172_9] : Fin 1 → IVec S16 32) a x).toNat < S4096.size a := fun v172_9 k0_hw28 => k0_hw28.2.2
@[reducible] def k0_t5_loop : Scf.Loop 32 :=
  let c0_i32_56 : BitVec 32 := 0#32
  let c4096_i32_57 : BitVec 32 := 4096#32
  let v224 : BitVec 32 := Scalar.addi c0_i32_56 c4096_i32_57
  let c1_i32_58 : BitVec 32 := 1#32
  ⟨c0_i32_56, v224, c1_i32_58⟩

def k0_chk29 (v374 : IVec S16 32) : Prop :=
  (∀ a x, ((![v374] : Fin 1 → IVec S16 32) a x).toNat < S4096.size a) ∧
  (∀ a x, ((![v374] : Fin 1 → IVec S16 32) a x).toNat < S4096.size a)
theorem k0_idx81_inb : ∀ (v374 : IVec S16 32) (k0_hw29 : k0_chk29 v374), ∀ a x, ((![v374] : Fin 1 → IVec S16 32) a x).toNat < S4096.size a := fun v374 k0_hw29 => k0_hw29.1
theorem k0_idx82_inb : ∀ (v374 : IVec S16 32) (k0_hw29 : k0_chk29 v374), ∀ a x, ((![v374] : Fin 1 → IVec S16 32) a x).toNat < S4096.size a := fun v374 k0_hw29 => k0_hw29.2

def k0_chk30 (v221 : IVec S16 32) : Prop :=
  (∀ a x, ((![v221] : Fin 1 → IVec S16 32) a x).toNat < S4096.size a) ∧
  (∀ a x, ((![v221] : Fin 1 → IVec S16 32) a x).toNat < S4096.size a) ∧
  (∀ a x, ((![v221] : Fin 1 → IVec S16 32) a x).toNat < S4096.size a)
theorem k0_idx83_inb : ∀ (v221 : IVec S16 32) (k0_hw30 : k0_chk30 v221), ∀ a x, ((![v221] : Fin 1 → IVec S16 32) a x).toNat < S4096.size a := fun v221 k0_hw30 => k0_hw30.1
theorem k0_idx84_inb : ∀ (v221 : IVec S16 32) (k0_hw30 : k0_chk30 v221), ∀ a x, ((![v221] : Fin 1 → IVec S16 32) a x).toNat < S4096.size a := fun v221 k0_hw30 => k0_hw30.2.1
theorem k0_idx85_inb : ∀ (v221 : IVec S16 32) (k0_hw30 : k0_chk30 v221), ∀ a x, ((![v221] : Fin 1 → IVec S16 32) a x).toNat < S4096.size a := fun v221 k0_hw30 => k0_hw30.2.2

def k0_chk31 (v225_5 : IVec S16 32) : Prop :=
  (∀ a x, ((![v225_5] : Fin 1 → IVec S16 32) a x).toNat < S4096.size a) ∧
  (∀ a x, ((![v225_5] : Fin 1 → IVec S16 32) a x).toNat < S4096.size a) ∧
  (∀ a x, ((![v225_5] : Fin 1 → IVec S16 32) a x).toNat < S4096.size a)
theorem k0_idx86_inb : ∀ (v225_5 : IVec S16 32) (k0_hw31 : k0_chk31 v225_5), ∀ a x, ((![v225_5] : Fin 1 → IVec S16 32) a x).toNat < S4096.size a := fun v225_5 k0_hw31 => k0_hw31.1
theorem k0_idx87_inb : ∀ (v225_5 : IVec S16 32) (k0_hw31 : k0_chk31 v225_5), ∀ a x, ((![v225_5] : Fin 1 → IVec S16 32) a x).toNat < S4096.size a := fun v225_5 k0_hw31 => k0_hw31.2.1
theorem k0_idx88_inb : ∀ (v225_5 : IVec S16 32) (k0_hw31 : k0_chk31 v225_5), ∀ a x, ((![v225_5] : Fin 1 → IVec S16 32) a x).toNat < S4096.size a := fun v225_5 k0_hw31 => k0_hw31.2.2

def k0_chk32 (v225_6 : IVec S16 32) : Prop :=
  (∀ a x, ((![v225_6] : Fin 1 → IVec S16 32) a x).toNat < S4096.size a) ∧
  (∀ a x, ((![v225_6] : Fin 1 → IVec S16 32) a x).toNat < S4096.size a) ∧
  (∀ a x, ((![v225_6] : Fin 1 → IVec S16 32) a x).toNat < S4096.size a)
theorem k0_idx89_inb : ∀ (v225_6 : IVec S16 32) (k0_hw32 : k0_chk32 v225_6), ∀ a x, ((![v225_6] : Fin 1 → IVec S16 32) a x).toNat < S4096.size a := fun v225_6 k0_hw32 => k0_hw32.1
theorem k0_idx90_inb : ∀ (v225_6 : IVec S16 32) (k0_hw32 : k0_chk32 v225_6), ∀ a x, ((![v225_6] : Fin 1 → IVec S16 32) a x).toNat < S4096.size a := fun v225_6 k0_hw32 => k0_hw32.2.1
theorem k0_idx91_inb : ∀ (v225_6 : IVec S16 32) (k0_hw32 : k0_chk32 v225_6), ∀ a x, ((![v225_6] : Fin 1 → IVec S16 32) a x).toNat < S4096.size a := fun v225_6 k0_hw32 => k0_hw32.2.2

def k0_chk33 (v225_7 : IVec S16 32) : Prop :=
  (∀ a x, ((![v225_7] : Fin 1 → IVec S16 32) a x).toNat < S4096.size a) ∧
  (∀ a x, ((![v225_7] : Fin 1 → IVec S16 32) a x).toNat < S4096.size a) ∧
  (∀ a x, ((![v225_7] : Fin 1 → IVec S16 32) a x).toNat < S4096.size a)
theorem k0_idx92_inb : ∀ (v225_7 : IVec S16 32) (k0_hw33 : k0_chk33 v225_7), ∀ a x, ((![v225_7] : Fin 1 → IVec S16 32) a x).toNat < S4096.size a := fun v225_7 k0_hw33 => k0_hw33.1
theorem k0_idx93_inb : ∀ (v225_7 : IVec S16 32) (k0_hw33 : k0_chk33 v225_7), ∀ a x, ((![v225_7] : Fin 1 → IVec S16 32) a x).toNat < S4096.size a := fun v225_7 k0_hw33 => k0_hw33.2.1
theorem k0_idx94_inb : ∀ (v225_7 : IVec S16 32) (k0_hw33 : k0_chk33 v225_7), ∀ a x, ((![v225_7] : Fin 1 → IVec S16 32) a x).toNat < S4096.size a := fun v225_7 k0_hw33 => k0_hw33.2.2

def k0_chk34 (v225_8 : IVec S16 32) : Prop :=
  (∀ a x, ((![v225_8] : Fin 1 → IVec S16 32) a x).toNat < S4096.size a) ∧
  (∀ a x, ((![v225_8] : Fin 1 → IVec S16 32) a x).toNat < S4096.size a) ∧
  (∀ a x, ((![v225_8] : Fin 1 → IVec S16 32) a x).toNat < S4096.size a)
theorem k0_idx95_inb : ∀ (v225_8 : IVec S16 32) (k0_hw34 : k0_chk34 v225_8), ∀ a x, ((![v225_8] : Fin 1 → IVec S16 32) a x).toNat < S4096.size a := fun v225_8 k0_hw34 => k0_hw34.1
theorem k0_idx96_inb : ∀ (v225_8 : IVec S16 32) (k0_hw34 : k0_chk34 v225_8), ∀ a x, ((![v225_8] : Fin 1 → IVec S16 32) a x).toNat < S4096.size a := fun v225_8 k0_hw34 => k0_hw34.2.1
theorem k0_idx97_inb : ∀ (v225_8 : IVec S16 32) (k0_hw34 : k0_chk34 v225_8), ∀ a x, ((![v225_8] : Fin 1 → IVec S16 32) a x).toNat < S4096.size a := fun v225_8 k0_hw34 => k0_hw34.2.2

def k0_chk35 (v225_9 : IVec S16 32) : Prop :=
  (∀ a x, ((![v225_9] : Fin 1 → IVec S16 32) a x).toNat < S4096.size a) ∧
  (∀ a x, ((![v225_9] : Fin 1 → IVec S16 32) a x).toNat < S4096.size a) ∧
  (∀ a x, ((![v225_9] : Fin 1 → IVec S16 32) a x).toNat < S4096.size a)
theorem k0_idx98_inb : ∀ (v225_9 : IVec S16 32) (k0_hw35 : k0_chk35 v225_9), ∀ a x, ((![v225_9] : Fin 1 → IVec S16 32) a x).toNat < S4096.size a := fun v225_9 k0_hw35 => k0_hw35.1
theorem k0_idx99_inb : ∀ (v225_9 : IVec S16 32) (k0_hw35 : k0_chk35 v225_9), ∀ a x, ((![v225_9] : Fin 1 → IVec S16 32) a x).toNat < S4096.size a := fun v225_9 k0_hw35 => k0_hw35.2.1
theorem k0_idx100_inb : ∀ (v225_9 : IVec S16 32) (k0_hw35 : k0_chk35 v225_9), ∀ a x, ((![v225_9] : Fin 1 → IVec S16 32) a x).toNat < S4096.size a := fun v225_9 k0_hw35 => k0_hw35.2.2
@[reducible] def k0_t6_loop : Scf.Loop 32 :=
  let c0_i32_70 : BitVec 32 := 0#32
  let c4096_i32_71 : BitVec 32 := 4096#32
  let v277 : BitVec 32 := Scalar.addi c0_i32_70 c4096_i32_71
  let c1_i32_72 : BitVec 32 := 1#32
  ⟨c0_i32_70, v277, c1_i32_72⟩

def k0_chk36 (v374 : IVec S16 32) : Prop :=
  (∀ a x, ((![v374] : Fin 1 → IVec S16 32) a x).toNat < S4096.size a) ∧
  (∀ a x, ((![v374] : Fin 1 → IVec S16 32) a x).toNat < S4096.size a)
theorem k0_idx101_inb : ∀ (v374 : IVec S16 32) (k0_hw36 : k0_chk36 v374), ∀ a x, ((![v374] : Fin 1 → IVec S16 32) a x).toNat < S4096.size a := fun v374 k0_hw36 => k0_hw36.1
theorem k0_idx102_inb : ∀ (v374 : IVec S16 32) (k0_hw36 : k0_chk36 v374), ∀ a x, ((![v374] : Fin 1 → IVec S16 32) a x).toNat < S4096.size a := fun v374 k0_hw36 => k0_hw36.2

def k0_chk37 (v274 : IVec S16 32) : Prop :=
  (∀ a x, ((![v274] : Fin 1 → IVec S16 32) a x).toNat < S4096.size a) ∧
  (∀ a x, ((![v274] : Fin 1 → IVec S16 32) a x).toNat < S4096.size a) ∧
  (∀ a x, ((![v274] : Fin 1 → IVec S16 32) a x).toNat < S4096.size a)
theorem k0_idx103_inb : ∀ (v274 : IVec S16 32) (k0_hw37 : k0_chk37 v274), ∀ a x, ((![v274] : Fin 1 → IVec S16 32) a x).toNat < S4096.size a := fun v274 k0_hw37 => k0_hw37.1
theorem k0_idx104_inb : ∀ (v274 : IVec S16 32) (k0_hw37 : k0_chk37 v274), ∀ a x, ((![v274] : Fin 1 → IVec S16 32) a x).toNat < S4096.size a := fun v274 k0_hw37 => k0_hw37.2.1
theorem k0_idx105_inb : ∀ (v274 : IVec S16 32) (k0_hw37 : k0_chk37 v274), ∀ a x, ((![v274] : Fin 1 → IVec S16 32) a x).toNat < S4096.size a := fun v274 k0_hw37 => k0_hw37.2.2

def k0_chk38 (v278_5 : IVec S16 32) : Prop :=
  (∀ a x, ((![v278_5] : Fin 1 → IVec S16 32) a x).toNat < S4096.size a) ∧
  (∀ a x, ((![v278_5] : Fin 1 → IVec S16 32) a x).toNat < S4096.size a) ∧
  (∀ a x, ((![v278_5] : Fin 1 → IVec S16 32) a x).toNat < S4096.size a)
theorem k0_idx106_inb : ∀ (v278_5 : IVec S16 32) (k0_hw38 : k0_chk38 v278_5), ∀ a x, ((![v278_5] : Fin 1 → IVec S16 32) a x).toNat < S4096.size a := fun v278_5 k0_hw38 => k0_hw38.1
theorem k0_idx107_inb : ∀ (v278_5 : IVec S16 32) (k0_hw38 : k0_chk38 v278_5), ∀ a x, ((![v278_5] : Fin 1 → IVec S16 32) a x).toNat < S4096.size a := fun v278_5 k0_hw38 => k0_hw38.2.1
theorem k0_idx108_inb : ∀ (v278_5 : IVec S16 32) (k0_hw38 : k0_chk38 v278_5), ∀ a x, ((![v278_5] : Fin 1 → IVec S16 32) a x).toNat < S4096.size a := fun v278_5 k0_hw38 => k0_hw38.2.2

def k0_chk39 (v278_6 : IVec S16 32) : Prop :=
  (∀ a x, ((![v278_6] : Fin 1 → IVec S16 32) a x).toNat < S4096.size a) ∧
  (∀ a x, ((![v278_6] : Fin 1 → IVec S16 32) a x).toNat < S4096.size a) ∧
  (∀ a x, ((![v278_6] : Fin 1 → IVec S16 32) a x).toNat < S4096.size a)
theorem k0_idx109_inb : ∀ (v278_6 : IVec S16 32) (k0_hw39 : k0_chk39 v278_6), ∀ a x, ((![v278_6] : Fin 1 → IVec S16 32) a x).toNat < S4096.size a := fun v278_6 k0_hw39 => k0_hw39.1
theorem k0_idx110_inb : ∀ (v278_6 : IVec S16 32) (k0_hw39 : k0_chk39 v278_6), ∀ a x, ((![v278_6] : Fin 1 → IVec S16 32) a x).toNat < S4096.size a := fun v278_6 k0_hw39 => k0_hw39.2.1
theorem k0_idx111_inb : ∀ (v278_6 : IVec S16 32) (k0_hw39 : k0_chk39 v278_6), ∀ a x, ((![v278_6] : Fin 1 → IVec S16 32) a x).toNat < S4096.size a := fun v278_6 k0_hw39 => k0_hw39.2.2

def k0_chk40 (v278_7 : IVec S16 32) : Prop :=
  (∀ a x, ((![v278_7] : Fin 1 → IVec S16 32) a x).toNat < S4096.size a) ∧
  (∀ a x, ((![v278_7] : Fin 1 → IVec S16 32) a x).toNat < S4096.size a) ∧
  (∀ a x, ((![v278_7] : Fin 1 → IVec S16 32) a x).toNat < S4096.size a)
theorem k0_idx112_inb : ∀ (v278_7 : IVec S16 32) (k0_hw40 : k0_chk40 v278_7), ∀ a x, ((![v278_7] : Fin 1 → IVec S16 32) a x).toNat < S4096.size a := fun v278_7 k0_hw40 => k0_hw40.1
theorem k0_idx113_inb : ∀ (v278_7 : IVec S16 32) (k0_hw40 : k0_chk40 v278_7), ∀ a x, ((![v278_7] : Fin 1 → IVec S16 32) a x).toNat < S4096.size a := fun v278_7 k0_hw40 => k0_hw40.2.1
theorem k0_idx114_inb : ∀ (v278_7 : IVec S16 32) (k0_hw40 : k0_chk40 v278_7), ∀ a x, ((![v278_7] : Fin 1 → IVec S16 32) a x).toNat < S4096.size a := fun v278_7 k0_hw40 => k0_hw40.2.2

def k0_chk41 (v278_8 : IVec S16 32) : Prop :=
  (∀ a x, ((![v278_8] : Fin 1 → IVec S16 32) a x).toNat < S4096.size a) ∧
  (∀ a x, ((![v278_8] : Fin 1 → IVec S16 32) a x).toNat < S4096.size a) ∧
  (∀ a x, ((![v278_8] : Fin 1 → IVec S16 32) a x).toNat < S4096.size a)
theorem k0_idx115_inb : ∀ (v278_8 : IVec S16 32) (k0_hw41 : k0_chk41 v278_8), ∀ a x, ((![v278_8] : Fin 1 → IVec S16 32) a x).toNat < S4096.size a := fun v278_8 k0_hw41 => k0_hw41.1
theorem k0_idx116_inb : ∀ (v278_8 : IVec S16 32) (k0_hw41 : k0_chk41 v278_8), ∀ a x, ((![v278_8] : Fin 1 → IVec S16 32) a x).toNat < S4096.size a := fun v278_8 k0_hw41 => k0_hw41.2.1
theorem k0_idx117_inb : ∀ (v278_8 : IVec S16 32) (k0_hw41 : k0_chk41 v278_8), ∀ a x, ((![v278_8] : Fin 1 → IVec S16 32) a x).toNat < S4096.size a := fun v278_8 k0_hw41 => k0_hw41.2.2

def k0_chk42 (v278_9 : IVec S16 32) : Prop :=
  (∀ a x, ((![v278_9] : Fin 1 → IVec S16 32) a x).toNat < S4096.size a) ∧
  (∀ a x, ((![v278_9] : Fin 1 → IVec S16 32) a x).toNat < S4096.size a) ∧
  (∀ a x, ((![v278_9] : Fin 1 → IVec S16 32) a x).toNat < S4096.size a)
theorem k0_idx118_inb : ∀ (v278_9 : IVec S16 32) (k0_hw42 : k0_chk42 v278_9), ∀ a x, ((![v278_9] : Fin 1 → IVec S16 32) a x).toNat < S4096.size a := fun v278_9 k0_hw42 => k0_hw42.1
theorem k0_idx119_inb : ∀ (v278_9 : IVec S16 32) (k0_hw42 : k0_chk42 v278_9), ∀ a x, ((![v278_9] : Fin 1 → IVec S16 32) a x).toNat < S4096.size a := fun v278_9 k0_hw42 => k0_hw42.2.1
theorem k0_idx120_inb : ∀ (v278_9 : IVec S16 32) (k0_hw42 : k0_chk42 v278_9), ∀ a x, ((![v278_9] : Fin 1 → IVec S16 32) a x).toNat < S4096.size a := fun v278_9 k0_hw42 => k0_hw42.2.2
@[reducible] def k0_t7_loop : Scf.Loop 32 :=
  let c0_i32_84 : BitVec 32 := 0#32
  let c4096_i32_85 : BitVec 32 := 4096#32
  let v330 : BitVec 32 := Scalar.addi c0_i32_84 c4096_i32_85
  let c1_i32_86 : BitVec 32 := 1#32
  ⟨c0_i32_84, v330, c1_i32_86⟩

def k0_chk43 (v374 : IVec S16 32) : Prop :=
  (∀ a x, ((![v374] : Fin 1 → IVec S16 32) a x).toNat < S4096.size a) ∧
  (∀ a x, ((![v374] : Fin 1 → IVec S16 32) a x).toNat < S4096.size a)
theorem k0_idx121_inb : ∀ (v374 : IVec S16 32) (k0_hw43 : k0_chk43 v374), ∀ a x, ((![v374] : Fin 1 → IVec S16 32) a x).toNat < S4096.size a := fun v374 k0_hw43 => k0_hw43.1
theorem k0_idx122_inb : ∀ (v374 : IVec S16 32) (k0_hw43 : k0_chk43 v374), ∀ a x, ((![v374] : Fin 1 → IVec S16 32) a x).toNat < S4096.size a := fun v374 k0_hw43 => k0_hw43.2

def k0_chk44 (v327 : IVec S16 32) : Prop :=
  (∀ a x, ((![v327] : Fin 1 → IVec S16 32) a x).toNat < S4096.size a) ∧
  (∀ a x, ((![v327] : Fin 1 → IVec S16 32) a x).toNat < S4096.size a) ∧
  (∀ a x, ((![v327] : Fin 1 → IVec S16 32) a x).toNat < S4096.size a)
theorem k0_idx123_inb : ∀ (v327 : IVec S16 32) (k0_hw44 : k0_chk44 v327), ∀ a x, ((![v327] : Fin 1 → IVec S16 32) a x).toNat < S4096.size a := fun v327 k0_hw44 => k0_hw44.1
theorem k0_idx124_inb : ∀ (v327 : IVec S16 32) (k0_hw44 : k0_chk44 v327), ∀ a x, ((![v327] : Fin 1 → IVec S16 32) a x).toNat < S4096.size a := fun v327 k0_hw44 => k0_hw44.2.1
theorem k0_idx125_inb : ∀ (v327 : IVec S16 32) (k0_hw44 : k0_chk44 v327), ∀ a x, ((![v327] : Fin 1 → IVec S16 32) a x).toNat < S4096.size a := fun v327 k0_hw44 => k0_hw44.2.2

def k0_chk45 (v331_5 : IVec S16 32) : Prop :=
  (∀ a x, ((![v331_5] : Fin 1 → IVec S16 32) a x).toNat < S4096.size a) ∧
  (∀ a x, ((![v331_5] : Fin 1 → IVec S16 32) a x).toNat < S4096.size a) ∧
  (∀ a x, ((![v331_5] : Fin 1 → IVec S16 32) a x).toNat < S4096.size a)
theorem k0_idx126_inb : ∀ (v331_5 : IVec S16 32) (k0_hw45 : k0_chk45 v331_5), ∀ a x, ((![v331_5] : Fin 1 → IVec S16 32) a x).toNat < S4096.size a := fun v331_5 k0_hw45 => k0_hw45.1
theorem k0_idx127_inb : ∀ (v331_5 : IVec S16 32) (k0_hw45 : k0_chk45 v331_5), ∀ a x, ((![v331_5] : Fin 1 → IVec S16 32) a x).toNat < S4096.size a := fun v331_5 k0_hw45 => k0_hw45.2.1
theorem k0_idx128_inb : ∀ (v331_5 : IVec S16 32) (k0_hw45 : k0_chk45 v331_5), ∀ a x, ((![v331_5] : Fin 1 → IVec S16 32) a x).toNat < S4096.size a := fun v331_5 k0_hw45 => k0_hw45.2.2

def k0_chk46 (v331_6 : IVec S16 32) : Prop :=
  (∀ a x, ((![v331_6] : Fin 1 → IVec S16 32) a x).toNat < S4096.size a) ∧
  (∀ a x, ((![v331_6] : Fin 1 → IVec S16 32) a x).toNat < S4096.size a) ∧
  (∀ a x, ((![v331_6] : Fin 1 → IVec S16 32) a x).toNat < S4096.size a)
theorem k0_idx129_inb : ∀ (v331_6 : IVec S16 32) (k0_hw46 : k0_chk46 v331_6), ∀ a x, ((![v331_6] : Fin 1 → IVec S16 32) a x).toNat < S4096.size a := fun v331_6 k0_hw46 => k0_hw46.1
theorem k0_idx130_inb : ∀ (v331_6 : IVec S16 32) (k0_hw46 : k0_chk46 v331_6), ∀ a x, ((![v331_6] : Fin 1 → IVec S16 32) a x).toNat < S4096.size a := fun v331_6 k0_hw46 => k0_hw46.2.1
theorem k0_idx131_inb : ∀ (v331_6 : IVec S16 32) (k0_hw46 : k0_chk46 v331_6), ∀ a x, ((![v331_6] : Fin 1 → IVec S16 32) a x).toNat < S4096.size a := fun v331_6 k0_hw46 => k0_hw46.2.2

def k0_chk47 (v331_7 : IVec S16 32) : Prop :=
  (∀ a x, ((![v331_7] : Fin 1 → IVec S16 32) a x).toNat < S4096.size a) ∧
  (∀ a x, ((![v331_7] : Fin 1 → IVec S16 32) a x).toNat < S4096.size a) ∧
  (∀ a x, ((![v331_7] : Fin 1 → IVec S16 32) a x).toNat < S4096.size a)
theorem k0_idx132_inb : ∀ (v331_7 : IVec S16 32) (k0_hw47 : k0_chk47 v331_7), ∀ a x, ((![v331_7] : Fin 1 → IVec S16 32) a x).toNat < S4096.size a := fun v331_7 k0_hw47 => k0_hw47.1
theorem k0_idx133_inb : ∀ (v331_7 : IVec S16 32) (k0_hw47 : k0_chk47 v331_7), ∀ a x, ((![v331_7] : Fin 1 → IVec S16 32) a x).toNat < S4096.size a := fun v331_7 k0_hw47 => k0_hw47.2.1
theorem k0_idx134_inb : ∀ (v331_7 : IVec S16 32) (k0_hw47 : k0_chk47 v331_7), ∀ a x, ((![v331_7] : Fin 1 → IVec S16 32) a x).toNat < S4096.size a := fun v331_7 k0_hw47 => k0_hw47.2.2

def k0_chk48 (v331_8 : IVec S16 32) : Prop :=
  (∀ a x, ((![v331_8] : Fin 1 → IVec S16 32) a x).toNat < S4096.size a) ∧
  (∀ a x, ((![v331_8] : Fin 1 → IVec S16 32) a x).toNat < S4096.size a) ∧
  (∀ a x, ((![v331_8] : Fin 1 → IVec S16 32) a x).toNat < S4096.size a)
theorem k0_idx135_inb : ∀ (v331_8 : IVec S16 32) (k0_hw48 : k0_chk48 v331_8), ∀ a x, ((![v331_8] : Fin 1 → IVec S16 32) a x).toNat < S4096.size a := fun v331_8 k0_hw48 => k0_hw48.1
theorem k0_idx136_inb : ∀ (v331_8 : IVec S16 32) (k0_hw48 : k0_chk48 v331_8), ∀ a x, ((![v331_8] : Fin 1 → IVec S16 32) a x).toNat < S4096.size a := fun v331_8 k0_hw48 => k0_hw48.2.1
theorem k0_idx137_inb : ∀ (v331_8 : IVec S16 32) (k0_hw48 : k0_chk48 v331_8), ∀ a x, ((![v331_8] : Fin 1 → IVec S16 32) a x).toNat < S4096.size a := fun v331_8 k0_hw48 => k0_hw48.2.2

def k0_chk49 (v331_9 : IVec S16 32) : Prop :=
  (∀ a x, ((![v331_9] : Fin 1 → IVec S16 32) a x).toNat < S4096.size a) ∧
  (∀ a x, ((![v331_9] : Fin 1 → IVec S16 32) a x).toNat < S4096.size a) ∧
  (∀ a x, ((![v331_9] : Fin 1 → IVec S16 32) a x).toNat < S4096.size a)
theorem k0_idx138_inb : ∀ (v331_9 : IVec S16 32) (k0_hw49 : k0_chk49 v331_9), ∀ a x, ((![v331_9] : Fin 1 → IVec S16 32) a x).toNat < S4096.size a := fun v331_9 k0_hw49 => k0_hw49.1
theorem k0_idx139_inb : ∀ (v331_9 : IVec S16 32) (k0_hw49 : k0_chk49 v331_9), ∀ a x, ((![v331_9] : Fin 1 → IVec S16 32) a x).toNat < S4096.size a := fun v331_9 k0_hw49 => k0_hw49.2.1
theorem k0_idx140_inb : ∀ (v331_9 : IVec S16 32) (k0_hw49 : k0_chk49 v331_9), ∀ a x, ((![v331_9] : Fin 1 → IVec S16 32) a x).toNat < S4096.size a := fun v331_9 k0_hw49 => k0_hw49.2.2
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v2 : BitVec 32 := Scalar.muli v1 c112_i32
  ![v2.toNat]
abbrev grid1 : Pipeline.Grid := ⟨1, ![18], ![false]⟩

def k1_cond1 (i : grid1.Coords) : BitVec 1 :=
  let arg0 : BitVec 32 := BitVec.ofNat 32 (i 0).val
  let c0_i32_57 : BitVec 32 := 0#32
  let v174 : BitVec 1 := Scalar.cmpi .eq arg0 c0_i32_57
  let v175 : BitVec 32 := Scalar.extui v174
  let c0_i32_58 : BitVec 32 := 0#32
  let v176 : BitVec 1 := Scalar.cmpi .ne v175 c0_i32_58
  v176

def k1_cond2 (i : grid1.Coords) : BitVec 1 :=
  let arg0 : BitVec 32 := BitVec.ofNat 32 (i 0).val
  let c0_i32_59 : BitVec 32 := 0#32
  let v177 : BitVec 1 := Scalar.cmpi .ne arg0 c0_i32_59
  let v178 : BitVec 32 := Scalar.extui v177
  let c0_i32_60 : BitVec 32 := 0#32
  let v179 : BitVec 1 := Scalar.cmpi .ne v178 c0_i32_60
  v179

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S2x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S2x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev grid2 : Pipeline.Grid := ⟨1, ![14], ![false]⟩

def k2_cond1 (i : grid2.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_23 : BitVec 32 := 0#32
  let v35 : BitVec 1 := Scalar.cmpi .ne v34 c0_i32_23
  v35

def k2_cond2 (i : grid2.Coords) : BitVec 1 :=
  let arg0 : BitVec 32 := BitVec.ofNat 32 (i 0).val
  let c0_i32_24 : BitVec 32 := 0#32
  let v36 : BitVec 1 := Scalar.cmpi .ne arg0 c0_i32_24
  let v37 : BitVec 32 := Scalar.extui v36
  let c0_i32_25 : BitVec 32 := 0#32
  let v38 : BitVec 1 := Scalar.cmpi .ne v37 c0_i32_25
  v38

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x4096x2 : Shape := ⟨3, ![2, 4096, 2]⟩
abbrev S2x4096 : Shape := ⟨2, ![2, 4096]⟩
abbrev S2x2 : Shape := ⟨2, ![2, 2]⟩
abbrev S3x128 : Shape := ⟨2, ![3, 128]⟩
abbrev S128 : Shape := ⟨1, ![128]⟩
abbrev S128x128 : Shape := ⟨2, ![128, 128]⟩
abbrev S2x128 : Shape := ⟨2, ![2, 128]⟩
abbrev S2x4096x1 : Shape := ⟨3, ![2, 4096, 1]⟩
abbrev S2x4096x3 : Shape := ⟨3, ![2, 4096, 3]⟩
abbrev S2x4096x128 : Shape := ⟨3, ![2, 4096, 128]⟩
abbrev S1x1x128 : Shape := ⟨3, ![1, 1, 128]⟩
abbrev S2x1x4096x2 : Shape := ⟨4, ![2, 1, 4096, 2]⟩
abbrev S2x4096x1x2 : Shape := ⟨4, ![2, 4096, 1, 2]⟩
abbrev S2x4096x4096x2 : Shape := ⟨4, ![2, 4096, 4096, 2]⟩
abbrev S_ : Shape := ⟨0, ![]⟩
abbrev S2x4096x4096 : Shape := ⟨3, ![2, 4096, 4096]⟩
abbrev S2x4096x6 : Shape := ⟨3, ![2, 4096, 6]⟩
abbrev S1x4096x3 : Shape := ⟨3, ![1, 4096, 3]⟩
abbrev S4096x3 : Shape := ⟨2, ![4096, 3]⟩
abbrev S2x4096x6x1 : Shape := ⟨4, ![2, 4096, 6, 1]⟩
abbrev S1 : Shape := ⟨1, ![1]⟩
abbrev S1x1x1x1 : Shape := ⟨4, ![1, 1, 1, 1]⟩
abbrev S2x4096x6x3 : Shape := ⟨4, ![2, 4096, 6, 3]⟩
abbrev S2x4096x1x3 : Shape := ⟨4, ![2, 4096, 1, 3]⟩
abbrev S2x4096x6x128 : Shape := ⟨4, ![2, 4096, 6, 128]⟩
abbrev S1x1x1x128 : Shape := ⟨4, ![1, 1, 1, 128]⟩
abbrev S2x4096x1x128 : Shape := ⟨4, ![2, 4096, 1, 128]⟩
abbrev S2x4096x7x128 : Shape := ⟨4, ![2, 4096, 7, 128]⟩
abbrev S1x128 : Shape := ⟨2, ![1, 128]⟩
abbrev S2x1x128 : Shape := ⟨3, ![2, 1, 128]⟩
abbrev S2x4097x128 : Shape := ⟨3, ![2, 4097, 128]⟩

abbrev nBuf : Space → Nat
  | .hbm => 82
  | .vmem => 0
  | .smem => 0
  | _ => 0

abbrev bufTy : (tb : Table) → Fin (tcTables nBuf tb) → BufTy
  | .hbm, ⟨0, _⟩ => ⟨S2x4096x2, .f32⟩
  | .hbm, ⟨1, _⟩ => ⟨S2x4096, .f32⟩
  | .hbm, ⟨2, _⟩ => ⟨S2x2, .f32⟩
  | .hbm, ⟨3, _⟩ => ⟨S3x128, .f32⟩
  | .hbm, ⟨4, _⟩ => ⟨S128, .f32⟩
  | .hbm, ⟨5, _⟩ => ⟨S3x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S2x128, .f32⟩
  | .hbm, ⟨10, _⟩ => ⟨S128, .f32⟩
  | .hbm, ⟨11, _⟩ => ⟨S2x4096x1, .f32⟩
  | .hbm, ⟨12, _⟩ => ⟨S2x4096x3, .f32⟩
  | .hbm, ⟨13, _⟩ => ⟨S2x4096x2, .f32⟩
  | .hbm, ⟨14, _⟩ => ⟨S2x4096x128, .f32⟩
  | .hbm, ⟨15, _⟩ => ⟨S1x1x128, .f32⟩
  | .hbm, ⟨16, _⟩ => ⟨S2x4096x128, .f32⟩
  | .hbm, ⟨17, _⟩ => ⟨S2x4096x128, .f32⟩
  | .hbm, ⟨18, _⟩ => ⟨S2x1x4096x2, .f32⟩
  | .hbm, ⟨19, _⟩ => ⟨S2x4096x1x2, .f32⟩
  | .hbm, ⟨20, _⟩ => ⟨S2x4096x4096x2, .f32⟩
  | .hbm, ⟨21, _⟩ => ⟨S2x4096x4096x2, .f32⟩
  | .hbm, ⟨22, _⟩ => ⟨S2x4096x4096x2, .f32⟩
  | .hbm, ⟨23, _⟩ => ⟨S2x4096x4096x2, .f32⟩
  | .hbm, ⟨24, _⟩ => ⟨S_, .f32⟩
  | .hbm, ⟨25, _⟩ => ⟨S2x4096x4096, .f32⟩
  | .hbm, ⟨26, _⟩ => ⟨S2x4096x4096, .f32⟩
  | .hbm, ⟨27, _⟩ => ⟨S2x4096x4096, .i32⟩
  | .hbm, ⟨28, _⟩ => ⟨S2x4096x4096, .f32⟩
  | .hbm, ⟨29, _⟩ => ⟨S2x4096x4096, .i32⟩
  | .hbm, ⟨30, _⟩ => ⟨S2x4096x6, .i32⟩
  | .hbm, ⟨31, _⟩ => ⟨S1x4096x3, .f32⟩
  | .hbm, ⟨32, _⟩ => ⟨S4096x3, .f32⟩
  | .hbm, ⟨33, _⟩ => ⟨S_, .i32⟩
  | .hbm, ⟨34, _⟩ => ⟨S2x4096x6, .i32⟩
  | .hbm, ⟨35, _⟩ => ⟨S2x4096x6, .i1⟩
  | .hbm, ⟨36, _⟩ => ⟨S_, .i32⟩
  | .hbm, ⟨37, _⟩ => ⟨S2x4096x6, .i32⟩
  | .hbm, ⟨38, _⟩ => ⟨S2x4096x6, .i32⟩
  | .hbm, ⟨39, _⟩ => ⟨S2x4096x6, .i32⟩
  | .hbm, ⟨40, _⟩ => ⟨S2x4096x6x1, .i32⟩
  | .hbm, ⟨41, _⟩ => ⟨S1, .i32⟩
  | .hbm, ⟨42, _⟩ => ⟨S_, .i32⟩
  | .hbm, ⟨43, _⟩ => ⟨S2x4096x6x1, .i32⟩
  | .hbm, ⟨44, _⟩ => ⟨S2x4096x6x1, .i1⟩
  | .hbm, ⟨45, _⟩ => ⟨S1x1x1x1, .i32⟩
  | .hbm, ⟨46, _⟩ => ⟨S2x4096x6x1, .i32⟩
  | .hbm, ⟨47, _⟩ => ⟨S2x4096x6x1, .i1⟩
  | .hbm, ⟨48, _⟩ => ⟨S2x4096x6x1, .i1⟩
  | .hbm, ⟨49, _⟩ => ⟨S_, .i1⟩
  | .hbm, ⟨50, _⟩ => ⟨S2x4096x6, .i1⟩
  | .hbm, ⟨51, _⟩ => ⟨S2x4096x6x3, .f32⟩
  | .hbm, ⟨52, _⟩ => ⟨S2x4096x6x3, .i1⟩
  | .hbm, ⟨53, _⟩ => ⟨S_, .f32⟩
  | .hbm, ⟨54, _⟩ => ⟨S2x4096x6x3, .f32⟩
  | .hbm, ⟨55, _⟩ => ⟨S2x4096x6x3, .f32⟩
  | .hbm, ⟨56, _⟩ => ⟨S2x4096x1x3, .f32⟩
  | .hbm, ⟨57, _⟩ => ⟨S2x4096x6x3, .f32⟩
  | .hbm, ⟨58, _⟩ => ⟨S2x4096x6x3, .f32⟩
  | .hbm, ⟨59, _⟩ => ⟨S2x4096x6x128, .f32⟩
  | .hbm, ⟨60, _⟩ => ⟨S1x1x1x128, .f32⟩
  | .hbm, ⟨61, _⟩ => ⟨S2x4096x6x128, .f32⟩
  | .hbm, ⟨62, _⟩ => ⟨S2x4096x6x128, .f32⟩
  | .hbm, ⟨63, _⟩ => ⟨S2x4096x1x128, .f32⟩
  | .hbm, ⟨64, _⟩ => ⟨S2x4096x7x128, .f32⟩
  | .hbm, ⟨65, _⟩ => ⟨S2x4096x7x128, .f32⟩
  | .hbm, ⟨66, _⟩ => ⟨S1x1x1x128, .f32⟩
  | .hbm, ⟨67, _⟩ => ⟨S2x4096x7x128, .f32⟩
  | .hbm, ⟨68, _⟩ => ⟨S2x4096x7x128, .f32⟩
  | .hbm, ⟨69, _⟩ => ⟨S_, .f32⟩
  | .hbm, ⟨70, _⟩ => ⟨S2x4096x128, .f32⟩
  | .hbm, ⟨71, _⟩ => ⟨S2x128, .f32⟩
  | .hbm, ⟨72, _⟩ => ⟨S1x128, .f32⟩
  | .hbm, ⟨73, _⟩ => ⟨S2x128, .f32⟩
  | .hbm, ⟨74, _⟩ => ⟨S2x128, .f32⟩
  | .hbm, ⟨75, _⟩ => ⟨S2x1x128, .f32⟩
  | .hbm, ⟨76, _⟩ => ⟨S2x4097x128, .f32⟩
  | .hbm, ⟨77, _⟩ => ⟨S_, .f32⟩
  | .hbm, ⟨78, _⟩ => ⟨S2x128, .f32⟩
  | .hbm, ⟨79, _⟩ => ⟨S_, .f32⟩
  | .hbm, ⟨80, _⟩ => ⟨S2x128, .f32⟩
  | .hbm, ⟨81, _⟩ => ⟨S2x128, .f32⟩
  | _, _ => ⟨S2x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_v12 : Ref sig .tc := ⟨.hbm, 26, rfl⟩
abbrev main_call1_v0 : Ref sig .tc := ⟨.hbm, 27, rfl⟩
abbrev main_call1_v1_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_0 : Ref sig .tc := ⟨.hbm, 77, rfl⟩
abbrev main_v38 : Ref sig .tc := ⟨.hbm, 78, rfl⟩
abbrev main_cst_1 : Ref sig .tc := ⟨.hbm, 79, rfl⟩
abbrev main_v39 : Ref sig .tc := ⟨.hbm, 80, rfl⟩
abbrev main_v40 : Ref sig .tc := ⟨.hbm, 81, rfl⟩

abbrev nD : Nat := 1
abbrev τ : Topo := Topo.v7x

variable {F : FTy → Type} [FloatOps F]
-- ==== Proof.Body.lean ====
/-
  The vector subcore's kernel written once per group of sixteen queries. The printed body repeats the same text for
  seven groups: the scan over the 4096 candidates, which keeps the five nearest in order, then the sums of the six
  selected nodes' coordinates. `group` is that text for a group starting at row `o`, and `tileBody` is the seven in-copies,
  the seven groups and the three out-copies; `body_eq` says that the printed body is `tileBody`.
-/
module

public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-! ## The arrays the subcore's kernel names -/

/-- The call's operands: the nodes' first coordinates, -/
abbrev qxA : Memref sig .scVector .hbm S3584 .f32 := Memref.whole main_v10_scv
/-- their second coordinates, -/
abbrev qyA : Memref sig .scVector .hbm S3584 .f32 := Memref.whole main_v12_scv
/-- the candidates' first coordinates, -/
abbrev cxA : Memref sig .scVector .hbm S4096 .f32 := Memref.whole main_v14_scv
/-- their second coordinates, -/
abbrev cyA : Memref sig .scVector .hbm S4096 .f32 := Memref.whole main_v16_scv
/-- the first table, -/
abbrev p0A : Memref sig .scVector .hbm S4096 .f32 := Memref.whole main_v18_scv
/-- the second, -/
abbrev p1A : Memref sig .scVector .hbm S4096 .f32 := Memref.whole main_v20_scv
/-- the third; -/
abbrev p2A : Memref sig .scVector .hbm S4096 .f32 := Memref.whole main_v22_scv
/-- its results: the first sum, -/
abbrev o0A : Memref sig .scVector .hbm S3584 .f32 := Memref.whole main_v23_0_scv
/-- the second, -/
abbrev o1A : Memref sig .scVector .hbm S3584 .f32 := Memref.whole main_v23_1_scv
/-- the third. -/
abbrev o2A : Memref sig .scVector .hbm S3584 .f32 := Memref.whole main_v23_2_scv
/-- A tile's scratch arrays, in the same order. -/
abbrev qxS : Memref sig .scVector .vmem S112 .f32 := Memref.whole cc0_scratch0
/-- The nodes' second coordinates. -/
abbrev qyS : Memref sig .scVector .vmem S112 .f32 := Memref.whole cc0_scratch1
/-- The candidates' first coordinates. -/
abbrev cxS : Memref sig .scVector .vmem S4096 .f32 := Memref.whole cc0_scratch2
/-- Their second coordinates. -/
abbrev cyS : Memref sig .scVector .vmem S4096 .f32 := Memref.whole cc0_scratch3
/-- The first table. -/
abbrev p0S : Memref sig .scVector .vmem S4096 .f32 := Memref.whole cc0_scratch4
/-- The second. -/
abbrev p1S : Memref sig .scVector .vmem S4096 .f32 := Memref.whole cc0_scratch5
/-- The third. -/
abbrev p2S : Memref sig .scVector .vmem S4096 .f32 := Memref.whole cc0_scratch6
/-- The first sum. -/
abbrev s0S : Memref sig .scVector .vmem S112 .f32 := Memref.whole cc0_scratch7
/-- The second. -/
abbrev s1S : Memref sig .scVector .vmem S112 .f32 := Memref.whole cc0_scratch8
/-- The third. -/
abbrev s2S : Memref sig .scVector .vmem S112 .f32 := Memref.whole cc0_scratch9

/-! ## One candidate's step of the scan -/

/-- What the scan carries: the five least squared distances so far, in order, and the five candidates they belong to. -/
abbrev Carry (F : FTy → Type) [FloatOps F] : Type :=
  FVec F S16 .f32 × FVec F S16 .f32 × FVec F S16 .f32 × FVec F S16 .f32 × FVec F S16 .f32
    × IVec S16 32 × IVec S16 32 × IVec S16 32 × IVec S16 32 × IVec S16 32

/-- The squared distance of the candidate from each lane's query, infinite where the candidate is the query itself. -/
def masked (xi yi : Vec F S16 .f32) (slf jv : IVec S16 32) (cx cy : Vec F S16 .f32) : FVec F S16 .f32 :=
  select (cmpi .eq jv slf) (broadcast S16 (Scalar.ofBits .f32 0x7F800000#32))
    (addf (mulf (subf cx xi) (subf cx xi)) (mulf (subf cy yi) (subf cy yi)))

/-- One candidate inserted in the order of the five kept. -/
def insert5 (d : FVec F S16 .f32) (jv : IVec S16 32) (s : Carry F) : Carry F :=
  let c1 := cmpf .olt d s.1
  let c2 := cmpf .olt d s.2.1
  let c3 := cmpf .olt d s.2.2.1
  let c4 := cmpf .olt d s.2.2.2.1
  let c5 := cmpf .olt d s.2.2.2.2.1
  (select c1 d s.1, select c2 (select c1 s.1 d) s.2.1, select c3 (select c2 s.2.1 d) s.2.2.1,
    select c4 (select c3 s.2.2.1 d) s.2.2.2.1, select c5 (select c4 s.2.2.2.1 d) s.2.2.2.2.1,
    select c1 jv s.2.2.2.2.2.1, select c2 (select c1 s.2.2.2.2.2.1 jv) s.2.2.2.2.2.2.1,
    select c3 (select c2 s.2.2.2.2.2.2.1 jv) s.2.2.2.2.2.2.2.1,
    select c4 (select c3 s.2.2.2.2.2.2.2.1 jv) s.2.2.2.2.2.2.2.2.1,
    select c5 (select c4 s.2.2.2.2.2.2.2.2.1 jv) s.2.2.2.2.2.2.2.2.2)

/-- Where the scan starts: nothing kept, every distance infinite. -/
def carry0 : Carry F :=
  (broadcast S16 (Scalar.ofBits .f32 0x7F800000#32), broadcast S16 (Scalar.ofBits .f32 0x7F800000#32),
    broadcast S16 (Scalar.ofBits .f32 0x7F800000#32), broadcast S16 (Scalar.ofBits .f32 0x7F800000#32),
    broadcast S16 (Scalar.ofBits .f32 0x7F800000#32), broadcast S16 0#32, broadcast S16 0#32, broadcast S16 0#32,
    broadcast S16 0#32, broadcast S16 0#32)

/-- The sum of six gathered vectors, from zero, in the kernel's order. -/
def sum6 (a b c d e f : Vec F S16 .f32) : FVec F S16 .f32 :=
  addf (addf (addf (addf (addf (addf (broadcast S16 (Scalar.ofBits .f32 0x00000000#32)) a) b) c) d) e) f

/-! ## A group of sixteen queries -/

section
variable (i : grid0.Coords)

/-- One trip of the scan: the candidate's coordinates gathered, the candidate inserted. -/
def trip (xi yi : Vec F S16 .f32) (slf : IVec S16 32) : Fin k0_t1_loop.trips → Carry F →
    Prog (TpuEff nD τ sig (Elt F) Λ₀ (.scVector ((i 0).castLE hcore0) ((i 1).castLE hsub0))) (Carry F) := fun t s => do
  let jv : IVec S16 32 := broadcast S16 (Scf.iv 0#32 1#32 t)
  have hw : k0_chk1 jv := (← Prog.lift (TpuEff.assume (k0_chk1 jv) (k0_chk1.dec jv))).down
  let cx : Vec F S16 .f32 ← SparseCore.vectorLoadIdx cxS ![jv] (k0_idx1_inb jv hw) (View.loads_vmem h_S4096)
  let cy : Vec F S16 .f32 ← SparseCore.vectorLoadIdx cyS ![jv] (k0_idx2_inb jv hw) (View.loads_vmem h_S4096)
  pure (insert5 (masked xi yi slf jv cx cy) jv s)

/-- A gather of sixteen words of a table at the lanes' positions, checked to be in the table. -/
def gather (T : Memref sig .scVector .vmem S4096 .f32) (v : IVec S16 32) (h : k0_chk2 v) :
    Prog (TpuEff nD τ sig (Elt F) Λ₀ (.scVector ((i 0).castLE hcore0) ((i 1).castLE hsub0))) (Vec F S16 .f32) :=
  SparseCore.vectorLoadIdx T ![v] (k0_idx3_inb v h) (View.loads_vmem h_S4096)

/-- Rows `o … o + 15` of a scratch row buffer. -/
abbrev rows (o : ℕ) (ho : ∀ a, (![o] : Fin 1 → ℕ) a + S16.size a ≤ S112.size a) : Rect S112 :=
  Rect.unit (s := S112) ![o] S16.size ho

/-- The group of the queries at rows `o … o + 15`: their coordinates read, the scan, the six selected nodes' coordinates
    summed and stored. -/
def group (o : ℕ) (ho : ∀ a, (![o] : Fin 1 → ℕ) a + S16.size a ≤ S112.size a) (slf : IVec S16 32) :
    Prog (TpuEff nD τ sig (Elt F) Λ₀ (.scVector ((i 0).castLE hcore0) ((i 1).castLE hsub0))) PUnit := do
  let xi : Vec F S16 .f32 ← Prog.lift (.load qxS (rows o ho).toLoadRect (View.loadsAt_vmem h_S16))
  let yi : Vec F S16 .f32 ← Prog.lift (.load qyS (rows o ho).toLoadRect (View.loadsAt_vmem h_S16))
  have h0 : k0_chk2 slf := (← Prog.lift (TpuEff.assume (k0_chk2 slf) (k0_chk2.dec slf))).down
  let r ← Scf.Loop.for k0_t1_loop k0_t1_ok (carry0 (F := F)) (trip i xi yi slf)
  have h5 : k0_chk2 r.2.2.2.2.2.2.2.2.2 := (← Prog.lift (TpuEff.assume (k0_chk2 r.2.2.2.2.2.2.2.2.2) (k0_chk2.dec r.2.2.2.2.2.2.2.2.2))).down
  have h4 : k0_chk2 r.2.2.2.2.2.2.2.2.1 := (← Prog.lift (TpuEff.assume (k0_chk2 r.2.2.2.2.2.2.2.2.1) (k0_chk2.dec r.2.2.2.2.2.2.2.2.1))).down
  have h3 : k0_chk2 r.2.2.2.2.2.2.2.1 := (← Prog.lift (TpuEff.assume (k0_chk2 r.2.2.2.2.2.2.2.1) (k0_chk2.dec r.2.2.2.2.2.2.2.1))).down
  have h2 : k0_chk2 r.2.2.2.2.2.2.1 := (← Prog.lift (TpuEff.assume (k0_chk2 r.2.2.2.2.2.2.1) (k0_chk2.dec r.2.2.2.2.2.2.1))).down
  have h1 : k0_chk2 r.2.2.2.2.2.1 := (← Prog.lift (TpuEff.assume (k0_chk2 r.2.2.2.2.2.1) (k0_chk2.dec r.2.2.2.2.2.1))).down
  let a0 : Vec F S16 .f32 ← gather i p0S slf h0
  let b0 : Vec F S16 .f32 ← gather i p1S slf h0
  let c0 : Vec F S16 .f32 ← gather i p2S slf h0
  let a1 : Vec F S16 .f32 ← gather i p0S r.2.2.2.2.2.1 h1
  let b1 : Vec F S16 .f32 ← gather i p1S r.2.2.2.2.2.1 h1
  let c1 : Vec F S16 .f32 ← gather i p2S r.2.2.2.2.2.1 h1
  let a2 : Vec F S16 .f32 ← gather i p0S r.2.2.2.2.2.2.1 h2
  let b2 : Vec F S16 .f32 ← gather i p1S r.2.2.2.2.2.2.1 h2
  let c2 : Vec F S16 .f32 ← gather i p2S r.2.2.2.2.2.2.1 h2
  let a3 : Vec F S16 .f32 ← gather i p0S r.2.2.2.2.2.2.2.1 h3
  let b3 : Vec F S16 .f32 ← gather i p1S r.2.2.2.2.2.2.2.1 h3
  let c3 : Vec F S16 .f32 ← gather i p2S r.2.2.2.2.2.2.2.1 h3
  let a4 : Vec F S16 .f32 ← gather i p0S r.2.2.2.2.2.2.2.2.1 h4
  let b4 : Vec F S16 .f32 ← gather i p1S r.2.2.2.2.2.2.2.2.1 h4
  let c4 : Vec F S16 .f32 ← gather i p2S r.2.2.2.2.2.2.2.2.1 h4
  let a5 : Vec F S16 .f32 ← gather i p0S r.2.2.2.2.2.2.2.2.2 h5
  let b5 : Vec F S16 .f32 ← gather i p1S r.2.2.2.2.2.2.2.2.2 h5
  let c5 : Vec F S16 .f32 ← gather i p2S r.2.2.2.2.2.2.2.2.2 h5
  let _ : Vec F S16 .f32 ← Prog.lift (.load s0S (rows o ho).toLoadRect (View.loadsAt_vmem h_S16))
  Prog.lift (.store s0S (rows o ho) (sum6 a0 a1 a2 a3 a4 a5) Finset.univ (View.stores_vmem_bits_univ h_S16 rfl) (.inl rfl))
  let _ : Vec F S16 .f32 ← Prog.lift (.load s1S (rows o ho).toLoadRect (View.loadsAt_vmem h_S16))
  Prog.lift (.store s1S (rows o ho) (sum6 b0 b1 b2 b3 b4 b5) Finset.univ (View.stores_vmem_bits_univ h_S16 rfl) (.inl rfl))
  let _ : Vec F S16 .f32 ← Prog.lift (.load s2S (rows o ho).toLoadRect (View.loadsAt_vmem h_S16))
  Prog.lift (.store s2S (rows o ho) (sum6 c0 c1 c2 c3 c4 c5) Finset.univ (View.stores_vmem_bits_univ h_S16 rfl) (.inl rfl))

/-- The first of the tile's 112 query rows. -/
def tileRow : BitVec 32 :=
  Scalar.muli (Scalar.addi (Scalar.muli (BitVec.ofNat 32 (i 1).val) 2#32) (BitVec.ofNat 32 (i 0).val)) 112#32

/-- The nodes the group at row `o` stands for: the tile's rows come after the first 512 nodes. -/
def selfVec (o : BitVec 32) : IVec S16 32 :=
  addi (broadcast S16 (Scalar.addi (Scalar.addi 512#32 (tileRow i)) o)) (iota .scVector S16 32 [0] iota_S16_d0_w32_scVector)

/-- The tile's 112 entries of a query array, and of a result array. -/
abbrev inRect : Rect S3584 := Rect.unit (s := S3584) (k0_off1 i) S112.size (k0_off1_inb i)
/-- A tile's share of a result. -/
abbrev outRect : Rect S3584 := Rect.unit (s := S3584) (k0_off2 i) S112.size (k0_off2_inb i)

/-- A copy into the tile and the wait for it. -/
def copyIn {s : Shape} (A : Memref sig .scVector .hbm s .f32) (hA : A.view.WordExact) (B : Memref sig .scVector .vmem s .f32)
    (hB : B.view.WordExact) (c : DmaSems sig S_) :
    Prog (TpuEff nD τ sig (Elt F) Λ₀ (.scVector ((i 0).castLE hcore0) ((i 1).castLE hsub0))) PUnit := do
  Prog.lift (.enqueueDma A (.here B) (.dma c.sem) hA hB ⟨Or.inl rfl, trivial⟩)
  Prog.lift (.waitDma2 c.sem A B hA hB)

/-- A copy out of the tile and the wait for it. -/
def copyOut (A : Memref sig .scVector .vmem S112 .f32) (hA : A.view.WordExact) (B : Memref sig .scVector .hbm S112 .f32)
    (hB : B.view.WordExact) (c : DmaSems sig S_) :
    Prog (TpuEff nD τ sig (Elt F) Λ₀ (.scVector ((i 0).castLE hcore0) ((i 1).castLE hsub0))) PUnit := do
  Prog.lift (.enqueueDma A (.here B) (.dma c.sem) hA hB ⟨Or.inl rfl, trivial⟩)
  Prog.lift (.waitDma2 c.sem A B hA hB)

/-- The tile's kernel: the in-copies, seven groups, the out-copies. -/
def tileBody : Prog (TpuEff nD τ sig (Elt F) Λ₀ (.scVector ((i 0).castLE hcore0) ((i 1).castLE hsub0))) PUnit := do
  copyIn i (qxA.slice (inRect i) (fun _ => rfl)) (View.wordExact_bits rfl) qxS (Memref.isWhole_whole _).wordExact cc0_scoped0
  copyIn i (qyA.slice (inRect i) (fun _ => rfl)) (View.wordExact_bits rfl) qyS (Memref.isWhole_whole _).wordExact cc0_scoped1
  copyIn i cxA (Memref.isWhole_whole _).wordExact cxS (Memref.isWhole_whole _).wordExact cc0_scoped2
  copyIn i cyA (Memref.isWhole_whole _).wordExact cyS (Memref.isWhole_whole _).wordExact cc0_scoped3
  copyIn i p0A (Memref.isWhole_whole _).wordExact p0S (Memref.isWhole_whole _).wordExact cc0_scoped4
  copyIn i p1A (Memref.isWhole_whole _).wordExact p1S (Memref.isWhole_whole _).wordExact cc0_scoped5
  copyIn i p2A (Memref.isWhole_whole _).wordExact p2S (Memref.isWhole_whole _).wordExact cc0_scoped6
  group i 0 inb_S112_S16_0 (selfVec i 0#32)
  group i 16 inb_S112_S16_16 (selfVec i 16#32)
  group i 32 inb_S112_S16_32 (selfVec i 32#32)
  group i 48 inb_S112_S16_48 (selfVec i 48#32)
  group i 64 inb_S112_S16_64 (selfVec i 64#32)
  group i 80 inb_S112_S16_80 (selfVec i 80#32)
  group i 96 inb_S112_S16_96 (selfVec i 96#32)
  copyOut i s0S (Memref.isWhole_whole _).wordExact (o0A.slice (outRect i) (fun _ => rfl)) (View.wordExact_bits rfl) cc0_scoped7
  copyOut i s1S (Memref.isWhole_whole _).wordExact (o1A.slice (outRect i) (fun _ => rfl)) (View.wordExact_bits rfl) cc0_scoped8
  copyOut i s2S (Memref.isWhole_whole _).wordExact (o2A.slice (outRect i) (fun _ => rfl)) (View.wordExact_bits rfl) cc0_scoped9

omit [FloatOps F] in
/-- Two programs that start with the same operation and go on alike are the same. -/
theorem op_congr.{v} {E : Type → Type v} {α β : Type} {e : E β} {k k' : β → Prog E α} (h : ∀ x, k x = k' x) : Prog.op e k = Prog.op e k' :=
  congrArg (Prog.op e) (funext h)

omit [FloatOps F] in
/-- Two programs that start with the same part, however their continuations are bracketed, and go on alike are the same. -/
theorem loop_congr.{v} {E : Type → Type v} {α β β' γ δ : Type} {p p' : Prog E α} (hp : p = p') {k1 : α → Prog E β} {k2 : β → Prog E γ}
    {k3 : γ → Prog E δ} {k1' : α → Prog E β'} {k2' : β' → Prog E δ} (h : ∀ x, ((k1 x).bind k2).bind k3 = (k1' x).bind k2') :
    ((p.bind k1).bind k2).bind k3 = (p'.bind k1').bind k2' := by
  subst hp
  refine (congrArg (·.bind k3) (Prog.bind_assoc p k1 k2)).trans ((Prog.bind_assoc p _ k3).trans ?_)
  exact (congrArg p.bind (funext h)).trans (Prog.bind_assoc p k1' k2').symm

set_option maxRecDepth 65536 in
set_option maxHeartbeats 4000000 in
/-- The printed body is `tileBody`: the same operations in the same order. -/
theorem body_eq :
    cc0_body (F := F) i qxA (Memref.isWhole_whole _) qyA (Memref.isWhole_whole _) cxA (Memref.isWhole_whole _) cyA (Memref.isWhole_whole _)
        p0A (Memref.isWhole_whole _) p1A (Memref.isWhole_whole _) p2A (Memref.isWhole_whole _) o0A (Memref.isWhole_whole _)
        o1A (Memref.isWhole_whole _) o2A (Memref.isWhole_whole _) qxS (Memref.isWhole_whole _) qyS (Memref.isWhole_whole _)
        cxS (Memref.isWhole_whole _) cyS (Memref.isWhole_whole _) p0S (Memref.isWhole_whole _) p1S (Memref.isWhole_whole _)
        p2S (Memref.isWhole_whole _) s0S (Memref.isWhole_whole _) s1S (Memref.isWhole_whole _) s2S (Memref.isWhole_whole _)
        cc0_scoped0 cc0_scoped1 cc0_scoped2 cc0_scoped3 cc0_scoped4 cc0_scoped5 cc0_scoped6 cc0_scoped7 cc0_scoped8 cc0_scoped9
      = tileBody (F := F) i := by
  rw [cc0_body_eq_skeleton]
  iterate 7
    repeat refine op_congr fun _ => ?_
    refine loop_congr (p := Scf.Loop.for _ _ _ _) (p' := Scf.Loop.for k0_t1_loop k0_t1_ok carry0 (trip i _ _ _)) rfl
      fun ⟨_, _, _, _, _, _, _, _, _, _⟩ => ?_
  repeat refine op_congr fun _ => ?_
  rfl

end

end Cert.Proof
-- ==== Proof.Setup.lean ====
/-
  The program as the launch theorem sees it, and the resource algebra of the proof: the handshakes of the SparseCore call,
  the pipelines of the two TensorCore calls, and the counters of the tiles' local copies, side by side.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Body
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-- The labels of the program's calls. -/
abbrev ΛP : Labels := Pipeline.Sig Λ₀ (Fin 2) fun p => (pcfgs (F := F) p).Adm
/-- The SparseCore call's configuration. -/
abbrev K : SparseCore.Cfg τ sig (ΛP (F := F)) 1 := sc (F := F)
/-- The SparseCore call runs on sixteen subcores -/
theorem nSub_zero : (K (F := F)).nSub 0 = 16 := rfl
/-- of two cores. -/
theorem nCore_zero : (K (F := F)).nCore 0 = 2 := rfl
/-- The program's definitions below the SparseCore call. -/
abbrev D [FloatOps F] : Defs nD τ sig (Elt F) (ΛP (F := F)) := Pipeline.defs pcfgs defs₀
/-- The program's loops have no variants. -/
abbrev 𝒱₀ : Variants := Variants.none
/-- Nor has the launched program. -/
abbrev 𝒱 : Variants := 𝒱₀.lift
/-- The variant everything starts from. -/
abbrev v₀ : 𝒱.V := Sum.inl none

/-- What the launch theorem asks of the configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := URounds (GSem nD τ sig) Unit
/-- The ghost state: the launch's, the pipelines' and the counters. -/
abbrev UU : Type := UH × (UP × Counters)

/-- The proof's resources. -/
abbrev Res (F : FTy → Type) : Type := MT nD τ sig (HIx 1) (Elt F) ℕ UU ℕ

/-- The launch's part of the resources. -/
abbrev EH : Emb UH (MT nD τ sig (HIx 1) (Elt F) ℕ UU ℕ) := embL
/-- The pipelines' part of the resources. -/
abbrev EP : Emb UP (MT nD τ sig (HIx 1) (Elt F) ℕ UU ℕ) :=
  (Emb.inl : Emb UP (UP × Counters)).trans (embR (A := UH) (B := UP × Counters))

end Cert.Proof
-- ==== Proof.Whole.lean ====
/-
  A load and a store of a whole buffer in vector memory, over what the buffer reads.
-/
module

public import proofs.«01_k».proof.Proof.Setup
public import Idealize.ShloMosaic.Lib.Pipeline.Value

@[expose] public section

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.Sem Idealize.SL.ProofMode

variable {F : FTy → Type} [FloatOps F] [∀ e, Nonempty (Elt F e)]

local notation "𝕄" => Res F

/-- Reading a view through the rectangle that covers it is reading the view. -/
theorem readAt_all {sp : Space} {s : Shape} {e : EltTy} (v : View sig .tc sp s e) {off : Fin s.rank → ℕ} (h0 : off = fun _ => 0)
    (inb : ∀ a, off a + s.size a ≤ s.size a) (f : v.ty.Contents (Elt F)) :
    v.readAt (Elt F) (Rect.unit off s.size inb).toLoadRect f = v.read (Elt F) f := by
  rw [View.readAt_eq_ld]; exact View.ld_unit_zero (S := s) h0 inb _

/-- Writing the whole of a view leaves what was written. -/
theorem write_all {sp : Space} {s : Shape} {e : EltTy} (v : View sig .tc sp s e) {off : Fin s.rank → ℕ} (h0 : off = fun _ => 0)
    (inb : ∀ a, off a + s.size a ≤ s.size a) (f : v.ty.Contents (Elt F)) (w : s.Idx → Elt F e) :
    v.read (Elt F) ((v.slice (Rect.unit off s.size inb)).write (Elt F) f w Finset.univ) = w := by
  have h := View.read_write_univ (v := v.slice (Rect.unit off s.size inb)) f w
  rw [← readAt_all v h0 inb]
  exact h

variable (c : Dev nD)

/-- The weakest precondition of a TensorCore call's body. -/
abbrev wpB {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A load of all of a buffer continues at what the buffer reads. -/
theorem wp_loadAll {α : Type} {s : Shape} {e : EltTy} (M : Memref sig .tc .vmem s e) {off : Fin s.rank → ℕ} (h0 : off = fun _ => 0)
    (inb : ∀ a, off a + s.size a ≤ s.size a) {hl} (X : s.Idx → Elt F e) (k : (s.Idx → Elt F e) → Prog (TpuEff nD τ sig (Elt F) Λ₀ .tc) α)
    (Q : α → sProp 𝕄) :
    owns (c : Thread nD τ) M fullShare X
      ⊢ iprop((owns (c : Thread nD τ) M fullShare X -∗ wpB c (k X) Q)
        -∗ wpB c (.op (.load M (Rect.unit off s.size inb).toLoadRect hl) k) Q) := by
  unfold owns wpB
  iintro ⟨%f, %hf, H⟩
  iintro Hk
  iapply (wp_load 𝒱₀ (c : Thread nD τ) none Set.univ (m := M) (S := M.view.set) (View.setOn_subset_set _ _)) $$ H
  iintro H
  rw [readAt_all M.view h0 inb f, hf]
  iapply Hk
  iexists f
  isplitr; · ipureintro; exact hf
  iexact H

/-- A store of all of a buffer leaves it reading what was stored. -/
theorem wp_storeAll {α : Type} {s : Shape} {e : EltTy} (M : Memref sig .tc .vmem s e) {off : Fin s.rank → ℕ} (h0 : off = fun _ => 0)
    (inb : ∀ a, off a + s.size a ≤ s.size a) (w : s.Idx → Elt F e) {hx hm} (X : s.Idx → Elt F e)
    (k : PUnit → Prog (TpuEff nD τ sig (Elt F) Λ₀ .tc) α) (Q : α → sProp 𝕄) :
    owns (c : Thread nD τ) M fullShare X
      ⊢ iprop((owns (c : Thread nD τ) M fullShare w -∗ wpB c (k ⟨⟩) Q)
        -∗ wpB c (.op (.store M (Rect.unit off s.size inb) w Finset.univ hx hm) k) Q) := by
  unfold owns wpB
  iintro ⟨%f, -, H⟩
  iintro Hk
  iapply (wp_store 𝒱₀ (c : Thread nD τ) none Set.univ (m := M) (r := Rect.unit off s.size inb) (S := M.view.set)
    ((View.setOn_subset_set _ _).trans (View.set_slice_subset _ _))) $$ H
  iintro H
  iapply Hk
  iexists _
  isplitr
  swap; · iexact H
  ipureintro; exact write_all M.view h0 inb f w

end Cert.Proof
-- ==== Proof.Tail.lean ====
/-
  The second TensorCore call (the rows whose neighbour sums the SparseCore delivers): what its body does at one point, the
  data of its pipeline, and its body obligation.
-/
module

public import proofs.«01_k».proof.Proof.Whole
public import Idealize.ShloMosaic.Lib.Pipeline.Frame

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat Cfg Window BodyObligation heldIn)
open Idealize.SL Idealize.SL.RA Idealize.SL.BI
open scoped Idealize.SL.BI
open Idealize.SL.BI.BIBase Idealize.SL.BI.Laws Idealize.SL.Sem Idealize.SL.ProofMode

variable {F : FTy → Type} [FloatOps F] [∀ e, Nonempty (Elt F e)]

local notation "𝕄" => Res F

/-- Two zeros. -/
theorem zero2 : (![0, 0] : Fin 2 → ℕ) = fun _ => 0 := funext fun a => by fin_cases a <;> rfl
/-- Three zeros. -/
theorem zero3 : (![0, 0, 0] : Fin 3 → ℕ) = fun _ => 0 := funext fun a => by fin_cases a <;> rfl

/-- The point of a number. -/
def tailAt (n : Fin 14) : grid2.Coords := fun a => match a with
  | ⟨0, _⟩ => n

/-- Exactly one of the two conditions on the point holds: it is the first, or it is not. -/
theorem tail_conds (i : grid2.Coords) : (k2_cond1 i = 1#1 ∧ ¬k2_cond2 i = 1#1) ∨ (¬k2_cond1 i = 1#1 ∧ k2_cond2 i = 1#1) := by
  have h : ∀ n : Fin 14, (k2_cond1 (tailAt n) = 1#1 ∧ ¬k2_cond2 (tailAt n) = 1#1)
      ∨ (¬k2_cond1 (tailAt n) = 1#1 ∧ k2_cond2 (tailAt n) = 1#1) := by decide +kernel
  have hi : i = tailAt (i 0) := funext fun a => by fin_cases a; rfl
  rw [hi]; exact h (i 0)

variable (c : Dev nD)

/-- What the body leaves of the running row sum: the block's row sum at the first point, added to what was there elsewhere. -/
def tailSum (i : grid2.Coords) (r acc : Vec F S1x128 .f32) : Vec F S1x128 .f32 :=
  if k2_cond1 i = 1#1 then r else k2_pay1 r acc

/-- The body at one point: the block of results and the running row sum, from the blocks it reads. -/
theorem tail_body (i : grid2.Coords)
    (a1 : Memref sig .tc .vmem S256x3 .f32) (h1 : a1.IsWhole) (a2 : Memref sig .tc .vmem S256x3 .f32) (h2 : a2.IsWhole)
    (a3 : Memref sig .tc .vmem S3x128 .f32) (h3 : a3.IsWhole) (a4 : Memref sig .tc .vmem S1x128 .f32) (h4 : a4.IsWhole)
    (a5 : Memref sig .tc .vmem S3x128 .f32) (h5 : a5.IsWhole) (a6 : Memref sig .tc .vmem S1x128 .f32) (h6 : a6.IsWhole)
    (a7 : Memref sig .tc .vmem S128x128 .f32) (h7 : a7.IsWhole) (a8 : Memref sig .tc .vmem S1x128 .f32) (h8 : a8.IsWhole)
    (a9 : Memref sig .tc .vmem S256x128 .f32) (h9 : a9.IsWhole) (a10 : Memref sig .tc .vmem S1x128 .f32) (h10 : a10.IsWhole)
    (X1 X2 : Vec F S256x3 .f32) (X3 : Vec F S3x128 .f32) (X4 : Vec F S1x128 .f32) (X5 : Vec F S3x128 .f32) (X6 : Vec F S1x128 .f32)
    (X7 : Vec F S128x128 .f32) (X8 : Vec F S1x128 .f32) (Y9 : Vec F S256x128 .f32) (Y10 : Vec F S1x128 .f32) (Q : PUnit → sProp 𝕄) :
    iprop(owns (c : Thread nD τ) a1 fullShare X1 ∗ owns (c : Thread nD τ) a2 fullShare X2 ∗ owns (c : Thread nD τ) a3 fullShare X3
        ∗ owns (c : Thread nD τ) a4 fullShare X4 ∗ owns (c : Thread nD τ) a5 fullShare X5 ∗ owns (c : Thread nD τ) a6 fullShare X6
        ∗ owns (c : Thread nD τ) a7 fullShare X7 ∗ owns (c : Thread nD τ) a8 fullShare X8 ∗ owns (c : Thread nD τ) a9 fullShare Y9
        ∗ owns (c : Thread nD τ) a10 fullShare Y10
        ∗ (iprop(owns (c : Thread nD τ) a1 fullShare X1 ∗ owns (c : Thread nD τ) a2 fullShare X2 ∗ owns (c : Thread nD τ) a3 fullShare X3
            ∗ owns (c : Thread nD τ) a4 fullShare X4 ∗ owns (c : Thread nD τ) a5 fullShare X5 ∗ owns (c : Thread nD τ) a6 fullShare X6
            ∗ owns (c : Thread nD τ) a7 fullShare X7 ∗ owns (c : Thread nD τ) a8 fullShare X8
            ∗ owns (c : Thread nD τ) a9 fullShare (k2_pay2 X1 X2 X3 X4 X5 X6 X7 X8)
            ∗ owns (c : Thread nD τ) a10 fullShare (tailSum i (k2_pay3 X1 X2 X3 X4 X5 X6 X7 X8) Y10)) -∗ Q ⟨⟩))
      ⊢ wpB c (cc2__tc_tail_body (F := F) i a1 h1 a2 h2 a3 h3 a4 h4 a5 h5 a6 h6 a7 h7 a8 h8 a9 h9 a10 h10) Q := by
  rw [cc2__tc_tail_body_eq_skeleton]
  unfold cc2__tc_tail_body_skel
  rw [k2_part1_eq_skeleton]
  unfold k2_part1_skel
  simp only [bind_assoc, Prog.bind_lift, pure_bind]
  iintro ⟨H1, H2, H3, H4, H5, H6, H7, H8, H9, H10, HQ⟩
  iapply (wp_loadAll c a1 zero2 _ X1 _ Q) $$ H1; iintro H1
  iapply (wp_loadAll c a2 zero2 _ X2 _ Q) $$ H2; iintro H2
  iapply (wp_loadAll c a3 zero2 _ X3 _ Q) $$ H3; iintro H3
  iapply (wp_loadAll c a4 zero2 _ X4 _ Q) $$ H4; iintro H4
  iapply (wp_loadAll c a5 zero2 _ X5 _ Q) $$ H5; iintro H5
  iapply (wp_loadAll c a6 zero2 _ X6 _ Q) $$ H6; iintro H6
  iapply (wp_loadAll c a7 zero2 _ X7 _ Q) $$ H7; iintro H7
  iapply (wp_loadAll c a8 zero2 _ X8 _ Q) $$ H8; iintro H8
  iapply (wp_loadAll c a9 zero2 _ Y9 _ Q) $$ H9; iintro H9
  iapply (wp_storeAll c a9 zero2 _ _ Y9 _ Q) $$ H9; iintro H9
  unfold tailSum
  rcases tail_conds i with ⟨hc1, hc2⟩ | ⟨hc1, hc2⟩
  · simp only [dif_pos hc1, dif_neg hc2, if_pos hc1, bind_assoc, Prog.bind_lift, pure_bind]
    iapply (wp_loadAll c a10 zero2 _ Y10 _ Q) $$ H10; iintro H10
    iapply (wp_storeAll c a10 zero2 _ _ Y10 _ Q) $$ H10; iintro H10
    unfold wpB
    rw [show (Pure.pure PUnit.unit : Prog (TpuEff nD τ sig (Elt F) Λ₀ .tc) PUnit) = Prog.ret ⟨⟩ from rfl, wp_ret]
    imodintro
    iapply HQ
    iframe
  · simp only [dif_neg hc1, dif_pos hc2, if_neg hc1, bind_assoc, Prog.bind_lift, pure_bind]
    iapply (wp_loadAll c a10 zero2 _ Y10 _ Q) $$ H10; iintro H10
    iapply (wp_loadAll c a10 zero2 _ Y10 _ Q) $$ H10; iintro H10
    iapply (wp_storeAll c a10 zero2 _ _ Y10 _ Q) $$ H10; iintro H10
    unfold wpB
    rw [show (Pure.pure PUnit.unit : Prog (TpuEff nD τ sig (Elt F) Λ₀ .tc) PUnit) = Prog.ret ⟨⟩ from rfl, wp_ret]
    imodintro
    iapply HQ
    iframe

/-! ## The pipeline's data -/

variable (V : (b : Ref sig .tc) → Buf (Elt F) ((c : Thread nD τ).loc b))

/-- The arrays of the call's windows at its entry. -/
abbrev tailA (w : Fin cfg2.W) : Buf (Elt F) ((cfg2.win w).arr.view.loc (c : Thread nD τ)) := V (Pipeline.arrRef spec2 w)

/-- What an input window's buffer holds at a point. -/
abbrev tailIn (w : Fin cfg2.W) (t : Fin cfg2.N) : (cfg2.win w).block.Idx → Elt F (cfg2.win w).elt :=
  heldIn cfg2 (tailA c V) w t.val t.isLt

/-- The block of results of a point. -/
def tailF (t : Fin cfg2.N) : Vec F S256x128 .f32 :=
  k2_pay2 (tailIn c V 0 t) (tailIn c V 1 t) (tailIn c V 2 t) (tailIn c V 3 t) (tailIn c V 4 t) (tailIn c V 5 t) (tailIn c V 6 t) (tailIn c V 7 t)

/-- The row sum of a point's block. -/
def tailR (t : Fin cfg2.N) : Vec F S1x128 .f32 :=
  k2_pay3 (tailIn c V 0 t) (tailIn c V 1 t) (tailIn c V 2 t) (tailIn c V 3 t) (tailIn c V 4 t) (tailIn c V 5 t) (tailIn c V 6 t) (tailIn c V 7 t)

/-- The running row sum after a point. -/
def tailAcc : (n : ℕ) → n < cfg2.N → Vec F S1x128 .f32
  | 0, h => tailR c V ⟨0, h⟩
  | n + 1, h => k2_pay1 (tailR c V ⟨n + 1, h⟩) (tailAcc n (Nat.lt_of_succ_lt h))

/-- The pipeline's data: the input windows as fetched, the block of results, the running row sum. -/
def tailDat (b : ℕ) : Dat τ (Elt F) (HIx 1) ℕ UU ℕ cfg2 c where
  A w := tailA c V w
  after w t := match w with
    | ⟨0, _⟩ => tailIn c V 0 t
    | ⟨1, _⟩ => tailIn c V 1 t
    | ⟨2, _⟩ => tailIn c V 2 t
    | ⟨3, _⟩ => tailIn c V 3 t
    | ⟨4, _⟩ => tailIn c V 4 t
    | ⟨5, _⟩ => tailIn c V 5 t
    | ⟨6, _⟩ => tailIn c V 6 t
    | ⟨7, _⟩ => tailIn c V 7 t
    | ⟨8, _⟩ => tailF c V t
    | ⟨9, _⟩ => tailAcc c V t.val t.isLt
  Φ _ := Pipeline.scopedRest spec2 c
  q _ := fullShare
  owed _ := 0
  recorded _ := {p | (K (F := F)).lev ((c : Thread nD τ), p.1) p.2 ≤ b}

/-- No block of the second call overhangs its array. -/
theorem tail_clip (w : Fin cfg2.W) (i) (a) : (cfg2.win w).clip i a = none := by
  fin_cases w <;> rfl

/-- An input window's buffer holds, before the body, what it was last fetched. -/
theorem tail_before_in (b : ℕ) (w : Fin cfg2.W) (hw : (cfg2.win w).isOut = false)
    (hidle : ∀ i, cfg2.idle w i = false) (hafter : ∀ t, (tailDat c V b).after w t = tailIn c V w t) (t : Fin cfg2.N) (d) :
    (tailDat c V b).before w t d = tailIn c V w t :=
  (tailDat c V b).before_eq_heldIn w hw hidle (tail_clip w) hafter t d

/-- The last result's block is used at every point. -/
theorem tail_idle9 : ∀ i : grid2.Coords, cfg2.idle 9 i = false := by
  intro i
  show (!(k2_cond1 i == 1#1) && !(k2_cond2 i == 1#1)) = false
  rcases tail_conds i with ⟨h, -⟩ | ⟨-, h⟩ <;> simp [h]

/-- The first point is the one whose number is zero. -/
theorem tail_cond1 (t : Fin cfg2.N) : k2_cond1 (grid2.coords t) = 1#1 ↔ t.val = 0 := by
  rcases fin_N2 t with rfl | rfl | rfl | rfl | rfl | rfl | rfl | rfl | rfl | rfl | rfl | rfl | rfl | rfl <;> decide +kernel

/-- After the body the running row sum is the next one. -/
theorem tail_acc_step (b : ℕ) (t : Fin cfg2.N) (d) :
    tailSum (grid2.coords t) (tailR c V t) ((tailDat c V b).before 9 t d) = tailAcc c V t.val t.isLt := by
  unfold tailSum
  obtain ⟨n, hn⟩ := t
  cases n with
  | zero => rw [if_pos ((tail_cond1 ⟨0, hn⟩).mpr rfl)]; rfl
  | succ n =>
    have hN : cfg2.N = 14 := N_2
    rw [if_neg (fun h => Nat.succ_ne_zero n ((tail_cond1 ⟨n + 1, hn⟩).mp h)),
      (tailDat c V b).before_out_kept 9 rfl ⟨n + 1, hn⟩ (Nat.succ_ne_zero n)
        (Bool.eq_false_iff.mpr fun h => by have := (flush2_9 _).mp h; dsimp only at this; omega) tail_idle9 (fun _ _ => rfl) d]
    rfl

/-- The call's body obligation. -/
theorem tail_obligation (b : ℕ) : BodyObligation (tailDat c V b) (defs₀ (F := F)) 𝒱₀ none Set.univ := fun t => by
  rw [bigSep_W2, bigSep_W2]
  rw [show (tailDat c V b).Φ t.succ = (tailDat c V b).Φ t.castSucc from rfl,
    show (tailDat c V b).owesAt none t.succ = (tailDat c V b).owesAt none t.castSucc from rfl]
  have hi9 : cfg2.idle 9 (cfg2.grid.coords t) = false := tail_idle9 _
  simp only [hi9]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [tail_before_in c V b 0 rfl (fun _ => rfl) (fun _ => rfl), tail_before_in c V b 1 rfl (fun _ => rfl) (fun _ => rfl),
    tail_before_in c V b 2 rfl (fun _ => rfl) (fun _ => rfl), tail_before_in c V b 3 rfl (fun _ => rfl) (fun _ => rfl),
    tail_before_in c V b 4 rfl (fun _ => rfl) (fun _ => rfl), tail_before_in c V b 5 rfl (fun _ => rfl) (fun _ => rfl),
    tail_before_in c V b 6 rfl (fun _ => rfl) (fun _ => rfl), tail_before_in c V b 7 rfl (fun _ => rfl) (fun _ => rfl)]
  iapply (tail_body c (grid2.coords t) _ _ _ _ _ _ _ _ _ _ _ _ _ _ _ _ _ _ _ _ (tailIn c V 0 t) (tailIn c V 1 t) (tailIn c V 2 t)
    (tailIn c V 3 t) (tailIn c V 4 t) (tailIn c V 5 t) (tailIn c V 6 t) (tailIn c V 7 t) _ _ _)
  iframe
  iintro ⟨H0, H1, H2, H3, H4, H5, H6, H7, H8, H9⟩
  have hstep := tail_acc_step c V b t d9
  unfold tailR at hstep
  rw [hstep]
  have hi9 : idle2 9 (grid2.coords t) = false := tail_idle9 _
  rw [hi9]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof
-- ==== Proof.Head.lean ====
/-
  The first TensorCore call (the rows whose neighbours it finds itself): what its body does at one point, the data of its
  pipeline, and its body obligation.
-/
module

public import proofs.«01_k».proof.Proof.Tail

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat Cfg Window BodyObligation heldIn)
open Idealize.SL Idealize.SL.RA Idealize.SL.BI
open scoped Idealize.SL.BI
open Idealize.SL.BI.BIBase Idealize.SL.BI.Laws Idealize.SL.Sem Idealize.SL.ProofMode

variable {F : FTy → Type} [FloatOps F] [∀ e, Nonempty (Elt F e)]

local notation "𝕄" => Res F

/-- The point of a number. -/
def headAt (n : Fin 18) : grid1.Coords := fun a => match a with
  | ⟨0, _⟩ => n

/-- Exactly one of the two conditions on the point holds: it is the first, or it is not. -/
theorem head_conds (i : grid1.Coords) : (k1_cond1 i = 1#1 ∧ ¬k1_cond2 i = 1#1) ∨ (¬k1_cond1 i = 1#1 ∧ k1_cond2 i = 1#1) := by
  have h : ∀ n : Fin 18, (k1_cond1 (headAt n) = 1#1 ∧ ¬k1_cond2 (headAt n) = 1#1)
      ∨ (¬k1_cond1 (headAt n) = 1#1 ∧ k1_cond2 (headAt n) = 1#1) := by decide +kernel
  have hi : i = headAt (i 0) := funext fun a => by fin_cases a; rfl
  rw [hi]; exact h (i 0)

variable (c : Dev nD)

/-- The hidden layer of a point's rows: their own part and their neighbours'. -/
def headG (i : grid1.Coords) (X1 : Vec F S256x3 .f32) (X2 : Vec F S1x4096x2 .f32) (X3 : Vec F S4096x3 .f32) (X5 : Vec F S3x128 .f32)
    (X6 : Vec F S1x128 .f32) (X7 : Vec F S3x128 .f32) : Vec F S256x128 .f32 :=
  k1_pay16 (k1_pay3 X1) (iota .tc S256x4096 32 [1] iota_S256x4096_d1_w32)
    (k1_pay13 (iota .tc S256x4096 32 [1] iota_S256x4096_d1_w32) (k1_pay5 (F := F) i) (k1_pay6 i X1 X2) (k1_pay7 i X1 X2))
    (k1_pay14 (iota .tc S256x4096 32 [1] iota_S256x4096_d1_w32) (k1_pay6 i X1 X2) (k1_pay7 i X1 X2))
    (k1_pay15 (iota .tc S256x4096 32 [1] iota_S256x4096_d1_w32) (k1_pay6 i X1 X2) (k1_pay7 i X1 X2)) 4096#32 X3 X5 X6 X7

/-- The results of a point's rows. -/
def headF (i : grid1.Coords) (X1 : Vec F S256x3 .f32) (X2 : Vec F S1x4096x2 .f32) (X3 : Vec F S4096x3 .f32) (X5 : Vec F S3x128 .f32)
    (X6 : Vec F S1x128 .f32) (X7 : Vec F S3x128 .f32) (X8 : Vec F S1x128 .f32) (X9 : Vec F S128x128 .f32) (X10 : Vec F S1x128 .f32) :
    Vec F S256x128 .f32 :=
  k1_pay18 (headG i X1 X2 X3 X5 X6 X7) (k1_pay17 X8) X9 X10

/-- The row sums of a point, placed in the row of its batch. -/
def headR (i : grid1.Coords) (X1 : Vec F S256x3 .f32) (X2 : Vec F S1x4096x2 .f32) (X3 : Vec F S4096x3 .f32) (X5 : Vec F S3x128 .f32)
    (X6 : Vec F S1x128 .f32) (X7 : Vec F S3x128 .f32) (X8 : Vec F S1x128 .f32) (X9 : Vec F S128x128 .f32) (X10 : Vec F S1x128 .f32) :
    Vec F S2x128 .f32 :=
  k1_pay19 (BitVec.ofNat 32 (i 0).val) (headG i X1 X2 X3 X5 X6 X7) (k1_pay17 X8) X9 X10

/-- What the body leaves of the depots' rows: computed at the first point, kept elsewhere. -/
def headDep (i : grid1.Coords) (X4 : Vec F S2x2 .f32) (X11 : Vec F S2x128 .f32) (X12 : Vec F S1x128 .f32) (dep : Vec F S2x128 .f32) :
    Vec F S2x128 .f32 :=
  if k1_cond1 i = 1#1 then k1_pay1 X4 X11 X12 else dep

/-- What the body leaves of the running row sums: the point's own at the first point, added to what was there elsewhere. -/
def headSum (i : grid1.Coords) (r acc : Vec F S2x128 .f32) : Vec F S2x128 .f32 :=
  if k1_cond1 i = 1#1 then r else k1_pay2 r acc

/-- The body at one point: the block of results, the depots' rows and the running row sums, from the blocks it reads. -/
theorem head_body (i : grid1.Coords)
    (a1 : Memref sig .tc .vmem S256x3 .f32) (h1 : a1.IsWhole)
    (a2 : Memref sig .tc .vmem S1x4096x2 .f32) (h2 : a2.IsWhole)
    (a3 : Memref sig .tc .vmem S4096x3 .f32) (h3 : a3.IsWhole)
    (a4 : Memref sig .tc .vmem S2x2 .f32) (h4 : a4.IsWhole)
    (a5 : Memref sig .tc .vmem S3x128 .f32) (h5 : a5.IsWhole)
    (a6 : Memref sig .tc .vmem S1x128 .f32) (h6 : a6.IsWhole)
    (a7 : Memref sig .tc .vmem S3x128 .f32) (h7 : a7.IsWhole)
    (a8 : Memref sig .tc .vmem S1x128 .f32) (h8 : a8.IsWhole)
    (a9 : Memref sig .tc .vmem S128x128 .f32) (h9 : a9.IsWhole)
    (a10 : Memref sig .tc .vmem S1x128 .f32) (h10 : a10.IsWhole)
    (a11 : Memref sig .tc .vmem S2x128 .f32) (h11 : a11.IsWhole)
    (a12 : Memref sig .tc .vmem S1x128 .f32) (h12 : a12.IsWhole)
    (a13 : Memref sig .tc .vmem S256x128 .f32) (h13 : a13.IsWhole)
    (a14 : Memref sig .tc .vmem S2x128 .f32) (h14 : a14.IsWhole)
    (a15 : Memref sig .tc .vmem S2x128 .f32) (h15 : a15.IsWhole)
    (X1 : Vec F S256x3 .f32) (X2 : Vec F S1x4096x2 .f32) (X3 : Vec F S4096x3 .f32) (X4 : Vec F S2x2 .f32) (X5 : Vec F S3x128 .f32) (X6 : Vec F S1x128 .f32) (X7 : Vec F S3x128 .f32) (X8 : Vec F S1x128 .f32) (X9 : Vec F S128x128 .f32) (X10 : Vec F S1x128 .f32) (X11 : Vec F S2x128 .f32) (X12 : Vec F S1x128 .f32)
    (Y13 : Vec F S256x128 .f32) (Y14 Y15 : Vec F S2x128 .f32) (Q : PUnit → sProp 𝕄) :
    iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11 ∗ owns (c : Thread nD τ) a12 fullShare X12 ∗ owns (c : Thread nD τ) a13 fullShare Y13 ∗ owns (c : Thread nD τ) a14 fullShare Y14 ∗ owns (c : Thread nD τ) a15 fullShare Y15
        ∗ (iprop(owns (c : Thread nD τ) a1 fullShare X1 ∗ owns (c : Thread nD τ) a2 fullShare X2 ∗ owns (c : Thread nD τ) a3 fullShare X3 ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11 ∗ owns (c : Thread nD τ) a12 fullShare X12 ∗ owns (c : Thread nD τ) a13 fullShare (headF i X1 X2 X3 X5 X6 X7 X8 X9 X10) ∗ owns (c : Thread nD τ) a14 fullShare (headDep i X4 X11 X12 Y14) ∗ owns (c : Thread nD τ) a15 fullShare (headSum i (headR i X1 X2 X3 X5 X6 X7 X8 X9 X10) Y15)) -∗ Q ⟨⟩))
      ⊢ wpB c (cc1__tc_main_body (F := F) i a1 h1 a2 h2 a3 h3 a4 h4 a5 h5 a6 h6 a7 h7 a8 h8 a9 h9 a10 h10 a11 h11 a12 h12 a13 h13 a14 h14 a15 h15) Q := by
  rw [cc1__tc_main_body_eq_skeleton]
  unfold cc1__tc_main_body_skel
  rw [k1_part1_eq_skeleton, k1_part2_eq_skeleton, k1_part3_eq_skeleton, k1_part4_eq_skeleton]
  unfold k1_part1_skel k1_part2_skel k1_part3_skel k1_part4_skel
  simp only [bind_assoc, Prog.bind_lift, pure_bind]
  iintro ⟨H1, H2, H3, H4, H5, H6, H7, H8, H9, H10, H11, H12, H13, H14, H15, HQ⟩
  iapply (wp_loadAll c a1 zero2 _ X1 _ Q) $$ H1; iintro H1
  iapply (wp_loadAll c a2 zero3 _ X2 _ Q) $$ H2; iintro H2
  iapply (wp_loadAll c a3 zero2 _ X3 _ Q) $$ H3; iintro H3
  iapply (wp_loadAll c a5 zero2 _ X5 _ Q) $$ H5; iintro H5
  iapply (wp_loadAll c a6 zero2 _ X6 _ Q) $$ H6; iintro H6
  iapply (wp_loadAll c a7 zero2 _ X7 _ Q) $$ H7; iintro H7
  iapply (wp_loadAll c a8 zero2 _ X8 _ Q) $$ H8; iintro H8
  iapply (wp_loadAll c a9 zero2 _ X9 _ Q) $$ H9; iintro H9
  iapply (wp_loadAll c a10 zero2 _ X10 _ Q) $$ H10; iintro H10
  iapply (wp_loadAll c a13 zero2 _ Y13 _ Q) $$ H13; iintro H13
  iapply (wp_storeAll c a13 zero2 _ _ Y13 _ Q) $$ H13; iintro H13
  unfold headF headR headG headDep headSum
  rcases head_conds i with ⟨hc1, hc2⟩ | ⟨hc1, hc2⟩
  · simp only [dif_pos hc1, dif_neg hc2, if_pos hc1, bind_assoc, Prog.bind_lift, pure_bind]
    iapply (wp_loadAll c a4 zero2 _ X4 _ Q) $$ H4; iintro H4
    iapply (wp_loadAll c a11 zero2 _ X11 _ Q) $$ H11; iintro H11
    iapply (wp_loadAll c a12 zero2 _ X12 _ Q) $$ H12; iintro H12
    iapply (wp_loadAll c a14 zero2 _ Y14 _ Q) $$ H14; iintro H14
    iapply (wp_storeAll c a14 zero2 _ _ Y14 _ Q) $$ H14; iintro H14
    iapply (wp_loadAll c a15 zero2 _ Y15 _ Q) $$ H15; iintro H15
    iapply (wp_storeAll c a15 zero2 _ _ Y15 _ Q) $$ H15; iintro H15
    unfold wpB
    rw [show (Pure.pure PUnit.unit : Prog (TpuEff nD τ sig (Elt F) Λ₀ .tc) PUnit) = Prog.ret ⟨⟩ from rfl, wp_ret]
    imodintro
    iapply HQ
    iframe
  · simp only [dif_neg hc1, dif_pos hc2, if_neg hc1, bind_assoc, Prog.bind_lift, pure_bind]
    iapply (wp_loadAll c a15 zero2 _ Y15 _ Q) $$ H15; iintro H15
    iapply (wp_loadAll c a15 zero2 _ Y15 _ Q) $$ H15; iintro H15
    iapply (wp_storeAll c a15 zero2 _ _ Y15 _ Q) $$ H15; iintro H15
    unfold wpB
    rw [show (Pure.pure PUnit.unit : Prog (TpuEff nD τ sig (Elt F) Λ₀ .tc) PUnit) = Prog.ret ⟨⟩ from rfl, wp_ret]
    imodintro
    iapply HQ
    iframe

/-! ## The pipeline's data -/

variable (V : (b : Ref sig .tc) → Buf (Elt F) ((c : Thread nD τ).loc b))

/-- The arrays of the call's windows at its entry. -/
abbrev headA (w : Fin cfg1.W) : Buf (Elt F) ((cfg1.win w).arr.view.loc (c : Thread nD τ)) := V (Pipeline.arrRef spec1 w)

/-- What an input window's buffer holds at a point. -/
abbrev headIn (w : Fin cfg1.W) (t : Fin cfg1.N) : (cfg1.win w).block.Idx → Elt F (cfg1.win w).elt :=
  heldIn cfg1 (headA c V) w t.val t.isLt

/-- The block of results of a point. -/
def headFAt (t : Fin cfg1.N) : Vec F S256x128 .f32 :=
  headF (grid1.coords t) (headIn c V 0 t) (headIn c V 1 t) (headIn c V 2 t) (headIn c V 4 t) (headIn c V 5 t) (headIn c V 6 t) (headIn c V 7 t) (headIn c V 8 t) (headIn c V 9 t)

/-- The row sums of a point. -/
def headRAt (t : Fin cfg1.N) : Vec F S2x128 .f32 :=
  headR (grid1.coords t) (headIn c V 0 t) (headIn c V 1 t) (headIn c V 2 t) (headIn c V 4 t) (headIn c V 5 t) (headIn c V 6 t) (headIn c V 7 t) (headIn c V 8 t) (headIn c V 9 t)

/-- The depots' rows. -/
def headDepVal : Vec F S2x128 .f32 :=
  k1_pay1 (headIn c V 3 ⟨0, Nat.lt_of_lt_of_eq (by omega : 0 < 18) N_1.symm⟩) (headIn c V 10 ⟨0, Nat.lt_of_lt_of_eq (by omega : 0 < 18) N_1.symm⟩)
    (headIn c V 11 ⟨0, Nat.lt_of_lt_of_eq (by omega : 0 < 18) N_1.symm⟩)

/-- The running row sums after a point. -/
def headAcc : (n : ℕ) → n < cfg1.N → Vec F S2x128 .f32
  | 0, h => headRAt c V ⟨0, h⟩
  | n + 1, h => k1_pay2 (headRAt c V ⟨n + 1, h⟩) (headAcc n (Nat.lt_of_succ_lt h))

/-- The pipeline's data: the input windows as fetched, the block of results, the depots' rows, the running row sums. -/
def headDat (b : ℕ) : Dat τ (Elt F) (HIx 1) ℕ UU ℕ cfg1 c where
  A w := headA c V w
  after w t := match w with
    | ⟨0, _⟩ => headIn c V 0 t
    | ⟨1, _⟩ => headIn c V 1 t
    | ⟨2, _⟩ => headIn c V 2 t
    | ⟨3, _⟩ => headIn c V 3 t
    | ⟨4, _⟩ => headIn c V 4 t
    | ⟨5, _⟩ => headIn c V 5 t
    | ⟨6, _⟩ => headIn c V 6 t
    | ⟨7, _⟩ => headIn c V 7 t
    | ⟨8, _⟩ => headIn c V 8 t
    | ⟨9, _⟩ => headIn c V 9 t
    | ⟨10, _⟩ => headIn c V 10 t
    | ⟨11, _⟩ => headIn c V 11 t
    | ⟨12, _⟩ => headFAt c V t
    | ⟨13, _⟩ => headDepVal c V
    | ⟨14, _⟩ => headAcc c V t.val t.isLt
  Φ _ := Pipeline.scopedRest spec1 c
  q _ := fullShare
  owed _ := 0
  recorded _ := {p | (K (F := F)).lev ((c : Thread nD τ), p.1) p.2 ≤ b}

/-- No block of the first call overhangs its array. -/
theorem head_clip (w : Fin cfg1.W) (i) (a) : (cfg1.win w).clip i a = none := by
  fin_cases w <;> rfl

/-- An input window's buffer holds, before the body, what it was last fetched. -/
theorem head_before_in (b : ℕ) (w : Fin cfg1.W) (hw : (cfg1.win w).isOut = false)
    (hidle : ∀ i, cfg1.idle w i = false) (hafter : ∀ t, (headDat c V b).after w t = headIn c V w t) (t : Fin cfg1.N) (d) :
    (headDat c V b).before w t d = headIn c V w t :=
  (headDat c V b).before_eq_heldIn w hw hidle (head_clip w) hafter t d

/-- The last result's block is used at every point. -/
theorem head_idle14 : ∀ i : grid1.Coords, cfg1.idle 14 i = false := by
  intro i
  show (!(k1_cond1 i == 1#1) && !(k1_cond2 i == 1#1)) = false
  rcases head_conds i with ⟨h, -⟩ | ⟨-, h⟩ <;> simp [h]

/-- The first point is the one whose number is zero. -/
theorem head_cond1 (t : Fin cfg1.N) : k1_cond1 (grid1.coords t) = 1#1 ↔ t.val = 0 := by
  have h : ∀ n : Fin 18, k1_cond1 (grid1.coords (n.cast N_1.symm)) = 1#1 ↔ n.val = 0 := by decide +kernel
  exact h (t.cast N_1)

/-- After the body the running row sums are the next ones. -/
theorem head_acc_step (b : ℕ) (t : Fin cfg1.N) (d) :
    headSum (grid1.coords t) (headRAt c V t) ((headDat c V b).before 14 t d) = headAcc c V t.val t.isLt := by
  unfold headSum
  obtain ⟨n, hn⟩ := t
  cases n with
  | zero => rw [if_pos ((head_cond1 ⟨0, hn⟩).mpr rfl)]; rfl
  | succ n =>
    have hN : cfg1.N = 18 := N_1
    rw [if_neg (fun h => Nat.succ_ne_zero n ((head_cond1 ⟨n + 1, hn⟩).mp h)),
      (headDat c V b).before_out_kept 14 rfl ⟨n + 1, hn⟩ (Nat.succ_ne_zero n)
        (Bool.eq_false_iff.mpr fun h => by have := (flush1_14 _).mp h; dsimp only at this; omega) head_idle14 (fun _ _ => rfl) d]
    rfl

/-- The depots' rows are stored at the first point alone. -/
theorem head_idle13 (t : Fin cfg1.N) : cfg1.idle 13 (grid1.coords t) = decide (t.val ≠ 0) := by
  show (!(k1_cond1 (grid1.coords t) == 1#1)) = _
  by_cases h : t.val = 0
  · simp [(head_cond1 t).mpr h, h]
  · have : ¬k1_cond1 (grid1.coords t) = 1#1 := fun h' => h ((head_cond1 t).mp h')
    simp [this, h]

/-- Past the first point the depots' rows are kept: no point but the first stores into their buffer. -/
theorem head_dep_before (b : ℕ) : ∀ (n : ℕ) (hn : n + 1 < cfg1.N) (d), (headDat c V b).before 13 ⟨n + 1, hn⟩ d = headDepVal c V := by
  intro n
  have hN : cfg1.N = 18 := N_1
  induction n with
  | zero =>
    intro hn d
    rw [(headDat c V b).before_of_pos 13 ⟨0 + 1, hn⟩ (Nat.succ_ne_zero 0) (by rfl)]
    rw [if_neg (fun h => by have := (flush1_13 _).mp h; dsimp only at this; omega)]
    unfold Dat.left
    have hi : cfg1.idle 13 (cfg1.grid.coords ⟨0 + 1 - 1, Nat.lt_of_succ_lt hn⟩) = false := head_idle13 ⟨0, Nat.lt_of_succ_lt hn⟩
    rw [hi]
    rfl
  | succ n ih =>
    intro hn d
    rw [(headDat c V b).before_of_pos 13 ⟨n + 1 + 1, hn⟩ (Nat.succ_ne_zero _) (by rfl)]
    rw [if_neg (fun h => by have := (flush1_13 _).mp h; dsimp only at this; omega)]
    unfold Dat.left
    have hi : cfg1.idle 13 (cfg1.grid.coords ⟨n + 1 + 1 - 1, Nat.lt_of_succ_lt hn⟩) = true :=
      (head_idle13 ⟨n + 1, Nat.lt_of_succ_lt hn⟩).trans (by simp)
    rw [hi]
    exact ih _ d

/-- After the body the depots' rows are the computed ones. -/
theorem head_dep_step (b : ℕ) (t : Fin cfg1.N) (d) :
    headDep (grid1.coords t) (headIn c V 3 t) (headIn c V 10 t) (headIn c V 11 t) ((headDat c V b).before 13 t d) = headDepVal c V := by
  unfold headDep
  obtain ⟨n, hn⟩ := t
  cases n with
  | zero => rw [if_pos ((head_cond1 ⟨0, hn⟩).mpr rfl)]; rfl
  | succ n =>
    rw [if_neg (fun h => Nat.succ_ne_zero n ((head_cond1 ⟨n + 1, hn⟩).mp h)), head_dep_before]

/-- The call's body obligation. -/
theorem head_obligation (b : ℕ) : BodyObligation (headDat c V b) (defs₀ (F := F)) 𝒱₀ none Set.univ := fun t => by
  rw [bigSep_W1, bigSep_W1]
  rw [show (headDat c V b).Φ t.succ = (headDat c V b).Φ t.castSucc from rfl,
    show (headDat c V b).owesAt none t.succ = (headDat c V b).owesAt none t.castSucc from rfl]
  have hi14 : cfg1.idle 14 (cfg1.grid.coords t) = false := head_idle14 _
  simp only [hi14]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [head_before_in c V b 0 rfl (fun _ => rfl) (fun _ => rfl), head_before_in c V b 1 rfl (fun _ => rfl) (fun _ => rfl), head_before_in c V b 2 rfl (fun _ => rfl) (fun _ => rfl), head_before_in c V b 3 rfl (fun _ => rfl) (fun _ => rfl), head_before_in c V b 4 rfl (fun _ => rfl) (fun _ => rfl), head_before_in c V b 5 rfl (fun _ => rfl) (fun _ => rfl), head_before_in c V b 6 rfl (fun _ => rfl) (fun _ => rfl), head_before_in c V b 7 rfl (fun _ => rfl) (fun _ => rfl), head_before_in c V b 8 rfl (fun _ => rfl) (fun _ => rfl), head_before_in c V b 9 rfl (fun _ => rfl) (fun _ => rfl), head_before_in c V b 10 rfl (fun _ => rfl) (fun _ => rfl), head_before_in c V b 11 rfl (fun _ => rfl) (fun _ => rfl)]
  iapply (head_body c (grid1.coords t) _ _ _ _ _ _ _ _ _ _ _ _ _ _ _ _ _ _ _ _ _ _ _ _ _ _ _ _ _ _ (headIn c V 0 t) (headIn c V 1 t) (headIn c V 2 t) (headIn c V 3 t) (headIn c V 4 t) (headIn c V 5 t) (headIn c V 6 t) (headIn c V 7 t) (headIn c V 8 t) (headIn c V 9 t) (headIn c V 10 t) (headIn c V 11 t) _ _ _ _)
  iframe
  iintro ⟨H0, H1, H2, H3, H4, H5, H6, H7, H8, H9, H10, H11, H12, H13, H14⟩
  have hstep := head_acc_step c V b t d14
  unfold headRAt at hstep
  rw [hstep, head_dep_step]
  have hi14 : idle1 14 (grid1.coords t) = false := head_idle14 _
  rw [hi14]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · by_cases h0 : t.val = 0
    · have hi13 : idle1 13 (grid1.coords t) = false := (head_idle13 t).trans (by simp [h0])
      rw [hi13]; iexact H13
    · have hi13 : idle1 13 (grid1.coords t) = true := (head_idle13 t).trans (by simp [h0])
      rw [hi13]
      cases hf : (win1 13).flush t
      · iexists d13
        obtain ⟨n, hn⟩ := t
        cases n with
        | zero => exact absurd rfl h0
        | succ n => rw [head_dep_before c V b n hn d13]; iexact H13
      · iexact H13
  iexact H14

end Cert.Proof
-- ==== Proof.Regions.lean ====
/-
  The two TensorCore calls as regions of `@main`: entered from the thread's buffers at a valuation, left with the calls'
  results in place of what their output arrays held.
-/
module

public import proofs.«01_k».proof.Proof.Head
public import proofs.«01_k».proof.Proof.Gen.KernelIdeal.Launch
public import Idealize.ShloMosaic.Lib.Pipeline.RegionsLoop

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.Sem Idealize.SL.ProofMode

variable {F : FTy → Type} [FloatOps F] [∀ e, Nonempty (Elt F e)]

local notation "𝕄" => Res F

variable (adm : (p : Fin 2) → (pcfgs (F := F) p).Adm)

/-- The data of the two pipelines, both at one valuation. -/
def pdats (b : ℕ) (V : (c : Dev nD) → (b : Ref sig .tc) → Buf (Elt F) ((c : Thread nD τ).loc b)) :
    (p : Fin 2) → (c : Dev nD) → Dat τ (Elt F) (HIx 1) ℕ UU ℕ (Pipeline.pin (pcfgs (F := F)) adm p) c
  | ⟨0, _⟩ => fun c => headDat c (V c) b
  | ⟨1, _⟩ => fun c => tailDat c (V c) b

/-- What a thread owes between calls: nothing, its waits recorded at no level above `b`. -/
def quiet (b : ℕ) (c : Dev nD) : sProp 𝕄 :=
  iprop(∃ W, ⌜(K (F := F)).WBelow (c : Thread nD τ) W b⌝ ∗ owes (c : Thread nD τ) (0 : CellTallies nD τ sig (HIx 1)) W)

variable (b : ℕ) (V Vp : (c : Dev nD) → (b : Ref sig .tc) → Buf (Elt F) ((c : Thread nD τ).loc b))

-- a lemma stated over the pinned configuration unifies only when unification may unfold plain definitions in a metavariable's type
set_option backward.isDefEq.respectTransparency.types false in
/-- A TensorCore call as a region over the thread's buffers: from the valuation `V` to any `Vp` that has the call's arrays as
    its write-backs leave them and agrees with `V` elsewhere. -/
def region (p : Fin 2) (win : Pipeline.WinFacts ((pcfgs (F := F) p).spec))
    (block_pos : ∀ w, 0 < (((pcfgs (F := F) p).spec) w).block.numel)
    (arr_whole : ∀ w, (((pcfgs (F := F) p).spec) w).arr.IsWhole)
    (stage_whole : ∀ w s, ((((pcfgs (F := F) p).spec) w).stage s).IsWhole)
    (hbody : ∀ c, Pipeline.BodyObligationLoose (pdats adm b V p c) (defs₀ (F := F)) 𝒱₀ none Set.univ)
    (howed : ∀ c t, (pdats adm b V p c).owed t = 0)
    (hq : ∀ c w, (pdats adm b V p c).q w = fullShare)
    (hΦ : ∀ c t, (pdats adm b V p c).Φ t = Pipeline.scopedRest ((pcfgs (F := F) p).spec) c)
    (hrec : ∀ c t, (pdats adm b V p c).recorded t = {p | (K (F := F)).lev ((c : Thread nD τ), p.1) p.2 ≤ b})
    (hA : ∀ c w, (pdats adm b V p c).A w = V c (Pipeline.arrRef ((pcfgs (F := F) p).spec) w))
    (hpre : ∀ c, (Pipeline.prefHeld (pcfgs (F := F) p).pre c (fun _ => fullShare) (adm p).1 : sProp 𝕄) = BI.emp)
    (hVp : ∀ c w, Vp c (Pipeline.arrRef ((pcfgs (F := F) p).spec) w)
      = (pdats adm b V p c).arrAt w (Pipeline.pin (pcfgs (F := F)) adm p).N)
    (hne : ∀ c (x : Ref sig .tc), (∀ w, x ≠ Pipeline.arrRef ((pcfgs (F := F) p).spec) w) → Vp c x = V c x) :
    Pipeline.RegionSeg (pcfgs (F := F)) adm (pdats adm b V) none defs₀ 𝒱₀ (K (F := F)).L (K (F := F)).lev p where
  win := win.to₀
  block_pos := block_pos
  stage_whole := stage_whole
  K := PEmpty
  osem k := k.elim
  ho := Pipeline.OwnSemFacts.none _
  hbody := hbody
  hwaits := Pipeline.hwaits_of_owed_zero _ _ _ _ (K (F := F)).L (K (F := F)).lev p howed
  pre c := iprop(unscopedBufs c (V c) ∗ quiet b c)
  post c := iprop(unscopedBufs c (Vp c) ∗ quiet b c)
  X _ := BI.emp
  Y _ := BI.emp
  Z c := Pipeline.unscopedRest ((pcfgs (F := F) p).spec) c (V c)
  hentry c := by
    rw [Pipeline.ownSems0_none, hpre c]
    have hsplit := Pipeline.arrays_of_unscopedBufs (p := p) (pcfgs (F := F)) adm (pdats adm b V) win arr_whole c
      ((pdats adm b V p c).share_full (hq c)) (V c) (hA c)
    iintro ⟨⟨Hub, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin quiet
      rw [howed]
      icases HO with ⟨%W, %hW, HO⟩; iexists W; isplitr
      · ipureintro; intro x hx; refine Or.inl ?_; rw [hrec]; exact hW x hx
      iexact HO
    isplitr; · iempintro
    iexact Hrest
  hin c := by
    rw [hΦ c]
    iintro ⟨-, -, Hr⟩; iexact Hr
  hout c := by
    rw [Pipeline.ownSems0_none, hΦ c]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) win arr_whole c
      (pdats adm b V) ((pdats adm b V p c).share_full (hq c)) (V c) (Vp c) ((pdats adm b V p c).arrAt · (Pipeline.pin (pcfgs (F := F)) adm p).N)
      (fun w => (hVp c w).symm)
      (fun x hx => hne c x fun w h => hx (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin quiet
    rw [howed]
    icases HO with ⟨%W, %hW, HO⟩; iexists W; isplitr
    · ipureintro; intro x hx
      rcases hW hx with h | ⟨w, s, h⟩
      · rw [hrec] at h; exact h
      · rw [h]; exact Nat.zero_le _
    iexact HO

end Cert.Proof
-- ==== Proof.HostOps.lean ====
/-
  `@main`'s host operations, in the four stretches its three calls leave, and `@main` as those stretches and calls.
-/
module

public import proofs.«01_k».proof.Proof.Gen.KernelIdeal.Skeleton
public import Idealize.ShloMosaic.Lib.StableHlo.Run
public import Idealize.ShloMosaic.Lib.Pipeline.Frame

@[expose] public section

noncomputable section

namespace Cert.Proof

open Cert.KernelIdeal Cert.KernelIdeal.Gen
open Idealize.SL.Sem
open Idealize.ShloMosaic
open Idealize.ShloMosaic.TcCoe
open Idealize.ShloMosaic.StableHlo (seq after)

variable {F : FTy → Type} [FloatOps F]

/-- The coordinates and the deadline side by side. -/
def catFeat (a : Vec F S2x4096x2 .f32) (b : Vec F S2x4096x1 .f32) : Vec F S2x4096x3 .f32 :=
  concatenate S2x4096x3 2 [⟨S2x4096x2, a⟩, ⟨S2x4096x1, b⟩] concatenates_S2x4096x2_S2x4096x1_S2x4096x3_d2

/-- The two TensorCore calls' rows one after the other. -/
def catCalls (a : Vec F S4608x128 .f32) (b : Vec F S3584x128 .f32) : Vec F S8192x128 .f32 :=
  concatenate S8192x128 0 [⟨S4608x128, a⟩, ⟨S3584x128, b⟩] concatenates_S4608x128_S3584x128_S8192x128_d0

/-- The depots' rows before the nodes'. -/
def catDepot (a : Vec F S2x1x128 .f32) (b : Vec F S2x4096x128 .f32) : Vec F S2x4097x128 .f32 :=
  concatenate S2x4097x128 1 [⟨S2x1x128, a⟩, ⟨S2x4096x128, b⟩] concatenates_S2x1x128_S2x4096x128_S2x4097x128_d1

/-- Two batches' rows one above the other. -/
def catSums (a : Vec F S1x128 .f32) (b : Vec F S1x128 .f32) : Vec F S2x128 .f32 :=
  concatenate S2x128 0 [⟨S1x128, a⟩, ⟨S1x128, b⟩] concatenates_S1x128_S1x128_S2x128_d0

/-- Three columns side by side. -/
def catCols (a b c : Vec F S3584x1 .f32) : Vec F S3584x3 .f32 :=
  concatenate S3584x3 1 [⟨S3584x1, a⟩, ⟨S3584x1, b⟩, ⟨S3584x1, c⟩] concatenates_S3584x1_S3584x1_S3584x1_S3584x3_d1

/-- The operations before the SparseCore call: the coordinates and tables it reads. -/
abbrev ops1 : List (HloOp τ sig (Elt F)) :=
  [ StableHlo.unary main_arg1 main_v0 (broadcastInDim S2x4096x1 ![0, 1] bcast_S2x4096_S2x4096x1_0_1 : (⟨S2x4096, .f32⟩ : BufTy).Contents (Elt F) → (⟨S2x4096x1, .f32⟩ : BufTy).Contents (Elt F)),
    StableHlo.binary main_arg0 main_v0 main_v1 (catFeat : (⟨S2x4096x2, .f32⟩ : BufTy).Contents (Elt F) → (⟨S2x4096x1, .f32⟩ : BufTy).Contents (Elt F) → (⟨S2x4096x3, .f32⟩ : BufTy).Contents (Elt F)),
    StableHlo.unary main_v1 main_v2 ((extractStridedSlice S1x4096x3 ![0, 0, 0] · slices_S2x4096x3_S1x4096x3_0_0_0) : (⟨S2x4096x3, .f32⟩ : BufTy).Contents (Elt F) → (⟨S1x4096x3, .f32⟩ : BufTy).Contents (Elt F)),
    StableHlo.reshape main_v2 main_v3 (rfl : (.f32 : EltTy) = .f32) shapeCasts_S1x4096x3_S4096x3,
    StableHlo.reshape main_arg4 main_v4 (rfl : (.f32 : EltTy) = .f32) shapeCasts_S128_S1x128,
    StableHlo.reshape main_arg6 main_v5 (rfl : (.f32 : EltTy) = .f32) shapeCasts_S128_S1x128,
    StableHlo.reshape main_arg8 main_v6 (rfl : (.f32 : EltTy) = .f32) shapeCasts_S128_S1x128,
    StableHlo.reshape main_arg10 main_v7 (rfl : (.f32 : EltTy) = .f32) shapeCasts_S128_S1x128,
    StableHlo.reshape main_v1 main_v8 (rfl : (.f32 : EltTy) = .f32) shapeCasts_S2x4096x3_S8192x3,
    StableHlo.unary main_arg0 main_v9 ((extractStridedSlice S1x3584x1 ![1, 512, 0] · slices_S2x4096x2_S1x3584x1_1_512_0) : (⟨S2x4096x2, .f32⟩ : BufTy).Contents (Elt F) → (⟨S1x3584x1, .f32⟩ : BufTy).Contents (Elt F)),
    StableHlo.reshape main_v9 main_v10 (rfl : (.f32 : EltTy) = .f32) shapeCasts_S1x3584x1_S3584,
    StableHlo.unary main_arg0 main_v11 ((extractStridedSlice S1x3584x1 ![1, 512, 1] · slices_S2x4096x2_S1x3584x1_1_512_1) : (⟨S2x4096x2, .f32⟩ : BufTy).Contents (Elt F) → (⟨S1x3584x1, .f32⟩ : BufTy).Contents (Elt F)),
    StableHlo.reshape main_v11 main_v12 (rfl : (.f32 : EltTy) = .f32) shapeCasts_S1x3584x1_S3584,
    StableHlo.unary main_arg0 main_v13 ((extractStridedSlice S1x4096x1 ![1, 0, 0] · slices_S2x4096x2_S1x4096x1_1_0_0) : (⟨S2x4096x2, .f32⟩ : BufTy).Contents (Elt F) → (⟨S1x4096x1, .f32⟩ : BufTy).Contents (Elt F)),
    StableHlo.reshape main_v13 main_v14 (rfl : (.f32 : EltTy) = .f32) shapeCasts_S1x4096x1_S4096,
    StableHlo.unary main_arg0 main_v15 ((extractStridedSlice S1x4096x1 ![1, 0, 1] · slices_S2x4096x2_S1x4096x1_1_0_1) : (⟨S2x4096x2, .f32⟩ : BufTy).Contents (Elt F) → (⟨S1x4096x1, .f32⟩ : BufTy).Contents (Elt F)),
    StableHlo.reshape main_v15 main_v16 (rfl : (.f32 : EltTy) = .f32) shapeCasts_S1x4096x1_S4096,
    StableHlo.unary main_v3 main_v17 ((extractStridedSlice S4096x1 ![0, 0] · slices_S4096x3_S4096x1_0_0) : (⟨S4096x3, .f32⟩ : BufTy).Contents (Elt F) → (⟨S4096x1, .f32⟩ : BufTy).Contents (Elt F)),
    StableHlo.reshape main_v17 main_v18 (rfl : (.f32 : EltTy) = .f32) shapeCasts_S4096x1_S4096,
    StableHlo.unary main_v3 main_v19 ((extractStridedSlice S4096x1 ![0, 1] · slices_S4096x3_S4096x1_0_1) : (⟨S4096x3, .f32⟩ : BufTy).Contents (Elt F) → (⟨S4096x1, .f32⟩ : BufTy).Contents (Elt F)),
    StableHlo.reshape main_v19 main_v20 (rfl : (.f32 : EltTy) = .f32) shapeCasts_S4096x1_S4096,
    StableHlo.unary main_v3 main_v21 ((extractStridedSlice S4096x1 ![0, 2] · slices_S4096x3_S4096x1_0_2) : (⟨S4096x3, .f32⟩ : BufTy).Contents (Elt F) → (⟨S4096x1, .f32⟩ : BufTy).Contents (Elt F)),
    StableHlo.reshape main_v21 main_v22 (rfl : (.f32 : EltTy) = .f32) shapeCasts_S4096x1_S4096 ]

/-- The operations between the SparseCore call and the first TensorCore call: its sums side by side, the first rows. -/
abbrev ops2 : List (HloOp τ sig (Elt F)) :=
  [ StableHlo.unary main_v23_0 main_v24 (broadcastInDim S3584x1 ![0] bcast_S3584_S3584x1_0 : (⟨S3584, .f32⟩ : BufTy).Contents (Elt F) → (⟨S3584x1, .f32⟩ : BufTy).Contents (Elt F)),
    StableHlo.unary main_v23_1 main_v25 (broadcastInDim S3584x1 ![0] bcast_S3584_S3584x1_0 : (⟨S3584, .f32⟩ : BufTy).Contents (Elt F) → (⟨S3584x1, .f32⟩ : BufTy).Contents (Elt F)),
    StableHlo.unary main_v23_2 main_v26 (broadcastInDim S3584x1 ![0] bcast_S3584_S3584x1_0 : (⟨S3584, .f32⟩ : BufTy).Contents (Elt F) → (⟨S3584x1, .f32⟩ : BufTy).Contents (Elt F)),
    StableHlo.nary ![main_v24, main_v25, main_v26] main_v27 (fun u => catCols (u 0) (u 1) (u 2)),
    StableHlo.unary main_v8 main_v28 ((extractStridedSlice S4608x3 ![0, 0] · slices_S8192x3_S4608x3_0_0) : (⟨S8192x3, .f32⟩ : BufTy).Contents (Elt F) → (⟨S4608x3, .f32⟩ : BufTy).Contents (Elt F)) ]

/-- The operation between the two TensorCore calls: the last rows. -/
abbrev ops3 : List (HloOp τ sig (Elt F)) :=
  [ StableHlo.unary main_v8 main_v30 ((extractStridedSlice S3584x3 ![4608, 0] · slices_S8192x3_S3584x3_4608_0) : (⟨S8192x3, .f32⟩ : BufTy).Contents (Elt F) → (⟨S3584x3, .f32⟩ : BufTy).Contents (Elt F)) ]

/-- The operations after the calls: the results put together and the mean. -/
abbrev ops4 : List (HloOp τ sig (Elt F)) :=
  [ StableHlo.binary main_v29_0 main_v31_0 main_v32 (catCalls : (⟨S4608x128, .f32⟩ : BufTy).Contents (Elt F) → (⟨S3584x128, .f32⟩ : BufTy).Contents (Elt F) → (⟨S8192x128, .f32⟩ : BufTy).Contents (Elt F)),
    StableHlo.reshape main_v32 main_v33 (rfl : (.f32 : EltTy) = .f32) shapeCasts_S8192x128_S2x4096x128,
    StableHlo.unary main_v29_1 main_v34 (broadcastInDim S2x1x128 ![0, 2] bcast_S2x128_S2x1x128_0_2 : (⟨S2x128, .f32⟩ : BufTy).Contents (Elt F) → (⟨S2x1x128, .f32⟩ : BufTy).Contents (Elt F)),
    StableHlo.binary main_v34 main_v33 main_v35 (catDepot : (⟨S2x1x128, .f32⟩ : BufTy).Contents (Elt F) → (⟨S2x4096x128, .f32⟩ : BufTy).Contents (Elt F) → (⟨S2x4097x128, .f32⟩ : BufTy).Contents (Elt F)),
    StableHlo.nullary main_cst (constant S_ .f32 0x00000000#32),
    StableHlo.unary main_cst main_v36 (broadcastInDim S1x128 ![] bcast_S_S1x128 : (⟨S_, .f32⟩ : BufTy).Contents (Elt F) → (⟨S1x128, .f32⟩ : BufTy).Contents (Elt F)),
    StableHlo.binary main_v36 main_v31_1 main_v37 (catSums : (⟨S1x128, .f32⟩ : BufTy).Contents (Elt F) → (⟨S1x128, .f32⟩ : BufTy).Contents (Elt F) → (⟨S2x128, .f32⟩ : BufTy).Contents (Elt F)),
    StableHlo.binary main_v29_2 main_v37 main_v38 (addf : (⟨S2x128, .f32⟩ : BufTy).Contents (Elt F) → (⟨S2x128, .f32⟩ : BufTy).Contents (Elt F) → (⟨S2x128, .f32⟩ : BufTy).Contents (Elt F)),
    StableHlo.binary main_v29_1 main_v38 main_v39 (addf : (⟨S2x128, .f32⟩ : BufTy).Contents (Elt F) → (⟨S2x128, .f32⟩ : BufTy).Contents (Elt F) → (⟨S2x128, .f32⟩ : BufTy).Contents (Elt F)),
    StableHlo.nullary main_cst_0 (constant S_ .f32 0x45800800#32),
    StableHlo.unary main_cst_0 main_v40 (broadcastInDim S2x128 ![] bcast_S_S2x128 : (⟨S_, .f32⟩ : BufTy).Contents (Elt F) → (⟨S2x128, .f32⟩ : BufTy).Contents (Elt F)),
    StableHlo.binary main_v39 main_v40 main_v41 (Host.divf : (⟨S2x128, .f32⟩ : BufTy).Contents (Elt F) → (⟨S2x128, .f32⟩ : BufTy).Contents (Elt F) → (⟨S2x128, .f32⟩ : BufTy).Contents (Elt F)) ]

set_option maxRecDepth 16384 in
set_option maxHeartbeats 4000000 in
/-- `@main`: the four stretches around the three calls. -/
theorem main_eq (d : Dev nD) : main (F := F) d = (seq ops1 >>= fun _ => sc.run d 0 >>= fun _ => seq ops2 >>= fun _ =>
    Prog.lift (.customCall (SparseCore.inner (Pipeline.entry 0)) ()) >>= fun _ => seq ops3 >>= fun _ =>
    Prog.lift (.customCall (SparseCore.inner (Pipeline.entry 1)) ()) >>= fun _ => seq ops4 >>= fun _ => pure ⟨⟩) := rfl

/-- The first host operations touch TensorCore arrays only. -/
theorem ops1_tc : (ops1 : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩

/-- They touch unscoped buffers only, -/
theorem ops1_sub : ∀ op ∈ (ops1 : List (HloOp τ sig (Elt F))), op.bufs ⊆ Pipeline.ucRefs τ sig := fun op h =>
  Pipeline.sub_ucRefs op ((List.forall_iff_forall_mem.mp ops1_tc) op h)

/-- and none of fresh contents. -/
theorem ops1_fresh : ∀ op ∈ (ops1 : List (HloOp τ sig (Elt F))), op.fresh = ∅ := by
  intro _ h; (repeat (cases h with | head => rfl | tail _ h => ?_)); exact nomatch h

/-- The references they write. -/
abbrev writes1 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22]

/-- What they write. -/
theorem ops1_writes : (ops1 : List (HloOp τ sig (Elt F))).Forall fun op => op.writes ⊆ (writes1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;> exact Finset.singleton_subset_iff.mpr (List.mem_toFinset.mpr (List.mem_map.mpr ⟨_, by decide, rfl⟩))

/-- The second host operations touch TensorCore arrays only. -/
theorem ops2_tc : (ops2 : List (HloOp τ sig (Elt F))).Forall fun op => op.bufs ⊆ StableHlo.tcRefs τ sig :=
  ⟨StableHlo.unary_bufs_sub .., StableHlo.unary_bufs_sub .., StableHlo.unary_bufs_sub .., StableHlo.nary_bufs_sub .., StableHlo.unary_bufs_sub ..⟩

/-- They touch unscoped buffers only, -/
theorem ops2_sub : ∀ op ∈ (ops2 : List (HloOp τ sig (Elt F))), op.bufs ⊆ Pipeline.ucRefs τ sig := fun op h =>
  Pipeline.sub_ucRefs op ((List.forall_iff_forall_mem.mp ops2_tc) op h)

/-- and none of fresh contents. -/
theorem ops2_fresh : ∀ op ∈ (ops2 : List (HloOp τ sig (Elt F))), op.fresh = ∅ := by
  intro _ h; (repeat (cases h with | head => rfl | tail _ h => ?_)); exact nomatch h

/-- The references they write. -/
abbrev writes2 : List (Ref sig .tc) := [main_v24, main_v25, main_v26, main_v27, main_v28]

/-- What they write. -/
theorem ops2_writes : (ops2 : List (HloOp τ sig (Elt F))).Forall fun op => op.writes ⊆ (writes2.map (Proc.devRef (τ := τ) .tc)).toFinset := by
  simp only [List.Forall]
  refine ⟨?_, ?_, ?_, ?_, ?_⟩ <;> exact Finset.singleton_subset_iff.mpr (List.mem_toFinset.mpr (List.mem_map.mpr ⟨_, by decide, rfl⟩))

/-- The third host operations touch TensorCore arrays only. -/
theorem ops3_tc : (ops3 : List (HloOp τ sig (Elt F))).Forall fun op => op.bufs ⊆ StableHlo.tcRefs τ sig :=
  StableHlo.unary_bufs_sub ..

/-- They touch unscoped buffers only, -/
theorem ops3_sub : ∀ op ∈ (ops3 : List (HloOp τ sig (Elt F))), op.bufs ⊆ Pipeline.ucRefs τ sig := fun op h =>
  Pipeline.sub_ucRefs op ((List.forall_iff_forall_mem.mp ops3_tc) op h)

/-- and none of fresh contents. -/
theorem ops3_fresh : ∀ op ∈ (ops3 : List (HloOp τ sig (Elt F))), op.fresh = ∅ := by
  intro _ h; (repeat (cases h with | head => rfl | tail _ h => ?_)); exact nomatch h

/-- The references they write. -/
abbrev writes3 : List (Ref sig .tc) := [main_v30]

/-- What they write. -/
theorem ops3_writes : (ops3 : List (HloOp τ sig (Elt F))).Forall fun op => op.writes ⊆ (writes3.map (Proc.devRef (τ := τ) .tc)).toFinset := by
  simp only [List.Forall]
  refine ?_ <;> exact Finset.singleton_subset_iff.mpr (List.mem_toFinset.mpr (List.mem_map.mpr ⟨_, by decide, rfl⟩))

/-- The last host operations touch TensorCore arrays only. -/
theorem ops4_tc : (ops4 : List (HloOp τ sig (Elt F))).Forall fun op => op.bufs ⊆ StableHlo.tcRefs τ sig :=
  ⟨StableHlo.binary_bufs_sub .., StableHlo.reshape_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub ..⟩

/-- They touch unscoped buffers only, -/
theorem ops4_sub : ∀ op ∈ (ops4 : List (HloOp τ sig (Elt F))), op.bufs ⊆ Pipeline.ucRefs τ sig := fun op h =>
  Pipeline.sub_ucRefs op ((List.forall_iff_forall_mem.mp ops4_tc) op h)

/-- and none of fresh contents. -/
theorem ops4_fresh : ∀ op ∈ (ops4 : List (HloOp τ sig (Elt F))), op.fresh = ∅ := by
  intro _ h; (repeat (cases h with | head => rfl | tail _ h => ?_)); exact nomatch h

/-- The references they write. -/
abbrev writes4 : List (Ref sig .tc) := [main_v32, main_v33, main_v34, main_v35, main_cst, main_v36, main_v37, main_v38, main_v39, main_cst_0, main_v40, main_v41]

/-- What they write. -/
theorem ops4_writes : (ops4 : List (HloOp τ sig (Elt F))).Forall fun op => op.writes ⊆ (writes4.map (Proc.devRef (τ := τ) .tc)).toFinset := by
  simp only [List.Forall]
  refine ⟨?_, ?_, ?_, ?_, ?_, ?_, ?_, ?_, ?_, ?_, ?_, ?_⟩ <;> exact Finset.singleton_subset_iff.mpr (List.mem_toFinset.mpr (List.mem_map.mpr ⟨_, by decide, rfl⟩))

end Cert.Proof
-- ==== Proof.Scan.lean ====
/-
  The values a group of sixteen queries computes, as functions of what the tile's scratch arrays hold: the carried five
  after any number of candidates, and the sums of the selected nodes' coordinates.
-/
module

public import proofs.«01_k».proof.Proof.Body

@[expose] public section

noncomputable section

namespace Cert.Proof

open Cert.KernelIdeal Cert.KernelIdeal.Gen
open Idealize.ShloMosaic Idealize.SL.Sem

variable {F : FTy → Type} [FloatOps F]

/-- Position `n` of a rank-one array. -/
abbrev at1 {n : ℕ} (k : ℕ) (h : k < n) : (⟨1, ![n]⟩ : Shape).Idx := Shape.ofLane (d := ![n]) ⟨k, h⟩

/-- A table's words at the lanes' positions. -/
def take (f : Vec F S4096 .f32) (v : IVec S16 32) : Vec F S16 .f32 :=
  fun l => f (at1 ((v l).toNat % 4096) (Nat.mod_lt _ (by decide)))

/-- Every lane's position is inside the table. -/
def InRange (v : IVec S16 32) : Prop := ∀ l, (v l).toNat < 4096

/-- Positions inside the table pass the gather's check. -/
theorem chk_of_inRange {v : IVec S16 32} (h : InRange v) : k0_chk2 v := by
  have : ∀ (a : Fin 1) x, ((![v] : Fin 1 → IVec S16 32) a x).toNat < S4096.size a := by
    intro a x; fin_cases a; exact h x
  exact ⟨this, this, this⟩

/-- The gather reads the table at the lanes' positions. -/
theorem loadIdx_eq_take (f : Vec F S4096 .f32) (v : IVec S16 32)
    (h : ∀ a x, ((![v] : Fin 1 → IVec S16 32) a x).toNat < S4096.size a) : loadIdx f ![v] h = take f v := by
  funext l
  unfold loadIdx take
  refine congrArg f (funext fun a => ?_)
  fin_cases a
  refine Fin.ext ?_
  have h0 := h 0 l
  show (v l).toNat = (v l).toNat % 4096
  exact (Nat.mod_eq_of_lt h0).symm

/-- The candidate of trip `k`, in every lane. -/
def jvec (k : ℕ) : IVec S16 32 := broadcast S16 (Scf.iv 0#32 1#32 k)

/-- The loop's counter as a number. -/
theorem iv_toNat (k : ℕ) (h : k < 4096) : (Scf.iv 0#32 1#32 k).toNat = k := by
  simp [Scf.iv]
  omega

/-- A candidate's position is inside the table. -/
theorem jvec_inRange {k : ℕ} (h : k < 4096) : InRange (jvec k) := fun _ => by
  show (Scf.iv 0#32 1#32 k).toNat < 4096
  rw [iv_toNat k h]; exact h

/-- What the scan carries after the first `k` candidates. -/
def scan (xi yi : Vec F S16 .f32) (slf : IVec S16 32) (cx cy : Vec F S4096 .f32) : ℕ → Carry F
  | 0 => carry0
  | k + 1 => insert5 (masked xi yi slf (jvec k) (take cx (jvec k)) (take cy (jvec k))) (jvec k) (scan xi yi slf cx cy k)

/-- The five candidates carried are inside the table. -/
def GoodCarry (s : Carry F) : Prop :=
  InRange s.2.2.2.2.2.1 ∧ InRange s.2.2.2.2.2.2.1 ∧ InRange s.2.2.2.2.2.2.2.1 ∧ InRange s.2.2.2.2.2.2.2.2.1
    ∧ InRange s.2.2.2.2.2.2.2.2.2

/-- A choice between positions inside is inside. -/
theorem InRange.select {c : IVec S16 1} {u v : IVec S16 32} (hu : InRange u) (hv : InRange v) : InRange (select c u v) := fun l => by
  show (Scalar.select (c l) (u l) (v l)).toNat < 4096
  unfold Scalar.select; split
  · exact hu l
  · exact hv l

/-- An insertion keeps the carried candidates inside. -/
theorem goodCarry_insert5 {d : FVec F S16 .f32} {jv : IVec S16 32} {s : Carry F} (hj : InRange jv) (hs : GoodCarry s) :
    GoodCarry (insert5 d jv s) :=
  ⟨hj.select hs.1, (hs.1.select hj).select hs.2.1, (hs.2.1.select hj).select hs.2.2.1, (hs.2.2.1.select hj).select hs.2.2.2.1,
    (hs.2.2.2.1.select hj).select hs.2.2.2.2⟩

/-- So does the whole scan. -/
theorem goodCarry_scan (xi yi : Vec F S16 .f32) (slf : IVec S16 32) (cx cy : Vec F S4096 .f32) :
    ∀ k, k ≤ 4096 → GoodCarry (scan xi yi slf cx cy k)
  | 0, _ => by
    have h : InRange (broadcast S16 0#32 : IVec S16 32) := fun _ => by show (0#32).toNat < 4096; decide
    exact ⟨h, h, h, h, h⟩
  | k + 1, hk => goodCarry_insert5 (jvec_inRange hk) (goodCarry_scan xi yi slf cx cy k (by omega))

/-- The scan has 4096 steps. -/
theorem trips_eq : k0_t1_loop.trips = 4096 := by decide

/-- Rows `o … o + 15` of a row buffer, read. -/
def rowsOf (f : Vec F S112 .f32) (o : ℕ) (ho : ∀ a, (![o] : Fin 1 → ℕ) a + S16.size a ≤ S112.size a) : Vec F S16 .f32 :=
  fun l => f ((rows o ho).idx l)

/-- One coordinate's sums for the group: the query's own and the five carried nodes', from table `p`. -/
def groupSum (p : Vec F S4096 .f32) (slf : IVec S16 32) (r : Carry F) : FVec F S16 .f32 :=
  sum6 (take p slf) (take p r.2.2.2.2.2.1) (take p r.2.2.2.2.2.2.1) (take p r.2.2.2.2.2.2.2.1) (take p r.2.2.2.2.2.2.2.2.1)
    (take p r.2.2.2.2.2.2.2.2.2)

end Cert.Proof
-- ==== Proof.Group.lean ====
/-
  A group of sixteen queries, run: from the tile's scratch arrays held whole, the group ends with the same arrays, the
  three result rows it stores rewritten at the sums of the scan's nodes.
-/
module

public import proofs.«01_k».proof.Proof.Setup
public import proofs.«01_k».proof.Proof.Scan

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A gather from a scratch table held whole, at the head of a program. -/
theorem wp_gather (d : Dev nD) (L : grid0.Coords) {T : Memref sig .scVector .vmem S4096 .f32} {v : IVec S16 32} {h : k0_chk2 v}
    {α : Type} {k : Vec F S16 .f32 → Prog (TpuEff nD τ sig (Elt F) Λ₀ (.scVector ((L 0).castLE hcore0) ((L 1).castLE hsub0))) α} {Q : α → sProp 𝕄}
    {f : Buf (Elt F) (T.view.loc (V d ((L 0).castLE hcore0) ((L 1).castLE hsub0)))} {g : Vec F S4096 .f32}
    (hg : (T.access (.whole S4096)).read (Elt F) f = g) :
    (T.view.loc (V d ((L 0).castLE hcore0) ((L 1).castLE hsub0)) ↦{fullShare} f)
      ⊢ iprop(((T.view.loc (V d ((L 0).castLE hcore0) ((L 1).castLE hsub0)) ↦{fullShare} f)
            -∗ wp frame (wpE (defs₀ (F := F)) 𝒱₀ (V d ((L 0).castLE hcore0) ((L 1).castLE hsub0)) none) Set.univ
                (k (take g v)) Q)
          -∗ wp frame (wpE (defs₀ (F := F)) 𝒱₀ (V d ((L 0).castLE hcore0) ((L 1).castLE hsub0)) none) Set.univ (gather L T v h >>= k) Q) := by
  subst hg
  rw [← loadIdx_eq_take _ v (k0_idx3_inb v h)]
  exact SparseCore.wp_vectorLoadIdx 𝒱₀ (V d ((L 0).castLE hcore0) ((L 1).castLE hsub0)) none Set.univ (base := T) (S := Finset.univ) (q := fullShare) (Finset.subset_univ _)

section
variable (d : Dev nD) (L : grid0.Coords)

/-- The tile's thread. -/
abbrev tile : Thread nD τ := V d ((L 0).castLE hcore0) ((L 1).castLE hsub0)

/-- A scratch array of the tile, held whole at contents `f`. -/
abbrev buf {s : Shape} {e : EltTy} (T : Memref sig .scVector .vmem s e) (f : Buf (Elt F) (T.view.loc (tile d L))) : sProp 𝕄 :=
  T.view.loc (tile d L) ↦{fullShare} f

/-- The scan: from the two candidate tables, the carried five after every candidate. -/
theorem scan_wp (xi yi : Vec F S16 .f32) (slf : IVec S16 32) (cx : Buf (Elt F) (cxS.view.loc (tile d L))) (cy : Buf (Elt F) (cyS.view.loc (tile d L)))
    (r : Carry F) (hr : r = scan xi yi slf cx cy 4096) {Q : Carry F → sProp 𝕄} :
    iprop((buf d L cxS cx ∗ buf d L cyS cy) ∗ ((buf d L cxS cx ∗ buf d L cyS cy) -∗ Q r))
      ⊢ wp frame (wpE (defs₀ (F := F)) 𝒱₀ (tile d L) none) Set.univ
          (Scf.Loop.for k0_t1_loop k0_t1_ok (carry0 (F := F)) (trip L xi yi slf)) Q := by
  subst hr
  refine BI.Entails.trans ?_ (Scf.wp_for frame (wpE (defs₀ (F := F)) 𝒱₀ (tile d L) none) Set.univ _ _ _ k0_t1_ok carry0 (trip L xi yi slf)
    (fun k s => iprop(⌜s = scan xi yi slf cx cy k⌝ ∗ buf d L cxS cx ∗ buf d L cyS cy)) ?_)
  · rw [show Scf.trips k0_t1_loop.lb k0_t1_loop.ub k0_t1_loop.st = 4096 from trips_eq]
    change (_ : sProp 𝕄) ⊢ _
    iintro ⟨H, HQ⟩
    isplitl [H]
    · isplitr; · ipureintro; rfl
      iexact H
    · iintro %s ⟨%hs, H⟩
      rw [hs]
      iapply HQ; iexact H
  · intro k s
    have hk : k.val < 4096 := lt_of_lt_of_eq k.isLt trips_eq
    iintro ⟨%hs, Hx, Hy⟩
    subst hs
    unfold trip
    have hc : k0_chk1 (broadcast S16 (Scf.iv 0#32 1#32 k.val)) := ⟨(chk_of_inRange (jvec_inRange hk)).1, (chk_of_inRange (jvec_inRange hk)).1⟩
    rw [Prog.bind_lift, wp_assume_of _ _ _ _ hc]
    iapply (wp_gather d L (h := chk_of_inRange (jvec_inRange hk)) (Memref.read_access_whole (Elt F) cxS.view.ref cx)) $$ Hx; iintro Hx
    iapply (wp_gather d L (h := chk_of_inRange (jvec_inRange hk)) (Memref.read_access_whole (Elt F) cyS.view.ref cy)) $$ Hy; iintro Hy
    rw [wp_pure]
    imodintro
    isplitr
    · ipureintro; rfl
    isplitl [Hx] <;> iassumption

/-- The rows `o … o + 15` of a result's row buffer, stored. -/
abbrev storeRows {T : Memref sig .scVector .vmem S112 .f32} (o : ℕ) (ho : ∀ a, (![o] : Fin 1 → ℕ) a + S16.size a ≤ S112.size a)
    (f : Buf (Elt F) (T.view.loc (tile d L))) (w : FVec F S16 .f32) : Buf (Elt F) (T.view.loc (tile d L)) :=
  (T.access (rows o ho)).write (Elt F) f w Finset.univ

set_option maxHeartbeats 1000000 in
/-- The group at row `o`: every scratch array kept but the three results', rewritten at rows `o … o + 15`. -/
theorem group_wp (o : ℕ) (ho : ∀ a, (![o] : Fin 1 → ℕ) a + S16.size a ≤ S112.size a) (slf : IVec S16 32) (hslf : InRange slf)
    (qx : Buf (Elt F) (qxS.view.loc (tile d L))) (qy : Buf (Elt F) (qyS.view.loc (tile d L)))
    (cx : Buf (Elt F) (cxS.view.loc (tile d L))) (cy : Buf (Elt F) (cyS.view.loc (tile d L)))
    (p0 : Buf (Elt F) (p0S.view.loc (tile d L))) (p1 : Buf (Elt F) (p1S.view.loc (tile d L))) (p2 : Buf (Elt F) (p2S.view.loc (tile d L)))
    (s0 : Buf (Elt F) (s0S.view.loc (tile d L))) (s1 : Buf (Elt F) (s1S.view.loc (tile d L))) (s2 : Buf (Elt F) (s2S.view.loc (tile d L)))
    (r : Carry F) (hr : r = scan (rowsOf qx o ho) (rowsOf qy o ho) slf cx cy 4096) :
    iprop(buf d L qxS qx ∗ buf d L qyS qy ∗ buf d L cxS cx ∗ buf d L cyS cy ∗ buf d L p0S p0 ∗ buf d L p1S p1 ∗ buf d L p2S p2
        ∗ buf d L s0S s0 ∗ buf d L s1S s1 ∗ buf d L s2S s2)
      ⊢ wp frame (wpE (defs₀ (F := F)) 𝒱₀ (tile d L) none) Set.univ (group L o ho slf) fun _ =>
          iprop(buf d L qxS qx ∗ buf d L qyS qy ∗ buf d L cxS cx ∗ buf d L cyS cy ∗ buf d L p0S p0 ∗ buf d L p1S p1 ∗ buf d L p2S p2
            ∗ buf d L s0S (storeRows d L (T := s0S) o ho s0 (groupSum p0 slf r)) ∗ buf d L s1S (storeRows d L (T := s1S) o ho s1 (groupSum p1 slf r))
            ∗ buf d L s2S (storeRows d L (T := s2S) o ho s2 (groupSum p2 slf r))) := by
  have hg : GoodCarry r := hr ▸ goodCarry_scan _ _ _ _ _ 4096 le_rfl
  obtain ⟨g1, g2, g3, g4, g5⟩ := hg
  iintro ⟨Hqx, Hqy, Hcx, Hcy, Hp0, Hp1, Hp2, Hs0, Hs1, Hs2⟩
  unfold group
  simp only [Prog.bind_lift]
  iapply (wp_load 𝒱₀ (tile d L) none Set.univ (m := qxS) (S := Finset.univ) (Finset.subset_univ _)) $$ Hqx; iintro Hqx
  iapply (wp_load 𝒱₀ (tile d L) none Set.univ (m := qyS) (S := Finset.univ) (Finset.subset_univ _)) $$ Hqy; iintro Hqy
  rw [wp_assume_of _ _ _ _ (chk_of_inRange hslf), wp_bind]
  iapply (scan_wp d L _ _ _ _ _ r hr) $$ [Hqx Hqy Hcx Hcy Hp0 Hp1 Hp2 Hs0 Hs1 Hs2]
  isplitl [Hcx Hcy]; · isplitl [Hcx] <;> iassumption
  iintro ⟨Hcx, Hcy⟩
  rw [wp_assume_of _ _ _ _ (chk_of_inRange g5), wp_assume_of _ _ _ _ (chk_of_inRange g4), wp_assume_of _ _ _ _ (chk_of_inRange g3),
    wp_assume_of _ _ _ _ (chk_of_inRange g2), wp_assume_of _ _ _ _ (chk_of_inRange g1)]
  iterate 6
    iapply (wp_gather d L (Memref.read_access_whole (Elt F) p0S.view.ref p0)) $$ Hp0; iintro Hp0
    iapply (wp_gather d L (Memref.read_access_whole (Elt F) p1S.view.ref p1)) $$ Hp1; iintro Hp1
    iapply (wp_gather d L (Memref.read_access_whole (Elt F) p2S.view.ref p2)) $$ Hp2; iintro Hp2
  iapply (wp_load 𝒱₀ (tile d L) none Set.univ (m := s0S) (S := Finset.univ) (Finset.subset_univ _)) $$ Hs0; iintro Hs0
  iapply (wp_store 𝒱₀ (tile d L) none Set.univ (m := s0S) (r := rows o ho) (Mk := Finset.univ) (S := Finset.univ) (Finset.subset_univ _)) $$ Hs0; iintro Hs0
  iapply (wp_load 𝒱₀ (tile d L) none Set.univ (m := s1S) (S := Finset.univ) (Finset.subset_univ _)) $$ Hs1; iintro Hs1
  iapply (wp_store 𝒱₀ (tile d L) none Set.univ (m := s1S) (r := rows o ho) (Mk := Finset.univ) (S := Finset.univ) (Finset.subset_univ _)) $$ Hs1; iintro Hs1
  iapply (wp_load 𝒱₀ (tile d L) none Set.univ (m := s2S) (S := Finset.univ) (Finset.subset_univ _)) $$ Hs2; iintro Hs2
  iapply (wp_store 𝒱₀ (tile d L) none Set.univ (m := s2S) (r := rows o ho) (Mk := Finset.univ) (S := Finset.univ) (Finset.subset_univ _)) $$ Hs2; iintro Hs2
  iapply (le_wp_ret frame)
  iframe
  isplitl [Hs0]; · iexact Hs0
  isplitl [Hs1]; · iexact Hs1
  iexact Hs2

end

end Cert.Proof
-- ==== Proof.Copy.lean ====
/-
  A copy and the wait for it, on a tile: the source's elements at any share and the whole destination go in; the
  destination comes back holding what the source held.
-/
module

public import proofs.«01_k».proof.Proof.Group

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section
variable (d : Dev nD) (L : grid0.Coords)

/-- A local copy followed by its wait, whatever the two memories, at the head of a program. -/
theorem copy_wp {sp sp' : Space} {s : Shape} {A : Memref sig .scVector sp s .f32} {hA : A.view.WordExact} {B : Memref sig .scVector sp' s .f32}
    {hB : B.view.WordExact} {c : DmaSems sig S_}
    {k : PUnit → Prog (TpuEff nD τ sig (Elt F) Λ₀ (tile d L).2) PUnit} {Q : PUnit → sProp 𝕄} {q : PosShare TreeShare}
    {fA : Buf (Elt F) (A.view.loc (tile d L))} {fB : Buf (Elt F) (B.view.loc (tile d L))}
    {O : CellTallies nD τ sig (HIx 1)} {W : Waits sig (HIx 1)} (hO : ∀ g, O g none = 0) (hN : 0 < B.view.dmaCredit)
    (hl : DmaTarget.HostLowered (nD := nD) (p := (tile d L).2) sp (.dma c.sem) (.here B)) :
    iprop(levAts (K (F := F)).L (K (F := F)).lev ∗ (A.view.loc (tile d L) ↦[A.view.set]{q} fA) ∗ (B.view.loc (tile d L) ↦[B.view.set]{fullShare} fB)
        ∗ semVal (tile d L, .dma c.sem) 0 ∗ owes (tile d L) O W)
      ⊢ iprop((iprop((A.view.loc (tile d L) ↦[A.view.set]{q} fA)
              ∗ (B.view.loc (tile d L) ↦[B.view.set]{fullShare} (B.view.write (Elt F) fB (A.view.read (Elt F) fA) Finset.univ))
              ∗ semVal (tile d L, .dma c.sem) 0 ∗ owes (tile d L) O (insert (SemLoc.dma c.sem, none) W))
            -∗ wp frame (wpE (defs₀ (F := F)) 𝒱₀ (tile d L) none) Set.univ (k ⟨⟩) Q)
          -∗ wp frame (wpE (defs₀ (F := F)) 𝒱₀ (tile d L) none) Set.univ
              (.op (.enqueueDma A (.here B) (.dma c.sem) hA hB ⟨Or.inl rfl, hl⟩) fun _ => .op (.waitDma2 c.sem A B hA hB) k) Q) := by
  iintro ⟨#Hlv, HA, HB, Hsem, HO⟩ Hk
  iapply (Transfers.wp_dmaLocal countersEmb 𝒱₀ (tile d L) none (none : HIx 1) B.view.dmaCredit rfl hN (Finset.Subset.refl _)) $$ [HA HB Hsem]
  · isplitl [HA]; · iexact HA
    isplitl [HB]; · iexact HB
    iexact Hsem
  iintro Hfl
  iapply (Transfers.wp_waitLocalO countersEmb 𝒱₀ (tile d L) none (none : HIx 1) rfl) $$ [Hfl HO]
  · isplitl [Hfl]; · iexact Hfl
    isplitl [HO]; · iexact HO
    iapply ((K (F := F)).mayWait_none (thr := tile d L) (SemLoc.dma c.sem) hO)
    iexact Hlv
  iintro ⟨⟨HB, HA⟩, Hsem, HO⟩
  iapply Hk
  isplitl [HA]; · iexact HA
  isplitl [HB]; · iexact HB
  isplitl [Hsem] <;> iassumption

/-- A copy into a whole scratch array of the tile. -/
theorem copyIn_wp {s : Shape} {A : Memref sig .scVector .hbm s .f32} {hA : A.view.WordExact} {B : Memref sig .scVector .vmem s .f32}
    {hB : B.view.WordExact} {c : DmaSems sig S_}
    {k : PUnit → Prog (TpuEff nD τ sig (Elt F) Λ₀ (tile d L).2) PUnit} {Q : PUnit → sProp 𝕄} {q : PosShare TreeShare}
    {fA : Buf (Elt F) (A.view.loc (tile d L))} {fB g : Buf (Elt F) (B.view.loc (tile d L))}
    {O : CellTallies nD τ sig (HIx 1)} {W : Waits sig (HIx 1)} (hO : ∀ g, O g none = 0) (hN : 0 < B.view.dmaCredit)
    (hset : B.view.set = Finset.univ) (hg : B.view.write (Elt F) fB (A.view.read (Elt F) fA) Finset.univ = g) :
    iprop(levAts (K (F := F)).L (K (F := F)).lev ∗ (A.view.loc (tile d L) ↦[A.view.set]{q} fA) ∗ buf d L B fB
        ∗ semVal (tile d L, .dma c.sem) 0 ∗ owes (tile d L) O W)
      ⊢ iprop((iprop((A.view.loc (tile d L) ↦[A.view.set]{q} fA) ∗ buf d L B g
              ∗ semVal (tile d L, .dma c.sem) 0 ∗ owes (tile d L) O (insert (SemLoc.dma c.sem, none) W))
            -∗ wp frame (wpE (defs₀ (F := F)) 𝒱₀ (tile d L) none) Set.univ (k ⟨⟩) Q)
          -∗ wp frame (wpE (defs₀ (F := F)) 𝒱₀ (tile d L) none) Set.univ (copyIn L A hA B hB c >>= k) Q) := by
  subst hg
  have h := copy_wp d L (A := A) (B := B) (hA := hA) (hB := hB) (c := c) (k := k) (Q := Q) (q := q)
    (fA := fA) (fB := fB) (W := W) hO hN trivial
  rw [hset] at h
  exact h

/-- A copy of a whole scratch array of the tile out. -/
theorem copyOut_wp {A : Memref sig .scVector .vmem S112 .f32} {hA : A.view.WordExact} {B : Memref sig .scVector .hbm S112 .f32}
    {hB : B.view.WordExact} {c : DmaSems sig S_}
    {k : PUnit → Prog (TpuEff nD τ sig (Elt F) Λ₀ (tile d L).2) PUnit} {Q : PUnit → sProp 𝕄}
    {fA : Buf (Elt F) (A.view.loc (tile d L))} {fB g : Buf (Elt F) (B.view.loc (tile d L))}
    {O : CellTallies nD τ sig (HIx 1)} {W : Waits sig (HIx 1)} (hO : ∀ g, O g none = 0) (hN : 0 < B.view.dmaCredit)
    (hset : A.view.set = Finset.univ) (hg : ∀ i ∈ B.view.set, B.view.write (Elt F) fB (A.view.read (Elt F) fA) Finset.univ i = g i) :
    iprop(levAts (K (F := F)).L (K (F := F)).lev ∗ buf d L A fA ∗ (B.view.loc (tile d L) ↦[B.view.set]{fullShare} fB)
        ∗ semVal (tile d L, .dma c.sem) 0 ∗ owes (tile d L) O W)
      ⊢ iprop((iprop(buf d L A fA ∗ (B.view.loc (tile d L) ↦[B.view.set]{fullShare} g)
              ∗ semVal (tile d L, .dma c.sem) 0 ∗ owes (tile d L) O (insert (SemLoc.dma c.sem, none) W))
            -∗ wp frame (wpE (defs₀ (F := F)) 𝒱₀ (tile d L) none) Set.univ (k ⟨⟩) Q)
          -∗ wp frame (wpE (defs₀ (F := F)) 𝒱₀ (tile d L) none) Set.univ (copyOut L A hA B hB c >>= k) Q) := by
  have h := copy_wp d L (A := A) (B := B) (hA := hA) (hB := hB) (c := c) (k := k) (Q := Q) (q := fullShare)
    (fA := fA) (fB := fB) (W := W) hO hN trivial
  rw [hset, pointsTo_congr (ℓ := B.view.loc (tile d L)) (I := B.view.set) hg] at h
  exact h

end

end Cert.Proof
-- ==== Proof.Values.lean ====
/-
  What the SparseCore call computes, as one function of the arrays it reads: entry `n` of a result is the sum of the six
  selected nodes' coordinate for the query of row `n`; and what a tile's row buffers hold, as parts of those arrays.
-/
module

public import proofs.«01_k».proof.Proof.Scan

@[expose] public section

noncomputable section

namespace Cert.Proof

open Cert.KernelIdeal Cert.KernelIdeal.Gen
open Idealize.ShloMosaic Idealize.SL.Sem

variable {F : FTy → Type} [FloatOps F]

/-- Two positions of a rank-one array with the same number are the same. -/
theorem idx1_ext {n : ℕ} {i j : (⟨1, ![n]⟩ : Shape).Idx} (h : (i 0).val = (j 0).val) : i = j := by
  funext a; fin_cases a; exact Fin.ext h

/-- Entry `n` of an array of 3584, counted round. -/
def get3584 (q : Vec F S3584 .f32) (n : ℕ) : Elt F .f32 := q (at1 (n % 3584) (Nat.mod_lt _ (by decide)))

/-- The nodes the sixteen queries of group `g` are: the call's rows are the nodes from 512 on. -/
def selfV (g : ℕ) : IVec S16 32 := fun l => BitVec.ofNat 32 (512 + 16 * g + (l 0).val)

/-- Group `g`'s sixteen entries of a query array. -/
def blk (q : Vec F S3584 .f32) (g : ℕ) : Vec F S16 .f32 := fun l => get3584 q (16 * g + (l 0).val)

/-- One result of the call: entry `n` is the sum of table `p` at the query itself and at the five nearest others. -/
def outVal (qx qy : Vec F S3584 .f32) (cx cy p : Vec F S4096 .f32) : Vec F S3584 .f32 := fun n =>
  groupSum p (selfV ((n 0).val / 16))
    (scan (blk qx ((n 0).val / 16)) (blk qy ((n 0).val / 16)) (selfV ((n 0).val / 16)) cx cy 4096)
    (at1 ((n 0).val % 16) (Nat.mod_lt _ (by decide)))

/-- The number of the tile at a grid point: the subcore's number doubled, plus the SparseCore's. -/
def wOf (L : grid0.Coords) : ℕ := 2 * (L 1).val + (L 0).val

/-- There are 32 tiles. -/
theorem wOf_lt (L : grid0.Coords) : wOf L < 32 := by
  have h0 : (L 0).val < 2 := (L 0).isLt
  have h1 : (L 1).val < 16 := (L 1).isLt
  unfold wOf; omega

/-- Tile `w`'s 112 entries of a query array. -/
def tileRows (w : ℕ) (q : Vec F S3584 .f32) : Vec F S112 .f32 := fun j => get3584 q (112 * w + (j 0).val)

/-- Sixteen entries of a tile's operand are a block of the whole operand. -/
theorem rowsOf_tileRows (w : ℕ) (q : Vec F S3584 .f32) (o : ℕ) (ho : ∀ a, (![o] : Fin 1 → ℕ) a + S16.size a ≤ S112.size a) (h16 : o % 16 = 0) :
    rowsOf (tileRows w q) o ho = blk q (7 * w + o / 16) := by
  funext l
  show get3584 q (112 * w + ((rows o ho).idx l 0).val) = get3584 q (16 * (7 * w + o / 16) + (l 0).val)
  have h : ((rows o ho).idx l 0).val = o + (l 0).val := by show o + 1 * (l 0).val = _; omega
  rw [h]; congr 1; omega

/-- The nodes of a tile's group, by the group's number. -/
theorem selfVec_eq (L : grid0.Coords) (o : ℕ) (ho : o < 112) (h16 : o % 16 = 0) : selfVec L (BitVec.ofNat 32 o) = selfV (7 * wOf L + o / 16) := by
  have hw := wOf_lt L
  have h0 : (L 0).val < 2 := (L 0).isLt
  have h1 : (L 1).val < 16 := (L 1).isLt
  funext l
  have hl : (l 0).val < 16 := (l 0).isLt
  apply BitVec.eq_of_toNat_eq
  unfold wOf at *
  simp only [selfVec, selfV, tileRow, addi, broadcast, iota, Scalar.addi, Scalar.muli, IntOp.addi, IntOp.muli]
  simp
  omega

/-- Their numbers. -/
theorem selfV_toNat {g : ℕ} (hg : g < 224) (l : S16.Idx) : (selfV g l).toNat = 512 + 16 * g + (l 0).val := by
  have hl : (l 0).val < 16 := (l 0).isLt
  unfold selfV; rw [BitVec.toNat_ofNat]; omega

/-- They are inside the table. -/
theorem selfV_inRange {g : ℕ} (hg : g < 224) : InRange (selfV g) := fun l => by
  have hl : (l 0).val < 16 := (l 0).isLt
  rw [selfV_toNat hg]; omega

/-- The first `o` entries of a tile's row buffer hold the tile's part of the result `G`. -/
def Filled (w o : ℕ) (f : Vec F S112 .f32) (G : Vec F S3584 .f32) : Prop :=
  ∀ j : S112.Idx, (j 0).val < o → f j = get3584 G (112 * w + (j 0).val)

/-- A group's sums are the result's entries. -/
theorem outVal_group (qx qy : Vec F S3584 .f32) (cx cy p : Vec F S4096 .f32) {g : ℕ} (hg : g < 224) (l : S16.Idx) :
    groupSum p (selfV g) (scan (blk qx g) (blk qy g) (selfV g) cx cy 4096) l = get3584 (outVal qx qy cx cy p) (16 * g + (l 0).val) := by
  have hl : (l 0).val < 16 := (l 0).isLt
  have hn : (16 * g + (l 0).val) % 3584 = 16 * g + (l 0).val := Nat.mod_eq_of_lt (by omega)
  have hd : (16 * g + (l 0).val) % 3584 / 16 = g := by omega
  have hm : (16 * g + (l 0).val) % 3584 % 16 = (l 0).val := by omega
  unfold get3584 outVal
  show _ = groupSum p (selfV ((16 * g + (l 0).val) % 3584 / 16)) _ _
  simp only [Shape.ofLane]
  show groupSum p (selfV g) (scan (blk qx g) (blk qy g) (selfV g) cx cy 4096) l
    = groupSum p (selfV ((16 * g + (l 0).val) % 3584 / 16)) (scan (blk qx ((16 * g + (l 0).val) % 3584 / 16)) (blk qy ((16 * g + (l 0).val) % 3584 / 16))
        (selfV ((16 * g + (l 0).val) % 3584 / 16)) cx cy 4096) (at1 ((16 * g + (l 0).val) % 3584 % 16) (Nat.mod_lt _ (by decide)))
  rw [hd]
  congr 1
  exact idx1_ext hm.symm

end Cert.Proof
-- ==== Proof.Tile.lean ====
/-
  The vector subcore's kernel, run at any tile: from shares of the seven arrays it reads and its 112 rows of the three
  results, it ends with those rows holding the call's values.
-/
module

public import proofs.«01_k».proof.Proof.Copy
public import proofs.«01_k».proof.Proof.Values

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile's scratch arrays and semaphores, out of all it owns -/

section
variable (d : Dev nD) (L : grid0.Coords)

/-- The ten scratch arrays. -/
def scr : Fin 10 → Ref sig .scVector :=
  ![cc0_scratch0, cc0_scratch1, cc0_scratch2, cc0_scratch3, cc0_scratch4, cc0_scratch5, cc0_scratch6, cc0_scratch7, cc0_scratch8, cc0_scratch9]

/-- The ten copies' semaphores. -/
def cop : Fin 10 → DmaSem sig :=
  ![cc0_scoped0.sem, cc0_scoped1.sem, cc0_scoped2.sem, cc0_scoped3.sem, cc0_scoped4.sem, cc0_scoped5.sem, cc0_scoped6.sem, cc0_scoped7.sem,
    cc0_scoped8.sem, cc0_scoped9.sem]

/-- The ten scratch arrays are different arrays. -/
theorem scr_injective : Function.Injective scr := by decide
/-- The ten copies' counters are different counters. -/
theorem cop_injective : Function.Injective cop := by decide
/-- A scratch array is its own tile's. -/
theorem scr_owner (p : Fin τ.nSC) (j : Fin τ.nSub) : ∀ i : Fin 10, ((Proc.scVector p j).devRef (scr i)).owner = .proc (.scVector p j) := by
  intro i; fin_cases i <;> rfl
/-- A copy's counter is opened for the copy. -/
theorem cop_scoped : ∀ i : Fin 10, (SemLoc.dma (cop i) : SemLoc sig).isScoped .scVector = true := by decide

/-- A conjunction over ten members, one by one. -/
theorem bigSep_ten {M : Type} [URA M] (Φ : Fin 10 → sProp M) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_W2 Φ

/-- What the tile owns beside the ten scratch arrays. -/
def restBufs : sProp 𝕄 :=
  bigSep (ownRefs (τ := τ) (sig := sig) (tile d L).2 \ Finset.univ.image fun i => (tile d L).2.devRef (scr i))
    fun b => iprop(∃ f, ((d, b) : Loc nD τ sig) ↦{fullShare} f)

/-- The cells the tile owns beside the ten copies'. -/
def restSems : sProp 𝕄 :=
  bigSep (ownCells (tile d L) \ Finset.univ.image fun i => ((tile d L, .dma (cop i)) : GSem nD τ sig)) fun g => semVal g 0

/-- A conjunction over a set is the one over the images of a family of its members, and the rest. -/
theorem bigSep_family {M : Type} [URA M] {I J : Type} [DecidableEq I] [DecidableEq J] [Fintype J] {s : Finset I} {f : J → I}
    (hf : Function.Injective f) (hs : ∀ j, f j ∈ s) (Φ : I → sProp M) :
    bigSep s Φ = iprop((bigSep Finset.univ fun j => Φ (f j)) ∗ bigSep (s \ Finset.univ.image f) Φ) := by
  rw [SparseCore.bigSep_sdiff_split' (t := Finset.univ.image f) (fun x hx => by
    obtain ⟨j, -, rfl⟩ := Finset.mem_image.mp hx; exact hs j), bigSep_image_of_injOn (fun _ _ _ _ e => hf e)]

/-- A tile's arrays: the ten and the rest. -/
theorem ownBufs_tile : (ownBufs (tile d L) : sProp 𝕄)
    = iprop((bigSep Finset.univ fun i : Fin 10 => iprop(∃ f, (tile d L).loc (scr i) ↦{fullShare} f)) ∗ restBufs d L) :=
  bigSep_family (f := fun i : Fin 10 => (tile d L).2.devRef (scr i))
    (fun _ _ e => scr_injective (Proc.devRef_injective _ e)) (fun i => SparseCore.Cfg.mem_ownRefs_of_owner (scr_owner _ _ i)) _

/-- A tile's counters: the ten and the rest. -/
theorem ownSems_tile : (ownSems0 (tile d L) : sProp 𝕄)
    = iprop((bigSep Finset.univ fun i : Fin 10 => semVal (tile d L, .dma (cop i)) 0) ∗ restSems d L) :=
  bigSep_family (f := fun i : Fin 10 => ((tile d L, .dma (cop i)) : GSem nD τ sig))
    (fun _ _ e => cop_injective (by simpa using e)) (fun i => mem_ownCells.mpr ⟨rfl, cop_scoped i⟩) _

/-! ## A group's step of the row buffers -/

/-- Storing a group's sixteen entries extends what the row buffer holds of the result. -/
theorem filled_storeRows {T : Memref sig .scVector .vmem S112 .f32} {w o : ℕ} (ho : ∀ a, (![o] : Fin 1 → ℕ) a + S16.size a ≤ S112.size a)
    {f : Buf (Elt F) (T.view.loc (tile d L))} {v : FVec F S16 .f32} {G : Vec F S3584 .f32}
    (hf : Filled w o (T.view.read (Elt F) f) G) (hv : ∀ l : S16.Idx, v l = get3584 G (112 * w + (o + (l 0).val))) :
    Filled w (o + 16) (T.view.read (Elt F) (storeRows d L (T := T) o ho f v)) G := by
  intro j hj
  show T.view.read (Elt F) (T.view.writes (Elt F) f [⟨rows o ho, v⟩]) j = _
  by_cases h : (j 0).val < o
  · rw [View.read_writes_cons_miss_of_axis _ _ _ _ _ (0 : Fin 1) o 16 rfl rfl rfl (.inl h)]
    exact hf j h
  · have hx : (j 0).val - o < 16 := by omega
    rw [View.read_writes_cons_hit_of_coords _ _ _ _ _ (at1 ((j 0).val - o) hx) j (fun a => by
      fin_cases a
      show (j 0).val = o + 1 * ((j 0).val - o)
      omega), hv]
    show get3584 G (112 * w + (o + ((j 0).val - o))) = _
    congr 1; omega

/-- The ten scratch arrays after the groups below row `o`: the copied-in tables, and the three row buffers holding the
    results' first `o` entries. -/
def Inv (o : ℕ) (qx qy : Vec F S3584 .f32) (cx cy p0 p1 p2 : Vec F S4096 .f32) : sProp 𝕄 :=
  iprop(∃ (s0 : Buf (Elt F) (s0S.view.loc (tile d L))) (s1 : Buf (Elt F) (s1S.view.loc (tile d L))) (s2 : Buf (Elt F) (s2S.view.loc (tile d L))),
    ⌜Filled (wOf L) o (s0S.view.read (Elt F) s0) (outVal qx qy cx cy p0) ∧ Filled (wOf L) o (s1S.view.read (Elt F) s1) (outVal qx qy cx cy p1)
      ∧ Filled (wOf L) o (s2S.view.read (Elt F) s2) (outVal qx qy cx cy p2)⌝
    ∗ buf d L qxS (tileRows (wOf L) qx) ∗ buf d L qyS (tileRows (wOf L) qy) ∗ buf d L cxS cx ∗ buf d L cyS cy ∗ buf d L p0S p0 ∗ buf d L p1S p1
    ∗ buf d L p2S p2 ∗ buf d L s0S s0 ∗ buf d L s1S s1 ∗ buf d L s2S s2)

/-- One group: from the results' first `o` entries to their first `o + 16`. -/
theorem group_inv (o : ℕ) (ho : ∀ a, (![o] : Fin 1 → ℕ) a + S16.size a ≤ S112.size a) (h16 : o % 16 = 0)
    (qx qy : Vec F S3584 .f32) (cx cy p0 p1 p2 : Vec F S4096 .f32)
    {k : PUnit → Prog (TpuEff nD τ sig (Elt F) Λ₀ (tile d L).2) PUnit} {Q : PUnit → sProp 𝕄} :
    Inv d L o qx qy cx cy p0 p1 p2
      ⊢ iprop((Inv d L (o + 16) qx qy cx cy p0 p1 p2 -∗ wp frame (wpE (defs₀ (F := F)) 𝒱₀ (tile d L) none) Set.univ (k ⟨⟩) Q)
          -∗ wp frame (wpE (defs₀ (F := F)) 𝒱₀ (tile d L) none) Set.univ (group L o ho (selfVec L (BitVec.ofNat 32 o)) >>= k) Q) := by
  have h0 : o + 16 ≤ 112 := ho 0
  have hw := wOf_lt L
  have hg : 7 * wOf L + o / 16 < 224 := by omega
  have hself := selfVec_eq L o (by omega) h16
  have hv : ∀ (p : Vec F S4096 .f32) (l : S16.Idx),
      groupSum p (selfVec L (BitVec.ofNat 32 o)) (scan (rowsOf (tileRows (wOf L) qx) o ho) (rowsOf (tileRows (wOf L) qy) o ho)
        (selfVec L (BitVec.ofNat 32 o)) cx cy 4096) l = get3584 (outVal qx qy cx cy p) (112 * wOf L + (o + (l 0).val)) := by
    intro p l
    rw [hself, rowsOf_tileRows _ _ _ _ h16, rowsOf_tileRows _ _ _ _ h16, outVal_group _ _ _ _ _ hg]
    congr 1; omega
  unfold Inv
  iintro ⟨%s0, %s1, %s2, ⟨%hf0, %hf1, %hf2⟩, H⟩ Hk
  rw [wp_bind]
  ihave Hw := (group_wp d L o ho (selfVec L (BitVec.ofNat 32 o)) (hself ▸ selfV_inRange hg) (tileRows (wOf L) qx) (tileRows (wOf L) qy) cx cy p0 p1 p2
    s0 s1 s2 _ rfl) $$ H
  iapply (wp_wand frame (wpE (defs₀ (F := F)) 𝒱₀ (tile d L) none) Set.univ) $$ Hw
  iintro %_ H
  iapply Hk
  iexists _, _, _
  isplitr
  swap
  · iexact H
  · ipureintro
    exact ⟨filled_storeRows d L ho hf0 (hv p0), filled_storeRows d L ho hf1 (hv p1), filled_storeRows d L ho hf2 (hv p2)⟩

end

end Cert.Proof
-- ==== Proof.TileBody.lean ====
/-
  The whole of a tile's kernel: the seven copies in, the seven groups, the three copies out.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A buffer of the device, as the TensorCore names it. -/
abbrev at_ (d : Dev nD) (b : Ref sig .tc) : Loc nD τ sig := (SparseCore.T d).loc b

/-- Tile `w`'s rows of a result. -/
def outSet (w : ℕ) : Finset S3584.Idx := Finset.univ.filter fun n => (n 0).val / 112 = w

section
variable (d : Dev nD) (L : grid0.Coords)

/-- A tile's share of a result, by number. -/
theorem mem_outRect (n : S3584.Idx) : n ∈ (outRect L).set ↔ (n 0).val / 112 = wOf L := by
  have hw := wOf_lt L
  have hoff : (outRect L).off 0 = 112 * wOf L := by
    show k0_off2 L 0 = _
    rw [k0_off2_eq]; show 224 * (L 1).val + 112 * (L 0).val = _
    unfold wOf; omega
  rw [LoadRect.mem_set]
  constructor
  · intro h
    obtain ⟨j, hj, he⟩ := h 0
    rw [hoff] at he
    have hj' : j < 112 := hj
    have : (outRect L).stride 0 = 1 := rfl
    rw [this] at he; omega
  · intro h a
    fin_cases a
    refine ⟨(n 0).val - 112 * wOf L, ?_, ?_⟩
    · show (n 0).val - 112 * wOf L < 112; omega
    · show (n 0).val = (outRect L).off 0 + 1 * _
      rw [hoff]; omega

/-- It is the share the launch gives it. -/
theorem outRect_set : (outRect L).set = outSet (wOf L) := by
  ext n; rw [mem_outRect]; simp [outSet]

/-- Where an entry of a tile's operand stands in the whole operand. -/
theorem inRect_emb (x : S112.Idx) : (((inRect L).emb x : S3584.Idx) 0).val = 112 * wOf L + (x 0).val := by
  show k0_off1 L 0 + 1 * (x 0).val = _
  rw [k0_off1_eq]; show 224 * (L 1).val + 112 * (L 0).val + 1 * (x 0).val = _
  unfold wOf; omega

/-- Where an entry of a tile's result stands in the whole result. -/
theorem outRect_emb (x : S112.Idx) : (((outRect L).emb x : S3584.Idx) 0).val = 112 * wOf L + (x 0).val := by
  show k0_off2 L 0 + 1 * (x 0).val = _
  rw [k0_off2_eq]; show 224 * (L 1).val + 112 * (L 0).val + 1 * (x 0).val = _
  unfold wOf; omega

omit [FloatOps F] in
/-- An entry by its number. -/
theorem get3584_emb (q : Vec F S3584 .f32) {n : S3584.Idx} {k : ℕ} (h : (n 0).val = k) : get3584 q k = q n := by
  unfold get3584
  refine congrArg q (idx1_ext ?_)
  have : (n 0).val < 3584 := (n 0).isLt
  show k % 3584 = _
  omega

/-- What a tile is handed: a share of each array it reads, and its rows of the three results. -/
def tileIn (d : Dev nD) (w : ℕ) (q : PosShare TreeShare) (qx qy : Vec F S3584 .f32) (cx cy p0 p1 p2 : Vec F S4096 .f32) (o0 o1 o2 : Vec F S3584 .f32) : sProp 𝕄 :=
  iprop((at_ d main_v10 ↦{q} (qx : Buf (Elt F) (at_ d main_v10))) ∗ (at_ d main_v12 ↦{q} (qy : Buf (Elt F) (at_ d main_v12)))
    ∗ (at_ d main_v14 ↦{q} (cx : Buf (Elt F) (at_ d main_v14))) ∗ (at_ d main_v16 ↦{q} (cy : Buf (Elt F) (at_ d main_v16)))
    ∗ (at_ d main_v18 ↦{q} (p0 : Buf (Elt F) (at_ d main_v18))) ∗ (at_ d main_v20 ↦{q} (p1 : Buf (Elt F) (at_ d main_v20)))
    ∗ (at_ d main_v22 ↦{q} (p2 : Buf (Elt F) (at_ d main_v22)))
    ∗ (at_ d main_v23_0 ↦[outSet w]{fullShare} (o0 : Buf (Elt F) (at_ d main_v23_0)))
    ∗ (at_ d main_v23_1 ↦[outSet w]{fullShare} (o1 : Buf (Elt F) (at_ d main_v23_1)))
    ∗ (at_ d main_v23_2 ↦[outSet w]{fullShare} (o2 : Buf (Elt F) (at_ d main_v23_2))))

/-- A copy in, the elements read named by their set. -/
theorem copyIn_set {s : Shape} {A : Memref sig .scVector .hbm s .f32} {hA : A.view.WordExact} {B : Memref sig .scVector .vmem s .f32}
    {hB : B.view.WordExact} {c : DmaSems sig S_}
    {k : PUnit → Prog (TpuEff nD τ sig (Elt F) Λ₀ (tile d L).2) PUnit} {Q : PUnit → sProp 𝕄} {q : PosShare TreeShare}
    {I : Finset (A.view.loc (tile d L)).ty.Idx}
    {fA : Buf (Elt F) (A.view.loc (tile d L))} {fB g : Buf (Elt F) (B.view.loc (tile d L))}
    {O : CellTallies nD τ sig (HIx 1)} {W : Waits sig (HIx 1)} (hO : ∀ g, O g none = 0) (hN : 0 < B.view.dmaCredit) (hI : A.view.set = I)
    (hset : B.view.set = Finset.univ) (hg : B.view.write (Elt F) fB (A.view.read (Elt F) fA) Finset.univ = g) :
    iprop(levAts (K (F := F)).L (K (F := F)).lev ∗ (A.view.loc (tile d L) ↦[I]{q} fA) ∗ buf d L B fB
        ∗ semVal (tile d L, .dma c.sem) 0 ∗ owes (tile d L) O W)
      ⊢ iprop((iprop((A.view.loc (tile d L) ↦[I]{q} fA) ∗ buf d L B g
              ∗ semVal (tile d L, .dma c.sem) 0 ∗ owes (tile d L) O (insert (SemLoc.dma c.sem, none) W))
            -∗ wp frame (wpE (defs₀ (F := F)) 𝒱₀ (tile d L) none) Set.univ (k ⟨⟩) Q)
          -∗ wp frame (wpE (defs₀ (F := F)) 𝒱₀ (tile d L) none) Set.univ (copyIn L A hA B hB c >>= k) Q) := by
  subst hI
  exact copyIn_wp d L hO hN hset hg

/-- A copy out, the elements written named by their set. -/
theorem copyOut_set {A : Memref sig .scVector .vmem S112 .f32} {hA : A.view.WordExact} {B : Memref sig .scVector .hbm S112 .f32}
    {hB : B.view.WordExact} {c : DmaSems sig S_}
    {k : PUnit → Prog (TpuEff nD τ sig (Elt F) Λ₀ (tile d L).2) PUnit} {Q : PUnit → sProp 𝕄}
    {I : Finset (B.view.loc (tile d L)).ty.Idx}
    {fA : Buf (Elt F) (A.view.loc (tile d L))} {fB g : Buf (Elt F) (B.view.loc (tile d L))}
    {O : CellTallies nD τ sig (HIx 1)} {W : Waits sig (HIx 1)} (hO : ∀ g, O g none = 0) (hN : 0 < B.view.dmaCredit) (hI : B.view.set = I)
    (hset : A.view.set = Finset.univ) (hg : ∀ i ∈ B.view.set, B.view.write (Elt F) fB (A.view.read (Elt F) fA) Finset.univ i = g i) :
    iprop(levAts (K (F := F)).L (K (F := F)).lev ∗ buf d L A fA ∗ (B.view.loc (tile d L) ↦[I]{fullShare} fB)
        ∗ semVal (tile d L, .dma c.sem) 0 ∗ owes (tile d L) O W)
      ⊢ iprop((iprop(buf d L A fA ∗ (B.view.loc (tile d L) ↦[I]{fullShare} g)
              ∗ semVal (tile d L, .dma c.sem) 0 ∗ owes (tile d L) O (insert (SemLoc.dma c.sem, none) W))
            -∗ wp frame (wpE (defs₀ (F := F)) 𝒱₀ (tile d L) none) Set.univ (k ⟨⟩) Q)
          -∗ wp frame (wpE (defs₀ (F := F)) 𝒱₀ (tile d L) none) Set.univ (copyOut L A hA B hB c >>= k) Q) := by
  subst hI
  exact copyOut_wp d L hO hN hset hg

/-- A copy of 112 numbers counts for something. -/
theorem credit112 {sp : Space} (v : View sig .scVector sp S112 .f32) : 0 < v.dmaCredit := v.dmaCredit_pos (by decide)
/-- So does one of 4096. -/
theorem credit4096 {sp : Space} (v : View sig .scVector sp S4096 .f32) : 0 < v.dmaCredit := v.dmaCredit_pos (by decide)

omit [FloatOps F] in
/-- A slice of rows written whole with a result's values, on the slice. -/
theorem write_rows (b : Ref sig .scVector) (r : Rect b.ty.shape) (fB : b.ty.Contents (Elt F)) (w : r.shape.Idx → Elt F b.ty.elt)
    (g : b.ty.Contents (Elt F)) (h : ∀ x, w x = g (r.emb x)) :
    ∀ i ∈ ((View.whole b).slice r).set, ((View.whole b).slice r).write (Elt F) fB w Finset.univ i = g i := by
  intro i hi
  obtain ⟨x, -, rfl⟩ := Finset.mem_map.mp hi
  rw [View.write_emb_of_mem _ _ (Finset.mem_univ x)]
  exact h x

set_option maxHeartbeats 2000000 in
/-- The kernel on the tile at grid point `L`. -/
theorem tile_body (q : PosShare TreeShare) (qx qy : Vec F S3584 .f32) (cx cy p0 p1 p2 : Vec F S4096 .f32) (o0 o1 o2 : Vec F S3584 .f32)
    (O : CellTallies nD τ sig (HIx 1)) (W : Waits sig (HIx 1)) (hO : ∀ g, O g none = 0) :
    iprop(levAts (K (F := F)).L (K (F := F)).lev ∗ emp ∗ tileIn d (wOf L) q qx qy cx cy p0 p1 p2 o0 o1 o2
        ∗ scopedBufs (tile d L) ∗ scopedSems0 (tile d L) ∗ owes (tile d L) O W)
      ⊢ wp frame (wpE (defs₀ (F := F)) 𝒱₀ (tile d L) none) Set.univ (tileBody (F := F) L)
          fun _ => iprop(tileIn d (wOf L) q qx qy cx cy p0 p1 p2 (outVal qx qy cx cy p0) (outVal qx qy cx cy p1) (outVal qx qy cx cy p2)
            ∗ scopedBufs (tile d L) ∗ scopedSems0 (tile d L)
            ∗ ∃ W', ⌜∀ p ∈ W', p ∈ W ∨ p.2 = none⌝ ∗ owes (tile d L) O W') := by
  have hnv : ∀ (x : Vec F S3584 .f32), ((fun y => x ((inRect L).emb y)) : Vec F S112 .f32) = tileRows (wOf L) x := fun x => by
    funext y; exact (get3584_emb x (inRect_emb L y)).symm
  have hout : ∀ (f : Vec F S112 .f32) (G : Vec F S3584 .f32), Filled (wOf L) 112 f G → ∀ x, f x = G ((outRect L).emb x) := fun f G h x =>
    (h x (x 0).isLt).trans (get3584_emb G (outRect_emb L x))
  have hset : outSet (wOf L) = (outRect L).set := (outRect_set L).symm
  have hsub : (inRect L).set ⊆ Finset.univ := Finset.subset_univ _
  rw [(K (F := F)).scopedBufs_V facts d _ _, SparseCore.Cfg.scopedSems0_V (Val := Elt F) d _ _, ownBufs_tile d L, ownSems_tile d L, bigSep_ten, bigSep_ten]
  unfold tileIn
  rw [hset]
  iintro ⟨#Hlv, -, ⟨Hqx, Hqy, Hcx, Hcy, Hp0, Hp1, Hp2, Ho0, Ho1, Ho2⟩,
    ⟨⟨⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩⟩, Hbufs⟩,
    ⟨⟨S0, S1, S2, S3, S4, S5, S6, S7, S8, S9⟩, Hsems⟩, HO⟩
  ihave Hqx' := (pointsTo_split_subset (ℓ := at_ d main_v10) (q := q) (f := qx) hsub).1 $$ Hqx
  icases Hqx' with ⟨Hqx, Hqxr⟩
  ihave Hqy' := (pointsTo_split_subset (ℓ := at_ d main_v12) (q := q) (f := qy) hsub).1 $$ Hqy
  icases Hqy' with ⟨Hqy, Hqyr⟩
  rw [← Prog.bind_pure (tileBody L)]
  unfold tileBody
  simp only [bind_assoc]
  iapply (copyIn_set d L (q := q) (A := qxA.slice (inRect L) (fun _ => rfl)) (B := qxS) (fA := qx) (g := tileRows (wOf L) qx) hO (credit112 _) (View.set_slice_whole _ _) (View.set_whole _) ((View.write_whole_univ (Val := Elt F) _ _ _).trans (hnv qx))) $$ [Hqx B0 S0 HO]
  · isplitr
    · iexact Hlv
    · isplitl [Hqx]
      · iexact Hqx
      · isplitl [B0]
        · iexact B0
        · isplitl [S0]
          · iexact S0
          · iexact HO
  iintro ⟨Hqx, B0, S0, HO⟩
  iapply (copyIn_set d L (q := q) (A := qyA.slice (inRect L) (fun _ => rfl)) (B := qyS) (fA := qy) (g := tileRows (wOf L) qy) hO (credit112 _) (View.set_slice_whole _ _) (View.set_whole _) ((View.write_whole_univ (Val := Elt F) _ _ _).trans (hnv qy))) $$ [Hqy B1 S1 HO]
  · isplitr
    · iexact Hlv
    · isplitl [Hqy]
      · iexact Hqy
      · isplitl [B1]
        · iexact B1
        · isplitl [S1]
          · iexact S1
          · iexact HO
  iintro ⟨Hqy, B1, S1, HO⟩
  iapply (copyIn_set d L (q := q) (A := cxA) (B := cxS) (fA := cx) (g := cx) hO (credit4096 _) (View.set_whole _) (View.set_whole _) (View.write_whole_univ (Val := Elt F) _ _ _)) $$ [Hcx B2 S2 HO]
  · isplitr
    · iexact Hlv
    · isplitl [Hcx]
      · iexact Hcx
      · isplitl [B2]
        · iexact B2
        · isplitl [S2]
          · iexact S2
          · iexact HO
  iintro ⟨Hcx, B2, S2, HO⟩
  iapply (copyIn_set d L (q := q) (A := cyA) (B := cyS) (fA := cy) (g := cy) hO (credit4096 _) (View.set_whole _) (View.set_whole _) (View.write_whole_univ (Val := Elt F) _ _ _)) $$ [Hcy B3 S3 HO]
  · isplitr
    · iexact Hlv
    · isplitl [Hcy]
      · iexact Hcy
      · isplitl [B3]
        · iexact B3
        · isplitl [S3]
          · iexact S3
          · iexact HO
  iintro ⟨Hcy, B3, S3, HO⟩
  iapply (copyIn_set d L (q := q) (A := p0A) (B := p0S) (fA := p0) (g := p0) hO (credit4096 _) (View.set_whole _) (View.set_whole _) (View.write_whole_univ (Val := Elt F) _ _ _)) $$ [Hp0 B4 S4 HO]
  · isplitr
    · iexact Hlv
    · isplitl [Hp0]
      · iexact Hp0
      · isplitl [B4]
        · iexact B4
        · isplitl [S4]
          · iexact S4
          · iexact HO
  iintro ⟨Hp0, B4, S4, HO⟩
  iapply (copyIn_set d L (q := q) (A := p1A) (B := p1S) (fA := p1) (g := p1) hO (credit4096 _) (View.set_whole _) (View.set_whole _) (View.write_whole_univ (Val := Elt F) _ _ _)) $$ [Hp1 B5 S5 HO]
  · isplitr
    · iexact Hlv
    · isplitl [Hp1]
      · iexact Hp1
      · isplitl [B5]
        · iexact B5
        · isplitl [S5]
          · iexact S5
          · iexact HO
  iintro ⟨Hp1, B5, S5, HO⟩
  iapply (copyIn_set d L (q := q) (A := p2A) (B := p2S) (fA := p2) (g := p2) hO (credit4096 _) (View.set_whole _) (View.set_whole _) (View.write_whole_univ (Val := Elt F) _ _ _)) $$ [Hp2 B6 S6 HO]
  · isplitr
    · iexact Hlv
    · isplitl [Hp2]
      · iexact Hp2
      · isplitl [B6]
        · iexact B6
        · isplitl [S6]
          · iexact S6
          · iexact HO
  iintro ⟨Hp2, B6, S6, HO⟩
  ihave HI : Inv d L 0 qx qy cx cy p0 p1 p2 $$ [B0 B1 B2 B3 B4 B5 B6 B7 B8 B9]
  · unfold Inv
    iexists f7; iexists f8; iexists f9
    isplitr
    · ipureintro
      exact ⟨fun _ h => absurd h (Nat.not_lt_zero _), fun _ h => absurd h (Nat.not_lt_zero _), fun _ h => absurd h (Nat.not_lt_zero _)⟩
    · isplitl [B0]
      · iexact B0
      · isplitl [B1]
        · iexact B1
        · isplitl [B2]
          · iexact B2
          · isplitl [B3]
            · iexact B3
            · isplitl [B4]
              · iexact B4
              · isplitl [B5]
                · iexact B5
                · isplitl [B6]
                  · iexact B6
                  · isplitl [B7]
                    · iexact B7
                    · isplitl [B8]
                      · iexact B8
                      · iexact B9
  iapply (group_inv d L 0 inb_S112_S16_0 rfl qx qy cx cy p0 p1 p2) $$ HI
  iintro HI
  iapply (group_inv d L 16 inb_S112_S16_16 rfl qx qy cx cy p0 p1 p2) $$ HI
  iintro HI
  iapply (group_inv d L 32 inb_S112_S16_32 rfl qx qy cx cy p0 p1 p2) $$ HI
  iintro HI
  iapply (group_inv d L 48 inb_S112_S16_48 rfl qx qy cx cy p0 p1 p2) $$ HI
  iintro HI
  iapply (group_inv d L 64 inb_S112_S16_64 rfl qx qy cx cy p0 p1 p2) $$ HI
  iintro HI
  iapply (group_inv d L 80 inb_S112_S16_80 rfl qx qy cx cy p0 p1 p2) $$ HI
  iintro HI
  iapply (group_inv d L 96 inb_S112_S16_96 rfl qx qy cx cy p0 p1 p2) $$ HI
  iintro HI
  unfold Inv
  icases HI with ⟨%s0, %s1, %s2, %hF, B0, B1, B2, B3, B4, B5, B6, B7, B8, B9⟩
  have hg0 : ∀ i ∈ (o0A.slice (outRect L) (fun _ => rfl)).view.set, (o0A.slice (outRect L) (fun _ => rfl)).view.write (Elt F) o0
      (s0S.view.read (Elt F) s0) Finset.univ i = outVal qx qy cx cy p0 i := write_rows _ _ _ _ _ (hout _ _ hF.1)
  iapply (copyOut_set d L (A := s0S) (B := o0A.slice (outRect L) (fun _ => rfl)) (fA := s0) (fB := o0) (g := outVal qx qy cx cy p0) hO (credit112 _) (View.set_slice_whole _ _) (View.set_whole _)
    hg0) $$ [Ho0 B7 S7 HO]
  · isplitr
    · iexact Hlv
    · isplitl [B7]
      · iexact B7
      · isplitl [Ho0]
        · iexact Ho0
        · isplitl [S7]
          · iexact S7
          · iexact HO
  iintro ⟨B7, Ho0, S7, HO⟩
  have hg1 : ∀ i ∈ (o1A.slice (outRect L) (fun _ => rfl)).view.set, (o1A.slice (outRect L) (fun _ => rfl)).view.write (Elt F) o1
      (s1S.view.read (Elt F) s1) Finset.univ i = outVal qx qy cx cy p1 i := write_rows _ _ _ _ _ (hout _ _ hF.2.1)
  iapply (copyOut_set d L (A := s1S) (B := o1A.slice (outRect L) (fun _ => rfl)) (fA := s1) (fB := o1) (g := outVal qx qy cx cy p1) hO (credit112 _) (View.set_slice_whole _ _) (View.set_whole _)
    hg1) $$ [Ho1 B8 S8 HO]
  · isplitr
    · iexact Hlv
    · isplitl [B8]
      · iexact B8
      · isplitl [Ho1]
        · iexact Ho1
        · isplitl [S8]
          · iexact S8
          · iexact HO
  iintro ⟨B8, Ho1, S8, HO⟩
  have hg2 : ∀ i ∈ (o2A.slice (outRect L) (fun _ => rfl)).view.set, (o2A.slice (outRect L) (fun _ => rfl)).view.write (Elt F) o2
      (s2S.view.read (Elt F) s2) Finset.univ i = outVal qx qy cx cy p2 i := write_rows _ _ _ _ _ (hout _ _ hF.2.2)
  iapply (copyOut_set d L (A := s2S) (B := o2A.slice (outRect L) (fun _ => rfl)) (fA := s2) (fB := o2) (g := outVal qx qy cx cy p2) hO (credit112 _) (View.set_slice_whole _ _) (View.set_whole _)
    hg2) $$ [Ho2 B9 S9 HO]
  · isplitr
    · iexact Hlv
    · isplitl [B9]
      · iexact B9
      · isplitl [Ho2]
        · iexact Ho2
        · isplitl [S9]
          · iexact S9
          · iexact HO
  iintro ⟨B9, Ho2, S9, HO⟩
  rw [show (Pure.pure PUnit.unit : Prog (TpuEff nD τ sig (Elt F) Λ₀ (tile d L).2) PUnit) = Prog.ret ⟨⟩ from rfl, wp_ret]; imodintro
  isplitl [Hqx Hqxr Hqy Hqyr Hcx Hcy Hp0 Hp1 Hp2 Ho0 Ho1 Ho2]
  · ihave HX := (pointsTo_split_subset (ℓ := at_ d main_v10) (q := q) (f := qx) hsub).2 $$ [Hqx Hqxr]
    · isplitl [Hqx]
      · iexact Hqx
      · iexact Hqxr
    ihave HY := (pointsTo_split_subset (ℓ := at_ d main_v12) (q := q) (f := qy) hsub).2 $$ [Hqy Hqyr]
    · isplitl [Hqy]
      · iexact Hqy
      · iexact Hqyr
    isplitl [HX]
    · iexact HX
    isplitl [HY]
    · iexact HY
    isplitl [Hcx]
    · iexact Hcx
    isplitl [Hcy]
    · iexact Hcy
    isplitl [Hp0]
    · iexact Hp0
    isplitl [Hp1]
    · iexact Hp1
    isplitl [Hp2]
    · iexact Hp2
    isplitl [Ho0]
    · iexact Ho0
    isplitl [Ho1]
    · iexact Ho1
    iexact Ho2
  isplitl [B0 B1 B2 B3 B4 B5 B6 B7 B8 B9 Hbufs]
  · isplitr [Hbufs]
    · isplitl [B0]
      · iexists _; iexact B0
      isplitl [B1]
      · iexists _; iexact B1
      isplitl [B2]
      · iexists _; iexact B2
      isplitl [B3]
      · iexists _; iexact B3
      isplitl [B4]
      · iexists _; iexact B4
      isplitl [B5]
      · iexists _; iexact B5
      isplitl [B6]
      · iexists _; iexact B6
      isplitl [B7]
      · iexists _; iexact B7
      isplitl [B8]
      · iexists _; iexact B8
      iexists _; iexact B9
    · iexact Hbufs
  isplitl [S0 S1 S2 S3 S4 S5 S6 S7 S8 S9 Hsems]
  · isplitr [Hsems]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      isplitl [S8]
      · iexact S8
      iexact S9
    · iexact Hsems
  iexists _
  isplitr
  swap
  · iexact HO
  ipureintro
  intro p hp
  iterate 10
    rcases Finset.mem_insert.mp hp with rfl | hp
    · exact Or.inr rfl
  exact Or.inl hp

end

end Cert.Proof
-- ==== Proof.Tasks.lean ====
/-
  What the SparseCore call hands its tiles and gets back, and the tiles' obligation.
-/
module

public import proofs.«01_k».proof.Proof.TileBody

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The call's operands: the seven tables read and what the three results hold before. -/
structure Tables (F : FTy → Type) where
  (qx qy : Vec F S3584 .f32)
  (cx cy p0 p1 p2 : Vec F S4096 .f32)
  (o0 o1 o2 : Vec F S3584 .f32)

/-- Tile `w`'s share of an array every tile reads. -/
def shareOf (w : ℕ) : PosShare TreeShare := Transfers.dealOf fullShare (Finset.range 32) w

/-- What tile `w` is handed, -/
def giveT (A : Tables F) (d : Dev nD) (w : ℕ) : sProp 𝕄 := tileIn d w (shareOf w) A.qx A.qy A.cx A.cy A.p0 A.p1 A.p2 A.o0 A.o1 A.o2
/-- and hands back. -/
def backT (A : Tables F) (d : Dev nD) (w : ℕ) : sProp 𝕄 :=
  tileIn d w (shareOf w) A.qx A.qy A.cx A.cy A.p0 A.p1 A.p2 (outVal A.qx A.qy A.cx A.cy A.p0) (outVal A.qx A.qy A.cx A.cy A.p1)
    (outVal A.qx A.qy A.cx A.cy A.p2)

instance giveT_storable (A : Tables F) (d : Dev nD) (w : ℕ) : BI.Storable (upEmb : UEmb _ 𝕄) (giveT A d w) := by
  unfold giveT tileIn; infer_instance
instance backT_storable (A : Tables F) (d : Dev nD) (w : ℕ) : BI.Storable (upEmb : UEmb _ 𝕄) (backT A d w) := by
  unfold backT tileIn; infer_instance

variable (A : Dev nD → Tables F)

/-- The call's payloads: each SparseCore takes its sixteen tiles' parts and brings them back. -/
def P : (K (F := F)).Pay (nD := nD) (Val := Elt F) (Name := ℕ) (U := UU) where
  st := fun q d c => match q with | 0 => bigSep Finset.univ fun i : Fin ((K (F := F)).nSub 0) => giveT (A d) d (2 * i.val + c.val)
  dn := fun q d c => match q with | 0 => bigSep Finset.univ fun i : Fin ((K (F := F)).nSub 0) => backT (A d) d (2 * i.val + c.val)
  go := fun q d c i => match q with | 0 => giveT (A d) d (2 * i.val + c.val)
  td := fun q d c i => match q with | 0 => backT (A d) d (2 * i.val + c.val)
  x := fun _ _ => iprop(emp)

instance P_storable : (P A).IsStorable where
  st q d c := match q with
    | 0 => (inferInstance : BI.Storable (upEmb : UEmb _ 𝕄) (bigSep Finset.univ fun i : Fin ((K (F := F)).nSub 0) => giveT (A d) d (2 * i.val + c.val)))
  dn q d c := match q with
    | 0 => (inferInstance : BI.Storable (upEmb : UEmb _ 𝕄) (bigSep Finset.univ fun i : Fin ((K (F := F)).nSub 0) => backT (A d) d (2 * i.val + c.val)))
  go q d c i := match q with | 0 => giveT_storable (A d) d _
  td q d c i := match q with | 0 => backT_storable (A d) d _

/-- The grid point of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs is the call's body. -/
theorem defs₀_vector (c : Fin τ.nSC) (s : Fin τ.nSub) :
    defs₀ (F := F) (.scVector c s) 0 ()
      = SparseCore.onTile hcore0 hsub0 (fun c s => cc0_body (coordsV c s) qxA (Memref.isWhole_whole _) qyA (Memref.isWhole_whole _)
          cxA (Memref.isWhole_whole _) cyA (Memref.isWhole_whole _) p0A (Memref.isWhole_whole _) p1A (Memref.isWhole_whole _)
          p2A (Memref.isWhole_whole _) o0A (Memref.isWhole_whole _) o1A (Memref.isWhole_whole _) o2A (Memref.isWhole_whole _)
          qxS (Memref.isWhole_whole _) qyS (Memref.isWhole_whole _) cxS (Memref.isWhole_whole _) cyS (Memref.isWhole_whole _)
          p0S (Memref.isWhole_whole _) p1S (Memref.isWhole_whole _) p2S (Memref.isWhole_whole _) s0S (Memref.isWhole_whole _)
          s1S (Memref.isWhole_whole _) s2S (Memref.isWhole_whole _)
          cc0_scoped0 cc0_scoped1 cc0_scoped2 cc0_scoped3 cc0_scoped4 cc0_scoped5 cc0_scoped6 cc0_scoped7 cc0_scoped8 cc0_scoped9) ⟨⟩ c s := rfl

omit [FloatOps F] in
/-- The waits left at a tile's end, stated weaker. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro
    exact fun p hp => (hW' p hp).imp_right Or.inl
  · iexact HO

set_option maxRecDepth 16384 in
/-- Every tile's obligation. -/
theorem tileObl : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact (tile_body d (coordsV ⟨_, hci.1⟩ ⟨_, hci.2⟩) (shareOf _) (A d).qx (A d).qy (A d).cx (A d).cy (A d).p0 (A d).p1 (A d).p2 (A d).o0 (A d).o1
    (A d).o2 O W hO).trans (wp_mono frame _ _ fun _ => obl_post)

/-- What the call is given is what its tiles are given, core by core. -/
theorem vecSplit : (K (F := F)).VecSplit' (P A) 0 := by
  intro d c
  show (bigSep Finset.univ fun i : Fin ((K (F := F)).nSub 0) => giveT (A d) d (2 * i.val + c.val)) ⊢ |={Set.univ}=> iprop(
      (bigSep Finset.univ fun i : Fin ((K (F := F)).nSub 0) => giveT (A d) d (2 * i.val + c.val))
      ∗ ((bigSep Finset.univ fun i : Fin ((K (F := F)).nSub 0) => backT (A d) d (2 * i.val + c.val))
          -∗ bigSep Finset.univ fun i : Fin ((K (F := F)).nSub 0) => backT (A d) d (2 * i.val + c.val)))
  iintro H; imodintro
  isplitl [H]
  · iexact H
  iintro H
  iexact H

omit [FloatOps F] in
/-- The tiles of the two SparseCores are the tiles `0 … 31`. -/
theorem bigSep_tiles (Φ : ℕ → sProp 𝕄) :
    (bigSep (Finset.univ : Finset (Fin 2)) fun c => bigSep (Finset.univ : Finset (Fin 16)) fun i => Φ (2 * i.val + c.val)) = bigSep (Finset.range 32) Φ := by
  rw [← BI.bigSep_univ_prod (fun x : Fin 2 × Fin 16 => Φ (2 * x.2.val + x.1.val)),
    show Finset.range 32 = (Finset.univ : Finset (Fin 2 × Fin 16)).map ⟨fun x => 2 * x.2.val + x.1.val, by
      intro x y h; have := x.1.isLt; have := y.1.isLt; simp only at h
      exact Prod.ext (Fin.ext (by omega)) (Fin.ext (by omega))⟩ by decide, BI.bigSep_map]
  rfl

/-- The operands, each held whole. -/
def heldT (d : Dev nD) (qx qy : Vec F S3584 .f32) (cx cy p0 p1 p2 : Vec F S4096 .f32) (o0 o1 o2 : Vec F S3584 .f32) : sProp 𝕄 :=
  iprop((at_ d main_v10 ↦{fullShare} (qx : Buf (Elt F) (at_ d main_v10))) ∗ (at_ d main_v12 ↦{fullShare} (qy : Buf (Elt F) (at_ d main_v12)))
    ∗ (at_ d main_v14 ↦{fullShare} (cx : Buf (Elt F) (at_ d main_v14))) ∗ (at_ d main_v16 ↦{fullShare} (cy : Buf (Elt F) (at_ d main_v16)))
    ∗ (at_ d main_v18 ↦{fullShare} (p0 : Buf (Elt F) (at_ d main_v18))) ∗ (at_ d main_v20 ↦{fullShare} (p1 : Buf (Elt F) (at_ d main_v20)))
    ∗ (at_ d main_v22 ↦{fullShare} (p2 : Buf (Elt F) (at_ d main_v22)))
    ∗ (at_ d main_v23_0 ↦{fullShare} (o0 : Buf (Elt F) (at_ d main_v23_0)))
    ∗ (at_ d main_v23_1 ↦{fullShare} (o1 : Buf (Elt F) (at_ d main_v23_1)))
    ∗ (at_ d main_v23_2 ↦{fullShare} (o2 : Buf (Elt F) (at_ d main_v23_2))))

omit [FloatOps F] in
/-- The tiles' shares of a result do not meet. -/
theorem outSet_disjoint : ∀ w ∈ Finset.range 32, ∀ w' ∈ Finset.range 32, w ≠ w' → Disjoint (outSet w) (outSet w') := by
  intro w _ w' _ h
  rw [Finset.disjoint_left]
  intro n hn hn'
  simp only [outSet, Finset.mem_filter] at hn hn'
  exact h (hn.2.symm.trans hn'.2)

omit [FloatOps F] in
/-- Together they are all of it. -/
theorem outSet_cover : (Finset.range 32).biUnion outSet = Finset.univ := by
  ext n
  have : (n 0).val < 3584 := (n 0).isLt
  simp only [Finset.mem_biUnion, Finset.mem_range, outSet, Finset.mem_filter, Finset.mem_univ, true_and, iff_true]
  exact ⟨(n 0).val / 112, by omega, rfl⟩

omit [FloatOps F] in
/-- An array every tile reads, dealt into the tiles' shares. -/
theorem deal_eq {ℓ : Loc nD τ sig} (f : Buf (Elt F) ℓ) :
    (bigSep (Finset.range 32) fun w => (ℓ ↦{shareOf w} f : sProp 𝕄)) = ℓ ↦{fullShare} f :=
  (Transfers.pointsTo_deal (Finset.range 32) ⟨0, by decide⟩ fullShare).symm

omit [FloatOps F] in
/-- The tiles' parts are the operands held whole. -/
theorem tiles_eq (d : Dev nD) (qx qy : Vec F S3584 .f32) (cx cy p0 p1 p2 : Vec F S4096 .f32) (o0 o1 o2 : Vec F S3584 .f32) :
    (bigSep (Finset.range 32) fun w => tileIn d w (shareOf w) qx qy cx cy p0 p1 p2 o0 o1 o2) = heldT d qx qy cx cy p0 p1 p2 o0 o1 o2 := by
  have h0 : (bigSep (Finset.range 32) fun w => (at_ d main_v23_0 ↦[outSet w]{fullShare} (o0 : Buf (Elt F) (at_ d main_v23_0)) : sProp 𝕄))
      = at_ d main_v23_0 ↦{fullShare} (o0 : Buf (Elt F) (at_ d main_v23_0)) :=
    (pointsTo_biUnion (ℓ := at_ d main_v23_0) (Finset.range 32) outSet outSet_disjoint).symm.trans (by rw [outSet_cover])
  have h1 : (bigSep (Finset.range 32) fun w => (at_ d main_v23_1 ↦[outSet w]{fullShare} (o1 : Buf (Elt F) (at_ d main_v23_1)) : sProp 𝕄))
      = at_ d main_v23_1 ↦{fullShare} (o1 : Buf (Elt F) (at_ d main_v23_1)) :=
    (pointsTo_biUnion (ℓ := at_ d main_v23_1) (Finset.range 32) outSet outSet_disjoint).symm.trans (by rw [outSet_cover])
  have h2 : (bigSep (Finset.range 32) fun w => (at_ d main_v23_2 ↦[outSet w]{fullShare} (o2 : Buf (Elt F) (at_ d main_v23_2)) : sProp 𝕄))
      = at_ d main_v23_2 ↦{fullShare} (o2 : Buf (Elt F) (at_ d main_v23_2)) :=
    (pointsTo_biUnion (ℓ := at_ d main_v23_2) (Finset.range 32) outSet outSet_disjoint).symm.trans (by rw [outSet_cover])
  unfold tileIn heldT
  rw [bigSep_sep', bigSep_sep', bigSep_sep', bigSep_sep', bigSep_sep', bigSep_sep', bigSep_sep', bigSep_sep', bigSep_sep', h0, h1, h2,
    deal_eq, deal_eq, deal_eq, deal_eq, deal_eq, deal_eq, deal_eq]

/-- What the call takes, -/
theorem st0_eq (d : Dev nD) : (bigSep Finset.univ fun c : Fin ((K (F := F)).nCore 0) => (P A).st 0 d c)
    = heldT d (A d).qx (A d).qy (A d).cx (A d).cy (A d).p0 (A d).p1 (A d).p2 (A d).o0 (A d).o1 (A d).o2 :=
  (bigSep_tiles (fun w => giveT (A d) d w)).trans (tiles_eq d ..)

/-- and brings back. -/
theorem dn0_eq (d : Dev nD) : (bigSep Finset.univ fun c : Fin ((K (F := F)).nCore 0) => (P A).dn 0 d c)
    = heldT d (A d).qx (A d).qy (A d).cx (A d).cy (A d).p0 (A d).p1 (A d).p2 (outVal (A d).qx (A d).qy (A d).cx (A d).cy (A d).p0)
        (outVal (A d).qx (A d).qy (A d).cx (A d).cy (A d).p1) (outVal (A d).qx (A d).qy (A d).cx (A d).cy (A d).p2) :=
  (bigSep_tiles (fun w => backT (A d) d w)).trans (tiles_eq d ..)

end Cert.Proof
-- ==== Proof.Run.lean ====
/-
  `@main` on a TensorCore: the buffers' contents from stretch to stretch, and the run through the three calls.
-/
module

public import proofs.«01_k».proof.Proof.Regions
public import proofs.«01_k».proof.Proof.HostOps
public import proofs.«01_k».proof.Proof.Whole
public import proofs.«01_k».proof.Proof.Tasks

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat Cfg Window BodyObligation)
open Idealize.ShloMosaic.StableHlo (seq after held)
open Idealize.ShloMosaic.Rounds
open Idealize.SL Idealize.SL.RA Idealize.SL.BI
open scoped Idealize.SL.BI
open Idealize.SL.BI.BIBase Idealize.SL.BI.Laws Idealize.SL.Sem Idealize.SL.ProofMode

variable {F : FTy → Type} [FloatOps F] [∀ e, Nonempty (Elt F e)]

local notation "𝕄" => Res F

/-- No table is fetched ahead of either call. -/
abbrev admT : (p : Fin 2) → (pcfgs (F := F) p).Adm := fun p => (cfgs p).toPCfg_adm

/-- The level below which the waits of the calls so far lie. -/
abbrev bnd : ℕ := 8 * (SparseCore.Cfg.Blocks.one 1).fst 1

/-! ## Contents -/

/-- A buffer of the TensorCore among the device's. -/
abbrev rf (b : Ref sig .tc) : DevRef τ sig := Proc.devRef .tc b

/-- The contents with three arrays replaced. -/
def put3 (W : Valuation τ sig (Elt F)) (a b c : Ref sig .tc) (x : (rf a).ty.Contents (Elt F)) (y : (rf b).ty.Contents (Elt F))
    (z : (rf c).ty.Contents (Elt F)) : Valuation τ sig (Elt F) :=
  Function.update (Function.update (Function.update W (rf a) x) (rf b) y) (rf c) z

omit [FloatOps F] [∀ e, Nonempty (Elt F e)] in
/-- A call's three results change nothing else. -/
theorem put3_ne (W : Valuation τ sig (Elt F)) {a b c : Ref sig .tc} (x y z) {r : Ref sig .tc} (ha : r ≠ a) (hb : r ≠ b) (hc : r ≠ c) :
    put3 W a b c x y z (rf r) = W (rf r) := by
  have inj : ∀ {s : Ref sig .tc}, r ≠ s → rf r ≠ rf s := fun h e => h (Proc.devRef_injective _ e)
  unfold put3
  rw [Function.update_of_ne (inj hc), Function.update_of_ne (inj hb), Function.update_of_ne (inj ha)]

/-- Contents per core, as the calls read them. -/
abbrev atRefs (W : Dev nD → Valuation τ sig (Elt F)) : (c : Dev nD) → (b : Ref sig .tc) → Buf (Elt F) ((c : Thread nD τ).loc b) :=
  fun c b => W c (rf b)

variable (m : (ℓ : Loc nD τ sig) → Buf (Elt F) ℓ) (ρ : Dev nD → PrngReg)

/-- At the launch, -/
def W0 (d : Dev nD) : Valuation τ sig (Elt F) := fun b => m (d, b)
/-- before the SparseCore call, -/
def W1 (d : Dev nD) : Valuation τ sig (Elt F) := after ops1 (W0 m d)

/-- What the SparseCore call is given. -/
def tabs (d : Dev nD) : Tables F where
  qx := W1 m d (rf main_v10)
  qy := W1 m d (rf main_v12)
  cx := W1 m d (rf main_v14)
  cy := W1 m d (rf main_v16)
  p0 := W1 m d (rf main_v18)
  p1 := W1 m d (rf main_v20)
  p2 := W1 m d (rf main_v22)
  o0 := W1 m d (rf main_v23_0)
  o1 := W1 m d (rf main_v23_1)
  o2 := W1 m d (rf main_v23_2)

/-- The SparseCore call's result of a table. -/
def scOut (A : Tables F) (p : Vec F S4096 .f32) : Vec F S3584 .f32 := outVal A.qx A.qy A.cx A.cy p

/-- after it, -/
def W2 (d : Dev nD) : Valuation τ sig (Elt F) :=
  put3 (W1 m d) main_v23_0 main_v23_1 main_v23_2 (scOut (tabs m d) (tabs m d).p0) (scOut (tabs m d) (tabs m d).p1)
    (scOut (tabs m d) (tabs m d).p2)
/-- before the first TensorCore call, -/
def W3 (d : Dev nD) : Valuation τ sig (Elt F) := after ops2 (W2 m d)
/-- after it, -/
def W4 (d : Dev nD) : Valuation τ sig (Elt F) :=
  put3 (W3 m d) main_v29_0 main_v29_1 main_v29_2 ((headDat d (atRefs (W3 m) d) bnd).arrAt 12 cfg1.N)
    ((headDat d (atRefs (W3 m) d) bnd).arrAt 13 cfg1.N) ((headDat d (atRefs (W3 m) d) bnd).arrAt 14 cfg1.N)
/-- before the second, -/
def W5 (d : Dev nD) : Valuation τ sig (Elt F) := after ops3 (W4 m d)
/-- after it, -/
def W6 (d : Dev nD) : Valuation τ sig (Elt F) :=
  put3 (W5 m d) main_v31_0 main_v31_0 main_v31_1 ((tailDat d (atRefs (W5 m) d) bnd).arrAt 8 cfg2.N)
    ((tailDat d (atRefs (W5 m) d) bnd).arrAt 8 cfg2.N) ((tailDat d (atRefs (W5 m) d) bnd).arrAt 9 cfg2.N)
/-- and at the end. -/
def W7 (d : Dev nD) : Valuation τ sig (Elt F) := after ops4 (W6 m d)

/-! ## The SparseCore call's operands among the buffers -/

/-- The call's operands and results. -/
def callRefs : Finset (DevRef τ sig) :=
  {rf main_v10, rf main_v12, rf main_v14, rf main_v16, rf main_v18, rf main_v20, rf main_v22, rf main_v23_0, rf main_v23_1, rf main_v23_2}

/-- The call's arrays outlive the calls. -/
theorem callRefs_sub : callRefs ⊆ Pipeline.ucRefs τ sig := by decide +kernel

omit [FloatOps F] [∀ e, Nonempty (Elt F e)] in
/-- They held are the call's operands and results one by one. -/
theorem held_call (d : Dev nD) (W : Valuation τ sig (Elt F)) :
    (held (d.tc : Thread nD τ) callRefs W : sProp 𝕄) = heldT d (W (rf main_v10)) (W (rf main_v12)) (W (rf main_v14)) (W (rf main_v16)) (W (rf main_v18)) (W (rf main_v20))
      (W (rf main_v22)) (W (rf main_v23_0)) (W (rf main_v23_1)) (W (rf main_v23_2)) := by
  unfold held callRefs heldT
  rw [SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    bigSep_singleton]

/-- The rest is as it was. -/
theorem held_rest (d : Dev nD) :
    (held (d.tc : Thread nD τ) (Pipeline.ucRefs τ sig \ callRefs) (W2 m d) : sProp 𝕄)
      = held (d.tc : Thread nD τ) (Pipeline.ucRefs τ sig \ callRefs) (W1 m d) := by
  refine StableHlo.held_congr _ fun b hb => ?_
  have h := (Finset.mem_sdiff.mp hb).2
  unfold W2 put3
  rw [Function.update_of_ne (fun e => h (by rw [e]; decide +kernel)), Function.update_of_ne (fun e => h (by rw [e]; decide +kernel)),
    Function.update_of_ne (fun e => h (by rw [e]; decide +kernel))]

/-- Before the call: what it takes, and the rest. -/
theorem held_before (d : Dev nD) :
    (held (d.tc : Thread nD τ) (Pipeline.ucRefs τ sig) (W1 m d) : sProp 𝕄)
      = iprop((bigSep Finset.univ fun c : Fin ((K (F := F)).nCore 0) => (P (tabs m)).st 0 d c)
        ∗ held (d.tc : Thread nD τ) (Pipeline.ucRefs τ sig \ callRefs) (W1 m d)) := by
  rw [StableHlo.held_sub_split _ callRefs_sub, held_call, st0_eq]; rfl

/-- After it: what it brings back, and the rest. -/
theorem held_after (d : Dev nD) :
    (held (d.tc : Thread nD τ) (Pipeline.ucRefs τ sig) (W2 m d) : sProp 𝕄)
      = iprop((bigSep Finset.univ fun c : Fin ((K (F := F)).nCore 0) => (P (tabs m)).dn 0 d c)
        ∗ held (d.tc : Thread nD τ) (Pipeline.ucRefs τ sig \ callRefs) (W1 m d)) := by
  have h0 : W2 m d (rf main_v23_0) = scOut (tabs m d) (tabs m d).p0 := by
    unfold W2 put3
    rw [Function.update_of_ne (by decide +kernel), Function.update_of_ne (by decide +kernel), Function.update_self]
  have h1 : W2 m d (rf main_v23_1) = scOut (tabs m d) (tabs m d).p1 := by
    unfold W2 put3
    rw [Function.update_of_ne (by decide +kernel), Function.update_self]
  have h2 : W2 m d (rf main_v23_2) = scOut (tabs m d) (tabs m d).p2 := by
    unfold W2 put3
    rw [Function.update_self]
  have k (r : Ref sig .tc) (a : r ≠ main_v23_0) (b : r ≠ main_v23_1) (c : r ≠ main_v23_2) : W2 m d (rf r) = W1 m d (rf r) := put3_ne _ _ _ _ a b c
  rw [StableHlo.held_sub_split _ callRefs_sub, held_rest, held_call, dn0_eq, h0, h1, h2, k main_v10 (by decide) (by decide) (by decide),
    k main_v12 (by decide) (by decide) (by decide), k main_v14 (by decide) (by decide) (by decide), k main_v16 (by decide) (by decide) (by decide),
    k main_v18 (by decide) (by decide) (by decide), k main_v20 (by decide) (by decide) (by decide), k main_v22 (by decide) (by decide) (by decide)]
  rfl

end Cert.Proof
-- ==== Proof.Calls.lean ====
/-
  The two TensorCore calls of `@main` as regions between the contents before and after them, and the run of `@main`.
-/
module

public import proofs.«01_k».proof.Proof.Run

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat Cfg Window BodyObligation)
open Idealize.ShloMosaic.StableHlo (seq after held)
open Idealize.ShloMosaic.Rounds
open Idealize.SL Idealize.SL.RA Idealize.SL.BI
open scoped Idealize.SL.BI
open Idealize.SL.BI.BIBase Idealize.SL.BI.Laws Idealize.SL.Sem Idealize.SL.ProofMode

variable {F : FTy → Type} [FloatOps F] [∀ e, Nonempty (Elt F e)]

local notation "𝕄" => Res F

variable (m : (ℓ : Loc nD τ sig) → Buf (Elt F) ℓ) (ρ : Dev nD → PrngReg)

omit [∀ e, Nonempty (Elt F e)] in
/-- Neither call fetches a table ahead. -/
theorem noPre (p : Fin 2) (c : Dev nD) :
    (Pipeline.prefHeld (pcfgs (F := F) p).pre c (fun _ => fullShare) ((admT (F := F) p)).1 : sProp 𝕄) = BI.emp := by
  unfold Pipeline.prefHeld
  rw [show (Finset.univ : Finset (Fin 0)) = ∅ from rfl, BI.bigSep_empty]

/-- The first call's inputs are none of its results. -/
theorem headRefs : ∀ w : Fin 15, w.val < 12 → Pipeline.arrRef spec1 w ≠ main_v29_0 ∧ Pipeline.arrRef spec1 w ≠ main_v29_1
    ∧ Pipeline.arrRef spec1 w ≠ main_v29_2 := by decide

/-- Nor the second's. -/
theorem tailRefs : ∀ w : Fin 10, w.val < 8 → Pipeline.arrRef spec2 w ≠ main_v31_0 ∧ Pipeline.arrRef spec2 w ≠ main_v31_1 := by decide

/-- The first call's first twelve arrays are operands. -/
theorem head_isIn : ∀ w : Fin 15, w.val < 12 → (cfg1.win w).isOut = false := by decide

/-- An input's array of the first call is never written. -/
theorem headArr_in (c : Dev nD) (V : (b : Ref sig .tc) → Buf (Elt F) ((c : Thread nD τ).loc b)) (b : ℕ) (w : Fin 15) (hw : w.val < 12) :
    (headDat c V b).arrAt w cfg1.N = (headDat c V b).A w := Dat.arrAt_in (headDat c V b) w (head_isIn w hw) _

/-- The first call's arrays at the end. -/
theorem headArr (c : Dev nD) (w : Fin 15) :
    atRefs (W4 m) c (Pipeline.arrRef ((pcfgs (F := F) 0).spec) w)
      = (pdats admT bnd (atRefs (W3 m)) 0 c).arrAt w (Pipeline.pin (pcfgs (F := F)) admT 0).N := by
  have k (r : Ref sig .tc) (a : r ≠ main_v29_0) (b : r ≠ main_v29_1) (e : r ≠ main_v29_2) : W4 m c (rf r) = W3 m c (rf r) :=
    put3_ne _ _ _ _ a b e
  by_cases hw : w.val < 12
  · have r := headRefs w hw
    exact (k _ r.1 r.2.1 r.2.2).trans (headArr_in c (atRefs (W3 m) c) bnd w hw).symm
  match w with
  | ⟨12, _⟩ =>
    change W4 m c (rf main_v29_0) = _
    unfold W4 put3
    rw [Function.update_of_ne (by decide +kernel), Function.update_of_ne (by decide +kernel), Function.update_self]; rfl
  | ⟨13, _⟩ =>
    change W4 m c (rf main_v29_1) = _
    unfold W4 put3
    rw [Function.update_of_ne (by decide +kernel), Function.update_self]; rfl
  | ⟨14, _⟩ =>
    change W4 m c (rf main_v29_2) = _
    unfold W4 put3
    rw [Function.update_self]; rfl
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ => exact absurd (by simp) hw

/-- The second call's first eight arrays are operands. -/
theorem tail_isIn : ∀ w : Fin 10, w.val < 8 → (cfg2.win w).isOut = false := by decide

/-- An input's array of the second call is never written. -/
theorem tailArr_in (c : Dev nD) (V : (b : Ref sig .tc) → Buf (Elt F) ((c : Thread nD τ).loc b)) (b : ℕ) (w : Fin 10) (hw : w.val < 8) :
    (tailDat c V b).arrAt w cfg2.N = (tailDat c V b).A w := Dat.arrAt_in (tailDat c V b) w (tail_isIn w hw) _

/-- The second call's arrays at the end. -/
theorem tailArr (c : Dev nD) (w : Fin 10) :
    atRefs (W6 m) c (Pipeline.arrRef ((pcfgs (F := F) 1).spec) w)
      = (pdats admT bnd (atRefs (W5 m)) 1 c).arrAt w (Pipeline.pin (pcfgs (F := F)) admT 1).N := by
  have k (r : Ref sig .tc) (a : r ≠ main_v31_0) (b : r ≠ main_v31_1) : W6 m c (rf r) = W5 m c (rf r) :=
    put3_ne _ _ _ _ a a b
  by_cases hw : w.val < 8
  · have r := tailRefs w hw
    exact (k _ r.1 r.2).trans (tailArr_in c (atRefs (W5 m) c) bnd w hw).symm
  match w with
  | ⟨8, _⟩ =>
    change W6 m c (rf main_v31_0) = _
    unfold W6 put3
    rw [Function.update_of_ne (by decide +kernel), Function.update_self]; rfl
  | ⟨9, _⟩ =>
    change W6 m c (rf main_v31_1) = _
    unfold W6 put3
    rw [Function.update_self]; rfl
  | ⟨0, _⟩ | ⟨1, _⟩ | ⟨2, _⟩ | ⟨3, _⟩ | ⟨4, _⟩ | ⟨5, _⟩ | ⟨6, _⟩ | ⟨7, _⟩ => exact absurd (by simp) hw

/-- What the first call asks of its windows: -/
theorem head_win : Pipeline.WinFacts ((pcfgs (F := F) 0).spec) := winFacts1
/-- The first call's blocks are not empty. -/
theorem head_pos : ∀ w, 0 < (((pcfgs (F := F) 0).spec) w).block.numel := block_pos1
/-- Its arrays are taken whole. -/
theorem head_arr : ∀ w, (((pcfgs (F := F) 0).spec) w).arr.IsWhole := arr_whole1
/-- So are its staging buffers. -/
theorem head_stage : ∀ w s, ((((pcfgs (F := F) 0).spec) w).stage s).IsWhole := stage_whole1
/-- and the second. -/
theorem tail_win : Pipeline.WinFacts ((pcfgs (F := F) 1).spec) := winFacts2
/-- The second call's blocks are not empty. -/
theorem tail_pos : ∀ w, 0 < (((pcfgs (F := F) 1).spec) w).block.numel := block_pos2
/-- Its arrays are taken whole. -/
theorem tail_arr : ∀ w, (((pcfgs (F := F) 1).spec) w).arr.IsWhole := arr_whole2
/-- So are its staging buffers. -/
theorem tail_stage : ∀ w s, ((((pcfgs (F := F) 1).spec) w).stage s).IsWhole := stage_whole2

/-- What the first call leaves unopened, in the program's list of calls. -/
theorem head_rest₀ (c : Dev nD) :
    (Pipeline.scopedRest spec1 c : sProp 𝕄) = Pipeline.scopedRest ((pcfgs (F := F) 0).spec) c := rfl
/-- The same in the call's own data. -/
theorem head_rest₁ (c : Dev nD) (b : ℕ) (V t) : (headDat (F := F) c V b).Φ t = Pipeline.scopedRest spec1 c := rfl
/-- What the first call leaves unopened. -/
theorem head_rest (b : ℕ) (V : (c : Dev nD) → (b : Ref sig .tc) → Buf (Elt F) ((c : Thread nD τ).loc b)) (c : Dev nD) (t) :
    (pdats admT b V 0 c).Φ t = Pipeline.scopedRest ((pcfgs (F := F) 0).spec) c := (head_rest₁ c b (V c) t).trans (head_rest₀ c)

/-- What the second call leaves unopened, in the program's list of calls. -/
theorem tail_rest₀ (c : Dev nD) :
    (Pipeline.scopedRest spec2 c : sProp 𝕄) = Pipeline.scopedRest ((pcfgs (F := F) 1).spec) c := rfl
/-- The same in the call's own data. -/
theorem tail_rest₁ (c : Dev nD) (b : ℕ) (V t) : (tailDat (F := F) c V b).Φ t = Pipeline.scopedRest spec2 c := rfl
/-- What the second call leaves unopened. -/
theorem tail_rest (b : ℕ) (V : (c : Dev nD) → (b : Ref sig .tc) → Buf (Elt F) ((c : Thread nD τ).loc b)) (c : Dev nD) (t) :
    (pdats admT b V 1 c).Φ t = Pipeline.scopedRest ((pcfgs (F := F) 1).spec) c := (tail_rest₁ c b (V c) t).trans (tail_rest₀ c)

/-- The first TensorCore call. -/
def headRegion := region (F := F) admT bnd (atRefs (W3 m)) (atRefs (W4 m)) 0 head_win head_pos head_arr head_stage
    (fun c => (head_obligation c (atRefs (W3 m) c) bnd).loose) (fun _ _ => rfl) (fun _ _ => rfl) (head_rest bnd _)
    (fun _ _ => rfl) (fun _ _ => rfl) (noPre 0) (headArr m)
    (fun c x h => put3_ne _ _ _ _ (h 12) (h 13) (h 14))

/-- The second. -/
def tailRegion := region (F := F) admT bnd (atRefs (W5 m)) (atRefs (W6 m)) 1 tail_win tail_pos tail_arr tail_stage
    (fun c => (tail_obligation c (atRefs (W5 m) c) bnd).loose) (fun _ _ => rfl) (fun _ _ => rfl) (tail_rest bnd _)
    (fun _ _ => rfl) (fun _ _ => rfl) (noPre 1) (tailArr m)
    (fun c x h => put3_ne _ _ _ _ (h 8) (h 8) (h 9))

end Cert.Proof
-- ==== Proof.MainRun.lean ====
/-
  The run of the program: `@main` through its host operations and three calls, and the final state of every execution.
-/
module

public import proofs.«01_k».proof.Proof.Calls

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat Cfg Window BodyObligation)
open Idealize.ShloMosaic.StableHlo (seq after held)
open Idealize.ShloMosaic.Rounds
open Idealize.SL Idealize.SL.RA Idealize.SL.BI
open scoped Idealize.SL.BI
open Idealize.SL.BI.BIBase Idealize.SL.BI.Laws Idealize.SL.Sem Idealize.SL.ProofMode

variable {F : FTy → Type} [FloatOps F] [∀ e, Nonempty (Elt F e)]

local notation "𝕄" => Res F

variable (m : (ℓ : Loc nD τ sig) → Buf (Elt F) ℓ) (ρ : Dev nD → PrngReg)

/-! ## The launch element of the ghost state -/

/-- The handshakes' rounds and the pipelines' at the launch. -/
def u₀ : UU :=
  (initOf (K (F := F)).hsCells (K (F := F)).hsToks,
    (initOf (Pipeline.cells (Pipeline.pin (pcfgs (F := F)) admT) cellOf_inj) (Pipeline.launchToks (Pipeline.pin (pcfgs (F := F)) admT) cellOf_inj), 1))

/-- What a TensorCore holds of the pipelines' protocol before the calls. -/
def ghost (d : Dev nD) : sProp 𝕄 :=
  iprop((bigSep Finset.univ fun p => Pipeline.cellsGhost (Pipeline.pin (pcfgs (F := F)) admT) EP p d)
    ∗ bigSep Finset.univ fun p => Pipeline.toksInit (Pipeline.pin (pcfgs (F := F)) admT) EP p d)

omit [∀ e, Nonempty (Elt F e)] in
/-- The SparseCore call asks for nothing besides its arrays. -/
theorem none_x (A : Dev nD → Tables F) :
    (bigSep Finset.univ fun thr : Thread nD τ => bigSep Finset.univ fun q : Fin 1 => (P A).x q thr) = (iprop(emp) : sProp 𝕄) := by
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1)]
  exact bigSep_emp_const _

/-- The initial resources are what the launch asks for. -/
theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P (tabs m)).x q thr) := by
  rw [none_x]
  unfold u₀ ghost
  rw [bigSep_sep']
  have hg := Pipeline.fund_ghost (Val := Elt F) (Ix := HIx 1) (Name := ℕ) (U := UU) (Lvl := ℕ) (nD := nD) (τ := τ)
    (Pipeline.pin (pcfgs (F := F)) admT) EP cellOf_inj
  iintro Hu
  ihave H := (ownU_pair (initOf (K (F := F)).hsCells (K (F := F)).hsToks) _) $$ Hu
  icases H with ⟨HH, HP⟩
  ihave HP' := (own_pair_emb (embR (A := UH) (B := UP × Counters)) _ _) $$ HP
  icases HP' with ⟨HP, -⟩
  ihave HG := hg $$ HP
  imod HG
  icases HG with ⟨HG, HT⟩
  imodintro
  isplitl [HH]; · iexact HH
  isplitl
  · isplitl [HG] <;> iassumption
  iempintro

/-! ## Entering a call -/

/-- What the TensorCore carries past the SparseCore call: quiet, and the rest of its handshakes' state. -/
theorem tcSt_quiet (d : Dev nD) : ∃ R : sProp 𝕄, (K (F := F)).tcSt EH d 1 = iprop(quiet bnd d ∗ R) := by
  unfold SparseCore.Cfg.tcSt quiet
  rw [(K (F := F)).Otc_end d (le_refl 1)]
  exact ⟨_, rfl⟩

instance : (EP (F := F)).LandsIn (upEmb : UEmb _ 𝕄) := by unfold EP; infer_instance

/-- A TensorCore call of `@main`, from a region: it runs from the boundary, what the region enters with, and the pipeline's
    ghost state, to the boundary and what the region leaves. -/
theorem wp_call {pdats : (p : Fin 2) → (c : Dev nD) → Dat τ (Elt F) (HIx 1) ℕ UU ℕ (Pipeline.pin (pcfgs (F := F)) admT p) c} (p : Fin 2)
    (R : Pipeline.RegionSeg (pcfgs (F := F)) admT pdats none defs₀ 𝒱₀ (K (F := F)).L (K (F := F)).lev p) (d : Dev nD) (Q : PUnit → sProp 𝕄) :
    iprop((boundary (d.tc : Thread nD τ) ∗ R.post d -∗ Q ⟨⟩) ∗ boundary (d.tc : Thread nD τ) ∗ R.pre d
        ∗ levAts (K (F := F)).L (K (F := F)).lev
        ∗ Pipeline.cellsGhost (Pipeline.pin (pcfgs (F := F)) admT) EP p d ∗ Pipeline.toksInit (Pipeline.pin (pcfgs (F := F)) admT) EP p d)
      ⊢ wp frame (wpE ((K (F := F)).defs (D (F := F))) 𝒱 (SparseCore.T d) none) Set.univ
          (Prog.lift (.customCall (SparseCore.inner (Pipeline.entry p)) ())) Q := by
  refine BI.Entails.trans ?_ ((K (F := F)).wp_liftProg (D (F := F)) 𝒱 (SparseCore.T d) Set.univ none (Prog.lift (.customCall (Pipeline.entry p) ())) Q)
  refine BI.Entails.trans ?_ (Pipeline.RegionSeg.wp (pcfgs (F := F)) admT pdats none cellOf_inj EP defs₀ 𝒱₀ (K (F := F)).L (K (F := F)).lev R d
    none (by intro v h; nomatch h) Prog.ret Q)
  change (_ : sProp 𝕄) ⊢ _
  iintro ⟨Hk, H⟩
  isplitl [Hk]
  · iintro H; rw [wp_ret]; imodintro; iapply Hk; iexact H
  iexact H

/-! ## `@main` -/

omit [∀ e, Nonempty (Elt F e)] in
/-- A stretch of host operations, from the buffers at one valuation to the buffers at its fold. -/
theorem wp_stretch (d : Dev nD) (ops : List (HloOp τ sig (Elt F))) (hs : ∀ op ∈ ops, op.bufs ⊆ Pipeline.ucRefs τ sig) (hf : ∀ op ∈ ops, op.fresh = ∅)
    (W W' : Valuation τ sig (Elt F)) (hW : W' = after ops W) (k) (Q : PUnit → sProp 𝕄) :
    iprop(boundary (d.tc : Thread nD τ) ∗ held (d.tc : Thread nD τ) (Pipeline.ucRefs τ sig) W)
      ⊢ iprop((iprop(boundary (d.tc : Thread nD τ) ∗ held (d.tc : Thread nD τ) (Pipeline.ucRefs τ sig) W') -∗
          wp frame (wpE ((K (F := F)).defs (D (F := F))) 𝒱 (SparseCore.T d) none) Set.univ (k ⟨⟩) Q)
        -∗ wp frame (wpE ((K (F := F)).defs (D (F := F))) 𝒱 (SparseCore.T d) none) Set.univ (seq ops >>= k) Q) := by
  subst hW
  exact StableHlo.wp_seq 𝒱 none Set.univ d (Pipeline.ucRefs τ sig) k ops hs hf W

/-- What a TensorCore ends with: its buffers. -/
abbrev FIN (d : Dev nD) : sProp 𝕄 := held (d.tc : Thread nD τ) (Pipeline.ucRefs τ sig) (W7 m d)

/-- The host program's run, from the launch's resources to the final arrays. -/
theorem hmain (κ : GSem nD τ sig → ℕ) (d : Dev nD) :
    iprop((K (F := F)).ctx EH (P (tabs m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_quiet (F := F) d
  have hW0 : (unscopedBufs d (fun b => m ((SparseCore.T d : Thread nD τ).loc b)) : sProp 𝕄) = held (d.tc : Thread nD τ) (Pipeline.ucRefs τ sig) (W0 m d) :=
    Pipeline.unscopedBufs_held d (W0 m d)
  have hW3 : (headRegion m).pre d = iprop(held (d.tc : Thread nD τ) (Pipeline.ucRefs τ sig) (W3 m d) ∗ quiet bnd d) := by
    rw [← Pipeline.unscopedBufs_held d (W3 m d)]; rfl
  have hW4 : (headRegion m).post d = iprop(held (d.tc : Thread nD τ) (Pipeline.ucRefs τ sig) (W4 m d) ∗ quiet bnd d) := by
    rw [← Pipeline.unscopedBufs_held d (W4 m d)]; rfl
  have hW5 : (tailRegion m).pre d = iprop(held (d.tc : Thread nD τ) (Pipeline.ucRefs τ sig) (W5 m d) ∗ quiet bnd d) := by
    rw [← Pipeline.unscopedBufs_held d (W5 m d)]; rfl
  have hW6 : (tailRegion m).post d = iprop(held (d.tc : Thread nD τ) (Pipeline.ucRefs τ sig) (W6 m d) ∗ quiet bnd d) := by
    rw [← Pipeline.unscopedBufs_held d (W6 m d)]; rfl
  unfold SparseCore.Cfg.tcRes SparseCore.Cfg.tcEnd ghost
  rw [main_eq, hW0, bigSep_univ_two, bigSep_univ_two]
  iintro ⟨#Hctx, Hst, ⟨Hb, HH, Hts, -⟩, ⟨Hg0, Hg1⟩, Ht0, Ht1⟩
  ihave Hlev := (SparseCore.Cfg.ctx_levAts κ) $$ Hctx
  -- the first stretch
  iapply (wp_stretch d ops1 ops1_sub ops1_fresh (W0 m d) (W1 m d) rfl _ _) $$ [Hb HH]
  · isplitl [Hb] <;> iassumption
  iintro ⟨Hb, HH⟩
  -- the SparseCore call
  rw [wp_bind]
  iapply ((K (F := F)).wp_run (D (F := F)) 𝒱 (EH := EH) (P := P (tabs m)) κ d 0)
  ihave HH' := (Entails.of_eq (held_before m d)) $$ HH
  icases HH' with ⟨Hop, Hrest⟩
  isplitr; · iexact Hctx
  isplitl [Hst]; · iexact Hst
  isplitl [Hop]; · iexact Hop
  iintro ⟨Hst, Hdn⟩
  ihave HH := (Entails.of_eq (held_after m d).symm) $$ [Hdn Hrest]
  · isplitl [Hdn] <;> iassumption
  ihave Hst' := (show (K (F := F)).tcSt EH d ((0 : Fin 1).val + 1) ⊢ iprop(quiet bnd d ∗ R) from Entails.of_eq hR) $$ Hst
  icases Hst' with ⟨Hq, HR⟩
  -- the second
  iapply (wp_stretch d ops2 ops2_sub ops2_fresh (W2 m d) (W3 m d) rfl _ _) $$ [Hb HH]
  · isplitl [Hb] <;> iassumption
  iintro ⟨Hb, HH⟩
  -- the first TensorCore call
  rw [wp_bind]
  iapply (wp_call 0 (headRegion m) d _)
  isplitr [Hb HH Hq Hg0 Ht0]
  swap
  · isplitl [Hb]; · iexact Hb
    isplitl [HH Hq]
    · iapply (Entails.of_eq hW3.symm); isplitl [HH] <;> iassumption
    isplitr; · iexact Hlev
    isplitl [Hg0] <;> iassumption
  iintro ⟨Hb, Hp⟩
  ihave Hp' := (Entails.of_eq hW4) $$ Hp
  icases Hp' with ⟨HH, Hq⟩
  -- the third
  iapply (wp_stretch d ops3 ops3_sub ops3_fresh (W4 m d) (W5 m d) rfl _ _) $$ [Hb HH]
  · isplitl [Hb] <;> iassumption
  iintro ⟨Hb, HH⟩
  -- the second TensorCore call
  rw [wp_bind]
  iapply (wp_call 1 (tailRegion m) d _)
  isplitr [Hb HH Hq Hg1 Ht1]
  swap
  · isplitl [Hb]; · iexact Hb
    isplitl [HH Hq]
    · iapply (Entails.of_eq hW5.symm); isplitl [HH] <;> iassumption
    isplitr; · iexact Hlev
    isplitl [Hg1] <;> iassumption
  iintro ⟨Hb, Hp⟩
  ihave Hp' := (Entails.of_eq hW6) $$ Hp
  icases Hp' with ⟨HH, Hq⟩
  -- the last
  iapply (wp_stretch d ops4 ops4_sub ops4_fresh (W6 m d) (W7 m d) rfl _ _) $$ [Hb HH]
  · isplitl [Hb] <;> iassumption
  iintro ⟨Hb, HH⟩
  rw [wp_pure]; imodintro
  isplitl [Hq HR]
  · iapply (Entails.of_eq hR.symm); isplitl [Hq] <;> iassumption
  isplitl [HH]; · iexact HH
  isplitl [Hb] <;> iassumption

/-! ## The final states -/

/-- Every buffer of the TensorCore ends at the run's contents. -/
def fq (d : Dev nD) (s' : Phys nD τ sig (Elt F)) : Prop := ∀ b ∈ Pipeline.ucRefs τ sig, s'.mem.mem (d, b) = W7 m d b

/-- The final arrays are those of the final state. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- Every execution from zero counters ends, with every TensorCore buffer that outlives the calls at the run's contents and
    every counter zero. -/
theorem run_main : θ_run (defs (F := F)) (threads (F := F)) ⟨m, fun _ => 0, ρ⟩
    (fun r => (∀ d : Dev nD, ∀ b ∈ Pipeline.ucRefs τ sig, r.2.mem (d, b) = W7 m d b) ∧ r.2.sem = fun _ => 0) :=
  SparseCore.Cfg.θ_run_sc_quiescent (K := K (F := F)) (D := D (F := F)) (𝒱 := 𝒱) (EH := EH) (P := P (tabs m)) (A := ∅) facts v₀
    (fun q hq => match q with | 0 => nomatch hq)
    (fun q _ => match q with | 0 => tileObl (tabs m))
    (fun q _ => match q with | 0 => SparseCore.Cfg.VecSplit.of_plain (vecSplit (tabs m)))
    m ρ main (ghost (F := F)) (FIN m) (u₀ (F := F)) (sep_elim_left.trans (hu₀ m)) (hmain m ρ) (fq m) (hfin m) _ (fun _ h hz => ⟨h, hz⟩)

end Cert.Proof
-- ==== Proof.Frames.lean ====
/-
  The frames: the arguments end as they began and every counter at zero.
-/
module

public import proofs.«01_k».proof.Proof.MainRun
public import proofs.«01_k».proof.Proof.Gen.ReferenceIdeal.Run

@[expose] public section

noncomputable section

namespace Cert.Proof

open Cert.KernelIdeal Cert.KernelIdeal.Gen
open Idealize.ShloMosaic Idealize.ShloMosaic.TcCoe
open Idealize.SL.Sem

variable {F : FTy → Type} [FloatOps F] [∀ e, Nonempty (Elt F e)]

variable (m : (ℓ : Loc nD τ sig) → Buf (Elt F) ℓ) (ρ : Dev nD → PrngReg)

/-- Whatever neither the host operations nor the calls write. -/
theorem kept (d : Dev nD) (r : Ref sig .tc) (h1 : r ∉ writes1) (h2 : r ∉ writes2) (h3 : r ∉ writes3) (h4 : r ∉ writes4)
    (h23 : r ≠ main_v23_0 ∧ r ≠ main_v23_1 ∧ r ≠ main_v23_2) (h29 : r ≠ main_v29_0 ∧ r ≠ main_v29_1 ∧ r ≠ main_v29_2)
    (h31 : r ≠ main_v31_0 ∧ r ≠ main_v31_1) : W7 m d (rf r) = m ((d : Thread nD τ).loc r) := by
  have e1 : W1 m d (rf r) = W0 m d (rf r) := StableHlo.after_of_writes_sub ops1 _ ops1_writes h1
  have e2 : W2 m d (rf r) = W1 m d (rf r) := put3_ne _ _ _ _ h23.1 h23.2.1 h23.2.2
  have e3 : W3 m d (rf r) = W2 m d (rf r) := StableHlo.after_of_writes_sub ops2 _ ops2_writes h2
  have e4 : W4 m d (rf r) = W3 m d (rf r) := put3_ne _ _ _ _ h29.1 h29.2.1 h29.2.2
  have e5 : W5 m d (rf r) = W4 m d (rf r) := StableHlo.after_of_writes_sub ops3 _ ops3_writes h3
  have e6 : W6 m d (rf r) = W5 m d (rf r) := put3_ne _ _ _ _ h31.1 h31.1 h31.2
  have e7 : W7 m d (rf r) = W6 m d (rf r) := StableHlo.after_of_writes_sub ops4 _ ops4_writes h4
  rw [e7, e6, e5, e4, e3, e2, e1]; rfl

/-- The program's arguments. -/
abbrev argRefs : List (Ref sig .tc) :=
  [main_arg0, main_arg1, main_arg2, main_arg3, main_arg4, main_arg5, main_arg6, main_arg7, main_arg8, main_arg9, main_arg10]

/-- No host operation and no call writes an argument. -/
theorem args_apart : ∀ r ∈ argRefs, (r ∉ writes1 ∧ r ∉ writes2 ∧ r ∉ writes3 ∧ r ∉ writes4)
    ∧ (r ≠ main_v23_0 ∧ r ≠ main_v23_1 ∧ r ≠ main_v23_2) ∧ (r ≠ main_v29_0 ∧ r ≠ main_v29_1 ∧ r ≠ main_v29_2)
    ∧ (r ≠ main_v31_0 ∧ r ≠ main_v31_1) := by decide +kernel

/-- The arguments end as they began. -/
theorem kept_args (d : Dev nD) (r : Ref sig .tc) (h : r ∈ argRefs) : W7 m d (rf r) = m ((d : Thread nD τ).loc r) := by
  obtain ⟨⟨h1, h2, h3, h4⟩, h23, h29, h31⟩ := args_apart r h
  exact kept m d r h1 h2 h3 h4 h23 h29 h31

/-- The arguments outlive the calls. -/
theorem args_outlive : ∀ r ∈ argRefs, rf r ∈ Pipeline.ucRefs τ sig := by decide +kernel

/-- In every final state each argument is as it was at the launch. -/
theorem args_of_run {s : MemSt nD τ sig (Elt F)} (h : ∀ d : Dev nD, ∀ b ∈ Pipeline.ucRefs τ sig, s.mem (d, b) = W7 m d b) (c : Dev nD) :
    ∀ r ∈ argRefs, s.mem ((c : Thread nD τ).loc r) = m ((c : Thread nD τ).loc r) := fun r hr =>
  (h c (rf r) (args_outlive r hr)).trans (kept_args m c r hr)

/-- The program over any float values: it terminates, its arguments as they were, its counters at zero. -/
theorem frame_any : θ_run (defs (F := F)) (threads (F := F)) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) ∧ r.2.sem = fun _ => 0) :=
  (θ_run defs _ _).mono (fun _ h => ⟨fun c =>
    have k := args_of_run m h.1 c
    ⟨k main_arg0 (by decide), k main_arg1 (by decide), k main_arg2 (by decide), k main_arg3 (by decide), k main_arg4 (by decide),
      k main_arg5 (by decide), k main_arg6 (by decide), k main_arg7 (by decide), k main_arg8 (by decide), k main_arg9 (by decide),
      k main_arg10 (by decide)⟩, h.2⟩) (run_main m ρ)

/-- The idealized program's frame, -/
theorem frame_ideal : Cert.quiescent_KernelIdeal (hKernelIdeal := Cert.KernelIdeal.Gen.facts) := fun m ρ _ => frame_any (F := Ideal) m ρ
/-- and the reference's: it declares no counter. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

end Cert.Proof
-- ==== Proof.FrameKernel.lean ====
/-
  The compiled program's frame: the same run, read over bit patterns.
-/
module

public import proofs.«01_k».proof.Proof.Frames
public import proofs.«01_k».proof.Proof.Gen.Kernel

@[expose] public section

noncomputable section

namespace Cert.Proof

open Idealize.ShloMosaic Idealize.SL.Sem

set_option maxHeartbeats 40000000 in
/-- The compiled program's kernels are the idealized one's. -/
theorem bodies_eq : Cert.Kernel.defs₀ (F := Bits)
    = Cert.KernelIdeal.defs₀ (F := Bits) := by
  funext p ℓ a
  match p, ℓ, a with
  | .tc, ⟨0, _⟩, _ => rfl
  | .tc, ⟨1, _⟩, (_, _) => rfl
  | .tc, ⟨2, _⟩, (_, _) => rfl
  | .scScalar _, ⟨0, _⟩, _ => rfl
  | .scScalar _, ⟨1, _⟩, _ => rfl
  | .scScalar _, ⟨2, _⟩, _ => rfl
  | .scVector _ _, ⟨0, _⟩, _ => rfl
  | .scVector _ _, ⟨1, _⟩, _ => rfl
  | .scVector _ _, ⟨2, _⟩, _ => rfl

set_option maxHeartbeats 40000000 in
/-- And so is its whole table. -/
theorem table_eq : Cert.Kernel.defs (F := Bits) = Cert.KernelIdeal.defs (F := Bits) := by
  unfold Cert.Kernel.defs Cert.KernelIdeal.defs
  rw [bodies_eq]
  rfl

set_option maxHeartbeats 40000000 in
/-- The compiled program terminates, its arguments as they were, its counters at zero. -/
theorem frame_kernel : Cert.quiescent_Kernel (hKernel := Cert.Kernel.Gen.facts) := fun m ρ _ => by
  rw [table_eq]
  exact frame_any (F := Bits) m ρ

end Cert.Proof
-- ==== Proof.Order.lean ====
/-
  The nodes ordered by a key, then by number: how many nodes are before a node (`rank`), the node that has a given number
  before it (`elt`), and what raising one node's key to infinity does to them.
-/
module

public import proofs.«01_k».proof.Defs
public import Mathlib.Data.EReal.Operations
public import Mathlib.Algebra.BigOperators.Fin

@[expose] public section

noncomputable section

namespace Cert.Proof

open scoped BigOperators
open Classical

/-- A node of one batch. -/
abbrev Node : Type := Fin 4096

/-- Node `a` is before node `b`: its key is less, or the keys are equal and its number is less. -/
def Before (e : Node → EReal) (a b : Node) : Prop := e a < e b ∨ (e a = e b ∧ a < b)

variable {e : Node → EReal}

/-- No node is before itself. -/
theorem Before.irrefl (a : Node) : ¬Before e a a := fun h => by
  rcases h with h | h
  · exact lt_irrefl _ h
  · exact lt_irrefl _ h.2

/-- The order is transitive, -/
theorem Before.trans {a b c : Node} (h : Before e a b) (h' : Before e b c) : Before e a c := by
  rcases h with h | ⟨h, i⟩ <;> rcases h' with h' | ⟨h', i'⟩
  · exact .inl (h.trans h')
  · exact .inl (h' ▸ h)
  · exact .inl (h.symm ▸ h')
  · exact .inr ⟨h.trans h', i.trans i'⟩

/-- and total. -/
theorem Before.total {a b : Node} (h : a ≠ b) : Before e a b ∨ Before e b a := by
  rcases lt_trichotomy (e a) (e b) with h1 | h1 | h1
  · exact .inl (.inl h1)
  · rcases lt_or_gt_of_ne h with h2 | h2
    · exact .inl (.inr ⟨h1, h2⟩)
    · exact .inr (.inr ⟨h1.symm, h2⟩)
  · exact .inr (.inl h1)

/-- How many nodes are before node `j`. -/
def rank (e : Node → EReal) (j : Node) : ℕ := (Finset.univ.filter fun a => Before e a j).card

/-- A node before another has the lower rank. -/
theorem rank_lt_of_before {a b : Node} (h : Before e a b) : rank e a < rank e b := by
  refine Finset.card_lt_card (Finset.ssubset_iff_subset_ne.2 ⟨fun c hc => ?_, fun hne => ?_⟩)
  · simp only [Finset.mem_filter, Finset.mem_univ, true_and] at hc ⊢
    exact hc.trans h
  · have hb : a ∈ Finset.univ.filter fun c => Before e c b := by simpa using h
    rw [← hne] at hb
    exact Before.irrefl a (by simpa using hb)

/-- Ranks are below 4096. -/
theorem rank_lt (j : Node) : rank e j < 4096 := by
  have h : (Finset.univ.filter fun a => Before e a j) ⊂ Finset.univ :=
    Finset.ssubset_univ_iff.2 fun h => Before.irrefl (e := e) j (by
      have : j ∈ Finset.univ.filter fun a => Before e a j := by rw [h]; exact Finset.mem_univ _
      simpa using this)
  have := Finset.card_lt_card h
  simpa [rank] using this

/-- No two nodes have the same rank. -/
theorem rank_injective : Function.Injective (fun j => (⟨rank e j, rank_lt j⟩ : Node)) := fun a b h => by
  by_contra hne
  have h' : rank e a = rank e b := congrArg Fin.val h
  rcases Before.total (e := e) hne with h1 | h1 <;> have := rank_lt_of_before h1 <;> omega

/-- The node with `r` nodes before it. -/
def elt (e : Node → EReal) (r : ℕ) : Node :=
  (Equiv.ofBijective _ (Finite.injective_iff_bijective.1 (rank_injective (e := e)))).symm ⟨r % 4096, Nat.mod_lt _ (by decide)⟩

/-- The node at a place has that rank, -/
theorem rank_elt {r : ℕ} (h : r < 4096) : rank e (elt e r) = r := by
  have := (Equiv.ofBijective _ (Finite.injective_iff_bijective.1 (rank_injective (e := e)))).apply_symm_apply
    ⟨r % 4096, Nat.mod_lt _ (by decide)⟩
  have h2 := congrArg Fin.val this
  simp only [Equiv.ofBijective_apply] at h2
  exact h2.trans (Nat.mod_eq_of_lt h)

/-- and a node with that rank is it. -/
theorem elt_of_rank {r : ℕ} {j : Node} (h : rank e j = r) : j = elt e r := by
  have hr : r < 4096 := h ▸ rank_lt j
  exact rank_injective (e := e) (Fin.ext (by show rank e j = rank e (elt e r); rw [rank_elt hr, h]))

/-- The sum over the first `k` nodes, in order, is the sum over the nodes of rank below `k`. -/
theorem sum_elt (p : Node → EReal) {k : ℕ} (hk : k ≤ 4096) :
    ∑ r ∈ Finset.range k, p (elt e r) = ∑ j ∈ Finset.univ.filter (fun j => rank e j < k), p j := by
  refine Finset.sum_bij (fun r _ => elt e r) (fun r hr => ?_) (fun a ha b hb h => ?_) (fun j hj => ?_) (fun _ _ => rfl)
  · have := Finset.mem_range.1 hr
    simp only [Finset.mem_filter, Finset.mem_univ, true_and]
    rw [rank_elt (by omega)]; exact this
  · have h1 := Finset.mem_range.1 ha
    have h2 := Finset.mem_range.1 hb
    rw [← rank_elt (e := e) (r := a) (by omega), h, rank_elt (by omega)]
  · simp only [Finset.mem_filter, Finset.mem_univ, true_and] at hj
    exact ⟨rank e j, Finset.mem_range.2 hj, (elt_of_rank rfl).symm⟩

/-! ## One node's key raised to infinity -/

/-- The keys with node `i`'s raised to infinity. -/
def mask (e : Node → EReal) (i : Node) : Node → EReal := fun j => if j = i then ⊤ else e j

/-- The node set aside. -/
theorem mask_self (e : Node → EReal) (i : Node) : mask e i i = ⊤ := if_pos rfl
/-- Any other keeps its key. -/
theorem mask_ne (e : Node → EReal) {i j : Node} (h : j ≠ i) : mask e i j = e j := if_neg h

/-- Another node's rank loses the raised node, if that was before it. -/
theorem rank_mask {i j : Node} (hji : j ≠ i) (hj : e j < ⊤) :
    rank e j = rank (mask e i) j + if Before e i j then 1 else 0 := by
  have hset : (Finset.univ.filter fun a => Before (mask e i) a j) = (Finset.univ.filter fun a => Before e a j).erase i := by
    ext a
    simp only [Finset.mem_filter, Finset.mem_univ, true_and, Finset.mem_erase]
    by_cases ha : a = i
    · subst ha
      simp only [ne_eq, not_true, false_and, iff_false]
      rintro (h | ⟨h, _⟩)
      · rw [mask_self] at h; exact absurd h not_top_lt
      · rw [mask_self, mask_ne e hji] at h; exact absurd hj (by rw [← h]; exact lt_irrefl _)
    · simp only [ne_eq, ha, not_false_iff, true_and]
      unfold Before; rw [mask_ne e ha, mask_ne e hji]
  unfold rank
  rw [hset]
  by_cases h : Before e i j
  · rw [if_pos h]
    exact (Finset.card_erase_add_one (by simpa using h)).symm
  · rw [if_neg h, Finset.erase_eq_of_notMem (by simpa using h), add_zero]

/-- The first `k` nodes have finite keys. -/
def Has (e : Node → EReal) (k : ℕ) : Prop := k ≤ 4096 ∧ ∀ r < k, e (elt e r) < ⊤

/-- Of finite keys one raised: all but the last node's are finite. -/
theorem has_mask (h : ∀ j, e j < ⊤) (i : Node) : Has (mask e i) 4095 := by
  refine ⟨by decide, fun r hr => ?_⟩
  by_cases hi : elt (mask e i) r = i
  · exfalso
    have hrank : rank (mask e i) i = 4095 := by
      have : (Finset.univ.filter fun a => Before (mask e i) a i) = Finset.univ.erase i := by
        ext a
        simp only [Finset.mem_filter, Finset.mem_univ, true_and, Finset.mem_erase, and_true]
        refine ⟨fun hb hai => Before.irrefl i (hai ▸ hb), fun hai => .inl ?_⟩
        rw [mask_self, mask_ne e hai]; exact h a
      unfold rank; rw [this, Finset.card_erase_of_mem (Finset.mem_univ _)]; simp
    have h2 := rank_elt (e := mask e i) (r := r) (by omega)
    rw [hi, hrank] at h2; omega
  · rw [mask_ne e hi]; exact h _

/-- The first node raised: the following nodes each move one place to the front. -/
theorem elt_mask_first {k r : ℕ} (h : Has e (k + 1)) (hr : r < k) : elt (mask e (elt e 0)) r = elt e (r + 1) := by
  have hk := h.1
  have hne : elt e (r + 1) ≠ elt e 0 := fun he => by
    have := rank_elt (e := e) (r := r + 1) (by omega)
    rw [he, rank_elt (by decide)] at this; omega
  have hb : Before e (elt e 0) (elt e (r + 1)) := (Before.total hne).resolve_left fun hb => by
    have := rank_lt_of_before hb
    rw [rank_elt (e := e) (r := 0) (by decide)] at this; omega
  have := rank_mask hne (h.2 (r + 1) (by omega))
  rw [if_pos hb, rank_elt (by omega)] at this
  exact (elt_of_rank (by omega)).symm

/-- The first set aside, one fewer is finite. -/
theorem has_mask_first {k : ℕ} (h : Has e (k + 1)) : Has (mask e (elt e 0)) k := by
  have hk := h.1
  refine ⟨by omega, fun r hr => ?_⟩
  rw [elt_mask_first h hr]
  have hne : elt e (r + 1) ≠ elt e 0 := fun he => by
    have := rank_elt (e := e) (r := r + 1) (by omega)
    rw [he, rank_elt (by decide)] at this; omega
  rw [mask_ne e hne]; exact h.2 (r + 1) (by omega)

/-- A node with at most five before it is among the first six; the other five are the first five of the others. -/
theorem sum_six (p : Node → EReal) (h : ∀ j, e j < ⊤) {i : Node} (hi : rank e i ≤ 5) :
    ∑ r ∈ Finset.range 6, p (elt e r) = p i + ∑ r ∈ Finset.range 5, p (elt (mask e i) r) := by
  rw [sum_elt p (by decide), sum_elt p (by decide)]
  have hmi : ¬rank (mask e i) i < 5 := fun hlt => by
    have h2 := (has_mask h i).2 (rank (mask e i) i) (by omega)
    rw [← elt_of_rank rfl, mask_self] at h2
    exact lt_irrefl _ h2
  have hset : (Finset.univ.filter fun j => rank e j < 6) = insert i (Finset.univ.filter fun j => rank (mask e i) j < 5) := by
    ext j
    simp only [Finset.mem_filter, Finset.mem_univ, true_and, Finset.mem_insert]
    by_cases hj : j = i
    · subst hj; simp only [true_or, iff_true]; omega
    · simp only [hj, false_or]
      have hm := rank_mask hj (h j)
      by_cases hb : Before e i j
      · rw [if_pos hb] at hm; omega
      · rw [if_neg hb] at hm
        have hb' := rank_lt_of_before ((Before.total hj).resolve_right hb)
        omega
  rw [hset, Finset.sum_insert (by simpa using hmi)]

end Cert.Proof
-- ==== Proof.Insert.lean ====
/-
  Insertion into an ordered list of kept keys: after `k` candidates slot `r` keeps the candidate with `r` candidates before
  it. A candidate whose key is infinite is never inserted.
-/
module

public import proofs.«01_k».proof.Proof.Order

@[expose] public section

noncomputable section

namespace Cert.Proof

open Classical

/-- The key slot `r` keeps after the first `k` candidates, with `v` the candidates' keys; slot 0 counted from 1 is below
    every key. -/
def keep (v : ℕ → EReal) : ℕ → ℕ → EReal
  | _, 0 => ⊥
  | 0, _ + 1 => ⊤
  | k + 1, r + 1 => if v k < keep v k (r + 1) then (if v k < keep v k r then keep v k r else v k) else keep v k (r + 1)

/-- The candidate slot `r` keeps. -/
def keepI (v : ℕ → EReal) : ℕ → ℕ → ℕ
  | _, 0 => 0
  | 0, _ + 1 => 0
  | k + 1, r + 1 => if v k < keep v k (r + 1) then (if v k < keep v k r then keepI v k r else k) else keepI v k (r + 1)

/-- How many of the first `k` candidates have a key at most `t`. -/
def cnt (v : ℕ → EReal) (k : ℕ) (t : EReal) : ℕ := ((Finset.range k).filter fun a => v a ≤ t).card

/-- How many of the first `k` candidates are before candidate `j`. -/
def rk (v : ℕ → EReal) (k j : ℕ) : ℕ := ((Finset.range k).filter fun a => v a < v j ∨ (v a = v j ∧ a < j)).card

variable {v : ℕ → EReal}

/-- One candidate more, for the count of those at most `t`. -/
theorem cnt_succ (k : ℕ) (t : EReal) : cnt v (k + 1) t = cnt v k t + if v k ≤ t then 1 else 0 := by
  unfold cnt
  rw [Finset.range_add_one, Finset.filter_insert]
  split
  · rw [Finset.card_insert_of_notMem (by simp)]
  · rw [add_zero]

/-- One candidate more, for the count of those before candidate `j`. -/
theorem rk_succ (k j : ℕ) : rk v (k + 1) j = rk v k j + if v k < v j ∨ (v k = v j ∧ k < j) then 1 else 0 := by
  unfold rk
  rw [Finset.range_add_one, Finset.filter_insert]
  split
  · rw [Finset.card_insert_of_notMem (by simp)]
  · rw [add_zero]

/-- A key below infinity is below what slot `r` keeps exactly when fewer than `r` candidates have a key at most that. -/
theorem lt_keep {t : EReal} (ht : t < ⊤) : ∀ k r, t < keep v k r ↔ cnt v k t < r
  | k, 0 => by
    have : keep v k 0 = ⊥ := by cases k <;> rfl
    rw [this]; simp
  | 0, r + 1 => by
    show t < ⊤ ↔ _
    simp [ht, cnt]
  | k + 1, r + 1 => by
    have h1 := lt_keep ht k (r + 1)
    have h0 := lt_keep ht k r
    rw [cnt_succ]
    show t < (if v k < keep v k (r + 1) then (if v k < keep v k r then keep v k r else v k) else keep v k (r + 1)) ↔ _
    by_cases hv : v k ≤ t
    · rw [if_pos hv]
      have hvt : v k < ⊤ := lt_of_le_of_lt hv ht
      have g1 := lt_keep hvt k (r + 1)
      have g0 := lt_keep hvt k r
      by_cases c1 : v k < keep v k (r + 1)
      · rw [if_pos c1]
        by_cases c0 : v k < keep v k r
        · rw [if_pos c0, h0]; omega
        · rw [if_neg c0]
          have : ¬t < keep v k r := fun h => c0 (lt_of_le_of_lt hv h)
          rw [h0] at this
          exact ⟨fun h => absurd h (not_lt.2 hv), fun h => by omega⟩
      · rw [if_neg c1]
        have h2 : ¬t < keep v k (r + 1) := fun h => c1 (lt_of_le_of_lt hv h)
        rw [h1] at h2
        exact ⟨fun h => absurd (lt_of_le_of_lt hv h) c1, fun h => by omega⟩
    · rw [if_neg hv, add_zero]
      have hv' := not_le.1 hv
      by_cases c1 : v k < keep v k (r + 1)
      · rw [if_pos c1]
        have h2 := h1.1 (hv'.trans c1)
        by_cases c0 : v k < keep v k r
        · rw [if_pos c0]; exact ⟨fun _ => h2, fun _ => hv'.trans c0⟩
        · rw [if_neg c0]; exact ⟨fun _ => h2, fun _ => hv'⟩
      · rw [if_neg c1]; exact h1

/-- The candidates with a key at most that of candidate `k`, not yet counted, are those before it. -/
theorem rk_new (k : ℕ) : rk v k k = cnt v k (v k) := by
  unfold rk cnt
  congr 1
  refine Finset.filter_congr fun a ha => ?_
  have := Finset.mem_range.1 ha
  constructor
  · rintro (h | ⟨h, _⟩)
    · exact h.le
    · exact h.le
  · intro h
    rcases h.lt_or_eq with h | h
    · exact .inl h
    · exact .inr ⟨h, this⟩

/-- Slot `r + 1` keeps the candidate with `r` candidates before it. -/
theorem keepI_eq : ∀ k r j, j < k → v j < ⊤ → rk v k j = r → keepI v k (r + 1) = j
  | 0, _, _, h, _, _ => absurd h (Nat.not_lt_zero _)
  | k + 1, r, j, hjk, hj, hr => by
    rw [rk_succ] at hr
    show (if v k < keep v k (r + 1) then (if v k < keep v k r then keepI v k r else k) else keepI v k (r + 1)) = j
    rcases Nat.lt_succ_iff_lt_or_eq.1 hjk with hlt | rfl
    · have hkj : ¬k < j := by omega
      by_cases hv : v k < v j
      · rw [if_pos (.inl hv)] at hr
        have hvk : v k < ⊤ := hv.trans hj
        have hle : cnt v k (v k) ≤ rk v k j := Finset.card_le_card fun a ha => by
          simp only [Finset.mem_filter] at ha ⊢
          exact ⟨ha.1, .inl (lt_of_le_of_lt ha.2 hv)⟩
        obtain ⟨r, rfl⟩ : ∃ q, r = q + 1 := ⟨r - 1, by omega⟩
        rw [if_pos ((lt_keep hvk k _).2 (by omega)), if_pos ((lt_keep hvk k _).2 (by omega))]
        exact keepI_eq k r j hlt hj (by omega)
      · rw [if_neg (by rintro (h | ⟨_, h⟩) <;> contradiction), add_zero] at hr
        have hjv := not_lt.1 hv
        have hlt2 : rk v k j < cnt v k (v k) := Finset.card_lt_card (Finset.ssubset_iff_subset_ne.2 ⟨fun a ha => by
            simp only [Finset.mem_filter] at ha ⊢
            refine ⟨ha.1, ?_⟩
            rcases ha.2 with h | ⟨h, _⟩
            · exact h.le.trans hjv
            · exact h.le.trans hjv, fun he => by
            have : j ∈ (Finset.range k).filter fun a => v a ≤ v k := by simp [hlt, hjv]
            rw [← he] at this
            simp at this⟩)
        have hn : ¬v k < keep v k (r + 1) := by
          by_cases hvk : v k < ⊤
          · rw [lt_keep hvk]; omega
          · exact fun h => hvk (lt_of_lt_of_le h le_top)
        rw [if_neg hn]
        exact keepI_eq k r j hlt hj hr
    · rw [if_neg (by simp), add_zero, rk_new] at hr
      rw [if_pos ((lt_keep hj _ _).2 (by omega)), if_neg (by rw [lt_keep hj]; omega)]

/-- After all the candidates the slots keep the first nodes in order. -/
theorem keepI_last {e : Node → EReal} (hv : ∀ j : Node, v j.val = e j) {r : ℕ} (hr : r < 4096) (h : e (elt e r) < ⊤) :
    keepI v 4096 (r + 1) = (elt e r).val := by
  refine keepI_eq 4096 r _ (elt e r).isLt (by rw [hv]; exact h) ?_
  refine Eq.trans ?_ (rank_elt (e := e) hr)
  unfold rk rank
  refine (Finset.card_bij (fun a _ => a.val) (fun a ha => ?_) (fun a _ b _ h => Fin.ext h) (fun b hb => ?_)).symm
  · simp only [Finset.mem_filter, Finset.mem_univ, true_and, Finset.mem_range] at ha ⊢
    refine ⟨a.isLt, ?_⟩
    rw [hv, hv]; exact ha
  · simp only [Finset.mem_filter, Finset.mem_range] at hb
    obtain ⟨hb1, h2⟩ := hb
    refine ⟨⟨b, hb1⟩, ?_, rfl⟩
    rw [show v b = e ⟨b, hb1⟩ from hv ⟨b, hb1⟩, show v (elt e r).val = e (elt e r) from hv _] at h2
    simp only [Finset.mem_filter, Finset.mem_univ, true_and]
    exact h2

end Cert.Proof
-- ==== Proof.ScanIdeal.lean ====
/-
  The SparseCore call's results over the extended reals: at a row they are the sum of a table at the query's node and at the
  five first other nodes in the order of squared distances.
-/
module

public import proofs.«01_k».proof.Proof.Insert
public import proofs.«01_k».proof.Proof.Values
public import Idealize.ShloMosaic.PureOps.Ideal.Laws

@[expose] public section

noncomputable section

namespace Cert.Proof

open Cert.KernelIdeal Cert.KernelIdeal.Gen
open Idealize.ShloMosaic Idealize.SL.Sem
open scoped BigOperators
open Classical

/-- The infinite word denotes infinity. -/
theorem ofBits_inf : Ideal.ofBits .f32 0x7F800000#32 = (⊤ : EReal) := by
  simp [Ideal.ofBits, Ideal.ieee]

/-- The candidates' keys as one lane sees them. -/
def laneKey (xi yi : Vec Ideal S16 .f32) (slf : IVec S16 32) (cx cy : Vec Ideal S4096 .f32) (l : S16.Idx) (k : ℕ) : EReal :=
  masked xi yi slf (jvec k) (take cx (jvec k)) (take cy (jvec k)) l

/-- Every lane of a candidate's position is its number. -/
theorem jvec_apply (k : ℕ) (l : S16.Idx) : jvec k l = BitVec.ofNat 32 k := by
  show Scf.iv 0#32 1#32 k = _
  simp [Scf.iv]

/-- A choice by comparison. -/
theorem select_lt {α : Type} (x y : EReal) (a b : α) :
    Scalar.select (Ideal.cmp .olt x y) a b = if x < y then a else b := by
  unfold Scalar.select Ideal.cmp
  by_cases h : x < y <;> simp [h]

/-- What a lane carries after `k` candidates is what the five slots keep. -/
theorem scan_keep (xi yi : Vec Ideal S16 .f32) (slf : IVec S16 32) (cx cy : Vec Ideal S4096 .f32) (l : S16.Idx) (k : ℕ) :
    ((scan xi yi slf cx cy k).1 l = keep (laneKey xi yi slf cx cy l) k 1
      ∧ (scan xi yi slf cx cy k).2.1 l = keep (laneKey xi yi slf cx cy l) k 2
      ∧ (scan xi yi slf cx cy k).2.2.1 l = keep (laneKey xi yi slf cx cy l) k 3
      ∧ (scan xi yi slf cx cy k).2.2.2.1 l = keep (laneKey xi yi slf cx cy l) k 4
      ∧ (scan xi yi slf cx cy k).2.2.2.2.1 l = keep (laneKey xi yi slf cx cy l) k 5)
    ∧ ((scan xi yi slf cx cy k).2.2.2.2.2.1 l = BitVec.ofNat 32 (keepI (laneKey xi yi slf cx cy l) k 1)
      ∧ (scan xi yi slf cx cy k).2.2.2.2.2.2.1 l = BitVec.ofNat 32 (keepI (laneKey xi yi slf cx cy l) k 2)
      ∧ (scan xi yi slf cx cy k).2.2.2.2.2.2.2.1 l = BitVec.ofNat 32 (keepI (laneKey xi yi slf cx cy l) k 3)
      ∧ (scan xi yi slf cx cy k).2.2.2.2.2.2.2.2.1 l = BitVec.ofNat 32 (keepI (laneKey xi yi slf cx cy l) k 4)
      ∧ (scan xi yi slf cx cy k).2.2.2.2.2.2.2.2.2 l = BitVec.ofNat 32 (keepI (laneKey xi yi slf cx cy l) k 5)) := by
  induction k with
  | zero => exact ⟨⟨ofBits_inf, ofBits_inf, ofBits_inf, ofBits_inf, ofBits_inf⟩, rfl, rfl, rfl, rfl, rfl⟩
  | succ k ih =>
    obtain ⟨⟨h1, h2, h3, h4, h5⟩, i1, i2, i3, i4, i5⟩ := ih
    have hs (c d : FVec Ideal S16 .f32) {α : Type} (a b : S16.Idx → α) :
        select (cmpf .olt c d) a b l = if c l < d l then a l else b l := select_lt _ _ _ _
    have hd : masked xi yi slf (jvec k) (take cx (jvec k)) (take cy (jvec k)) l = laneKey xi yi slf cx cy l k := rfl
    have hb (r : ℕ) : (BitVec.ofNat 32 (if laneKey xi yi slf cx cy l k < keep (laneKey xi yi slf cx cy l) k (r + 1) then
        (if laneKey xi yi slf cx cy l k < keep (laneKey xi yi slf cx cy l) k r then keepI (laneKey xi yi slf cx cy l) k r else k)
          else keepI (laneKey xi yi slf cx cy l) k (r + 1)) : BitVec 32)
        = if laneKey xi yi slf cx cy l k < keep (laneKey xi yi slf cx cy l) k (r + 1) then
        (if laneKey xi yi slf cx cy l k < keep (laneKey xi yi slf cx cy l) k r then BitVec.ofNat 32 (keepI (laneKey xi yi slf cx cy l) k r)
          else BitVec.ofNat 32 k) else BitVec.ofNat 32 (keepI (laneKey xi yi slf cx cy l) k (r + 1)) := by
      split <;> [split; skip] <;> rfl
    have hk0 : keep (laneKey xi yi slf cx cy l) k 0 = ⊥ := by cases k <;> rfl
    simp only [scan, insert5, hs, hd, h1, h2, h3, h4, h5, i1, i2, i3, i4, i5, jvec_apply, keep, keepI, hb, hk0, not_lt_bot, if_false,
      and_self, true_and]
    exact ⟨(apply_ite (BitVec.ofNat 32) _ _ _).symm, trivial⟩

/-- A node's entry of a table. -/
abbrev atNode (j : Node) : S4096.Idx := at1 j.val j.isLt

/-- A gather at a node's number takes the node's entry. -/
theorem take_node (p : Vec Ideal S4096 .f32) {v : IVec S16 32} {l : S16.Idx} {j : Node} (h : v l = BitVec.ofNat 32 j.val) :
    take p v l = p (atNode j) := by
  have hj := j.isLt
  have : (v l).toNat % 4096 = j.val := by rw [h, BitVec.toNat_ofNat]; omega
  unfold take
  exact congrArg p (idx1_ext this)

/-- One lane's sum: the query's own entry and the five first other nodes'. -/
theorem groupSum_eq (xi yi : Vec Ideal S16 .f32) (slf : IVec S16 32) (cx cy p : Vec Ideal S4096 .f32) (l : S16.Idx) {i : Node}
    (hi : slf l = BitVec.ofNat 32 i.val) {e : Node → EReal} (he : ∀ j : Node, laneKey xi yi slf cx cy l j.val = mask e i j)
    (hf : ∀ j, e j < ⊤) :
    groupSum p slf (scan xi yi slf cx cy 4096) l
      = p (atNode i) + ∑ r ∈ Finset.range 5, p (atNode (elt (mask e i) r)) := by
  have hk (r : ℕ) (hr : r < 5) : keepI (laneKey xi yi slf cx cy l) 4096 (r + 1) = (elt (mask e i) r).val :=
    keepI_last he (by omega) ((has_mask hf i).2 r (by omega))
  obtain ⟨-, i1, i2, i3, i4, i5⟩ := scan_keep xi yi slf cx cy l 4096
  rw [hk 0 (by decide)] at i1
  rw [hk 1 (by decide)] at i2
  rw [hk 2 (by decide)] at i3
  rw [hk 3 (by decide)] at i4
  rw [hk 4 (by decide)] at i5
  have h0 : (Scalar.ofBits .f32 0x00000000#32 : Ideal .f32) = 0 := Ideal.ofBits_zero_f32
  show ((((((Scalar.ofBits .f32 0x00000000#32 : Ideal .f32) + take p slf l : EReal) + take p _ l : EReal) + take p _ l : EReal)
    + take p _ l : EReal) + take p _ l : EReal) + take p _ l = _
  rw [take_node p hi, take_node p i1, take_node p i2, take_node p i3, take_node p i4, take_node p i5, h0]
  simp only [Finset.sum_range_succ, Finset.sum_range_zero, zero_add, add_assoc]

end Cert.Proof
-- ==== Proof.Rounds.lean ====
/-
  The first TensorCore call's selection: each round marks, in every row, the first node of least key and raises its key to
  infinity. Five rounds after the query itself mark the query and the five first others.
-/
module

public import proofs.«01_k».proof.Proof.ScanIdeal
public import proofs.«01_k».proof.Proof.Head
public import Idealize.ShloMosaic.Lib.Pointwise
public import Idealize.ShloMosaic.Lib.SortNet.Extract

@[expose] public section

noncomputable section

namespace Cert.Proof

open Cert.KernelIdeal Cert.KernelIdeal.Gen
open Idealize.ShloMosaic Idealize.SL.Sem
open scoped BigOperators
open Classical

/-- The mark of the first node of least key in each row. -/
def firstMask (D : FVec Ideal S256x4096 .f32) : IVec S256x4096 1 :=
  cmpi .eq (iota .tc S256x4096 32 [1] iota_S256x4096_d1_w32) (broadcastTo S256x4096 (shapeCast S256x1 (multiReductionI .minsi [1] S256
    (select (cmpf .oeq D (broadcastTo S256x4096 (shapeCast S256x1
        (multiReduction .minimumf [1] S256 D 0x7F800000#32 reduces_S256x4096_S256 (.inl rfl) rfl) shapeCasts_S256_S256x1) broadcasts_S256x1_S256x4096))
      (iota .tc S256x4096 32 [1] iota_S256x4096_d1_w32) (broadcast S256x4096 4096#32)) 2147483647#32 reduces_S256x4096_S256 rfl)
    shapeCasts_S256_S256x1) broadcasts_S256x1_S256x4096)

/-- A mark as a number. -/
def markF (M : IVec S256x4096 1) : FVec Ideal S256x4096 .f32 := sitofp .f32 (extui 32 M natLt_1_32)

/-- The keys with the marked nodes' raised to infinity. -/
def raised (D : FVec Ideal S256x4096 .f32) : FVec Ideal S256x4096 .f32 :=
  select (firstMask D) (broadcast S256x4096 (Scalar.ofBits .f32 0x7F800000#32)) D

/-- The keys of one row. -/
def rowOf (D : FVec Ideal S256x4096 .f32) (r : Fin 256) : Node → EReal := fun j => D (ix2 r j)

/-- The first node's key is the least. -/
theorem elt_zero_le (e : Node → EReal) (k : Node) : e (elt e 0) ≤ e k := by
  by_cases h : k = elt e 0
  · rw [h]
  · rcases Before.total (e := e) h with h1 | h1
    · have := rank_lt_of_before h1
      rw [rank_elt (e := e) (r := 0) (by decide)] at this; omega
    · rcases h1 with h1 | h1
      · exact h1.le
      · exact h1.1.le

/-- Of the nodes with the least key the first node has the least number. -/
theorem elt_zero_first (e : Node → EReal) {k : Node} (h : e k = e (elt e 0)) : (elt e 0).val ≤ k.val := by
  by_contra hlt
  have hb : Before e k (elt e 0) := .inr ⟨h, by simpa using hlt⟩
  have := rank_lt_of_before hb
  rw [rank_elt (e := e) (r := 0) (by decide)] at this; omega

/-- The least key of a row. -/
theorem fold_min_eq (e : Node → EReal) : Finset.fold min (⊤ : EReal) e Finset.univ = e (elt e 0) :=
  le_antisymm ((Finset.fold_min_le _).2 (.inr ⟨elt e 0, Finset.mem_univ _, le_refl _⟩))
    (Finset.le_fold_min _ |>.2 ⟨le_top, fun k _ => elt_zero_le e k⟩)

/-- The number of the first node of least key, as the integer reduction finds it. -/
theorem fold_first_eq (e : Node → EReal) :
    Finset.fold IntOp.minsi (2147483647#32) (fun k : Node => if e k = e (elt e 0) then BitVec.ofNat 32 k.val else 4096#32) Finset.univ
      = BitVec.ofNat 32 (elt e 0).val := by
  apply BitVec.eq_of_toInt_eq
  have hint (k : Node) : (BitVec.ofNat 32 k.val).toInt = (k.val : ℤ) := by
    have := k.isLt
    rw [BitVec.toInt_eq_toNat_of_lt] <;> rw [BitVec.toNat_ofNat] <;> omega
  have hh := Finset.fold_hom (op := IntOp.minsi) (op' := (min : ℤ → ℤ → ℤ)) (m := fun b : BitVec 32 => b.toInt)
    (s := (Finset.univ : Finset Node)) (b := 2147483647#32)
    (f := fun k : Node => if e k = e (elt e 0) then BitVec.ofNat 32 k.val else 4096#32) (fun x y => SortNet.toInt_minsi x y)
  refine hh.symm.trans (le_antisymm ((Finset.fold_min_le _).2 (.inr ⟨elt e 0, Finset.mem_univ _, ?_⟩)) ((Finset.le_fold_min _).2 ⟨?_, fun k _ => ?_⟩))
  · rw [if_pos rfl]
  · rw [hint]
    have := (elt e 0).isLt
    have h : (2147483647#32).toInt = 2147483647 := by decide
    rw [h]; omega
  · rw [hint]
    have := (elt e 0).isLt
    split
    · next h => rw [hint]; exact_mod_cast elt_zero_first e h
    · have h : (4096#32).toInt = 4096 := by decide
      rw [h]; omega

/-- The comparison of two nodes' numbers. -/
theorem cmpi_eq_node (j k : Node) : IntOp.cmpi .eq (BitVec.ofNat 32 j.val) (BitVec.ofNat 32 k.val) = if j = k then 1#1 else 0#1 := by
  have hj := j.isLt
  have hk := k.isLt
  by_cases h : j = k
  · subst h; simp [IntOp.cmpi]
  · rw [if_neg h]
    have : ¬BitVec.ofNat 32 j.val = BitVec.ofNat 32 k.val := fun he => h (Fin.ext (by
      have := congrArg BitVec.toNat he
      rw [BitVec.toNat_ofNat, BitVec.toNat_ofNat] at this; omega))
    show BitVec.ofBool (BitVec.ofNat 32 j.val == BitVec.ofNat 32 k.val) = 0#1
    rw [beq_eq_false_iff_ne.2 this]; rfl

/-- A round marks the first node of its row. -/
theorem firstMask_apply (D : FVec Ideal S256x4096 .f32) (r : Fin 256) (j : Node) :
    firstMask D (ix2 r j) = if j = elt (rowOf D r) 0 then 1#1 else 0#1 := by
  rw [← cmpi_eq_node, ← fold_first_eq (rowOf D r), ← fold_min_eq (rowOf D r)]
  unfold firstMask rowOf
  have hb : Ideal.ofBits .f32 (2139095040#32) = (⊤ : EReal) := ofBits_inf
  pointwise [hb]

/-- And sets it aside. -/
theorem raised_row (D : FVec Ideal S256x4096 .f32) (r : Fin 256) : rowOf (raised D) r = mask (rowOf D r) (elt (rowOf D r) 0) := by
  funext j
  show Scalar.select (firstMask D (ix2 r j)) (Scalar.ofBits .f32 0x7F800000#32 : Ideal .f32) (D (ix2 r j)) = _
  rw [firstMask_apply]
  unfold mask
  by_cases h : j = elt (rowOf D r) 0
  · rw [if_pos h, if_pos h]; exact ofBits_inf
  · rw [if_neg h, if_neg h]; rfl

/-- A mark as a number. -/
theorem markF_apply (M : IVec S256x4096 1) (r : Fin 256) (j q : Node) (h : M (ix2 r j) = if j = q then 1#1 else 0#1) :
    markF M (ix2 r j) = if j = q then 1 else 0 := by
  show (((M (ix2 r j)).setWidth 32).toInt : ℝ) = ((if j = q then 1 else 0 : EReal))
  rw [h]
  by_cases h : j = q
  · rw [if_pos h, if_pos h]; simp
  · rw [if_neg h, if_neg h]; simp

/-- The keys after `t` rounds. -/
def rounds (D : FVec Ideal S256x4096 .f32) : ℕ → FVec Ideal S256x4096 .f32
  | 0 => D
  | t + 1 => raised (rounds D t)

/-- After `t` rounds the first node of a row is the one that was at place `t`. -/
theorem rounds_row (D : FVec Ideal S256x4096 .f32) (r : Fin 256) {k : ℕ} : ∀ t, Has (rowOf D r) (k + t) →
    Has (rowOf (rounds D t) r) k ∧ ∀ q < k, elt (rowOf (rounds D t) r) q = elt (rowOf D r) (q + t) := by
  intro t
  induction t generalizing k with
  | zero => exact fun h => ⟨h, fun _ _ => rfl⟩
  | succ t ih =>
    intro h
    obtain ⟨h1, h2⟩ := ih (k := k + 1) (by rw [show k + 1 + t = k + (t + 1) by omega]; exact h)
    show Has (rowOf (raised (rounds D t)) r) k ∧ ∀ q < k, elt (rowOf (raised (rounds D t)) r) q = _
    rw [raised_row]
    refine ⟨has_mask_first h1, fun q hq => ?_⟩
    rw [elt_mask_first h1 hq, h2 (q + 1) (by omega)]
    congr 1; omega

/-- The marks of the query and of five rounds, added up. -/
def marks (Q : FVec Ideal S256x4096 .f32) (D : FVec Ideal S256x4096 .f32) : FVec Ideal S256x4096 .f32 :=
  addf (addf (addf (addf (addf Q (markF (firstMask D))) (markF (firstMask (rounds D 1)))) (markF (firstMask (rounds D 2))))
    (markF (firstMask (rounds D 3)))) (markF (firstMask (rounds D 4)))

/-- A marked sum takes the marked entry. -/
theorem sum_mark (q : Node) (x : Node → EReal) : ∑ j, (if j = q then 1 else 0 : EReal) * x j = x q := by
  simp

/-- A mark is not negative. -/
theorem mark_nonneg (j q : Node) : (0 : EReal) ≤ if j = q then 1 else 0 := by split <;> simp

/-- The marked nodes' sum: the query's and the five first others'. -/
theorem sum_marks (Q D : FVec Ideal S256x4096 .f32) (r : Fin 256) (i : Node) (hQ : ∀ j, Q (ix2 r j) = if j = i then 1 else 0)
    (hD : Has (rowOf D r) 4095) (x : Node → EReal) :
    ∑ j, marks Q D (ix2 r j) * x j = x i + ∑ t ∈ Finset.range 5, x (elt (rowOf D r) t) := by
  have hm (t : ℕ) (ht : t < 5) (j : Node) : markF (firstMask (rounds D t)) (ix2 r j) = if j = elt (rowOf D r) t then 1 else 0 := by
    have h := (rounds_row D r (k := 4095 - t) t (by rw [Nat.sub_add_cancel (by omega)]; exact hD)).2 0 (by omega)
    rw [zero_add] at h
    rw [← h]
    exact markF_apply _ r j _ (firstMask_apply _ r j)
  have hj (j : Node) : marks Q D (ix2 r j) * x j = (((((if j = i then 1 else 0 : EReal) * x j + (if j = elt (rowOf D r) 0 then 1 else 0 : EReal) * x j)
      + (if j = elt (rowOf D r) 1 then 1 else 0 : EReal) * x j) + (if j = elt (rowOf D r) 2 then 1 else 0 : EReal) * x j)
      + (if j = elt (rowOf D r) 3 then 1 else 0 : EReal) * x j) + (if j = elt (rowOf D r) 4 then 1 else 0 : EReal) * x j := by
    show (((((Q (ix2 r j) + markF (firstMask (rounds D 0)) (ix2 r j) : EReal) + markF (firstMask (rounds D 1)) (ix2 r j) : EReal)
      + markF (firstMask (rounds D 2)) (ix2 r j) : EReal) + markF (firstMask (rounds D 3)) (ix2 r j) : EReal)
      + markF (firstMask (rounds D 4)) (ix2 r j) : EReal) * x j = _
    rw [hQ, hm 0 (by decide), hm 1 (by decide), hm 2 (by decide), hm 3 (by decide), hm 4 (by decide)]
    have n0 := mark_nonneg j
    rw [EReal.right_distrib_of_nonneg (by have := n0; repeat' apply add_nonneg <;> try exact n0 _) (n0 _),
      EReal.right_distrib_of_nonneg (by repeat' apply add_nonneg <;> try exact n0 _) (n0 _),
      EReal.right_distrib_of_nonneg (by repeat' apply add_nonneg <;> try exact n0 _) (n0 _),
      EReal.right_distrib_of_nonneg (by repeat' apply add_nonneg <;> try exact n0 _) (n0 _),
      EReal.right_distrib_of_nonneg (n0 _) (n0 _)]
  simp only [hj, Finset.sum_add_distrib, sum_mark]
  simp only [Finset.sum_range_succ, Finset.sum_range_zero, zero_add, add_assoc]

end Cert.Proof
-- ==== Proof.Layer.lean ====
/-
  The two TensorCore bodies' payloads, entry by entry: a row of results is the same function of the row's coordinates and of
  its neighbours' sum in both calls.
-/
module

public import proofs.«01_k».proof.Proof.Rounds

@[expose] public section

noncomputable section

namespace Cert.Proof

open Cert.KernelIdeal Cert.KernelIdeal.Gen
open Idealize.ShloMosaic Idealize.SL.Sem
open scoped BigOperators
open Classical

/-- Six and seven, as the kernel's constants have them. -/
def six : EReal := Ideal.ofBits .f32 0x40C00000#32
/-- Seven. -/
def seven : EReal := Ideal.ofBits .f32 0x40E00000#32

/-- One entry of the hidden layer's sum over the seven, from a row's coordinates `x` and its neighbours' sum `S`. -/
def hidF (x S : Fin 3 → EReal) (Wi Wn : Vec Ideal S3x128 .f32) (bi bn : Fin 128 → EReal) (e : Fin 128) : EReal :=
  ((∑ c, x c * Wi (ix2 c e)) + bi e) + (∑ c, (S c - six * x c) * Wn (ix2 c e)) + six * bn e

/-- One entry of a row of results. -/
def rowF (x S : Fin 3 → EReal) (Wi : Vec Ideal S3x128 .f32) (bi : Fin 128 → EReal) (Wn : Vec Ideal S3x128 .f32) (bn : Fin 128 → EReal)
    (Wf : Vec Ideal S128x128 .f32) (bf : Fin 128 → EReal) (o : Fin 128) : EReal :=
  (∑ e, hidF x S Wi Wn bi bn e * Wf (ix2 e o)) + seven * bf o

/-- The one row of a bias. -/
def row0 (B : Vec Ideal S1x128 .f32) : Fin 128 → EReal := fun e => B (ix2 (0 : Fin 1) e)

/-- An entry of the second call's block. -/
theorem tail_row (X1 X2 : Vec Ideal S256x3 .f32) (X3 : Vec Ideal S3x128 .f32) (X4 : Vec Ideal S1x128 .f32) (X5 : Vec Ideal S3x128 .f32)
    (X6 : Vec Ideal S1x128 .f32) (X7 : Vec Ideal S128x128 .f32) (X8 : Vec Ideal S1x128 .f32) (r : Fin 256) (o : Fin 128) :
    k2_pay2 X1 X2 X3 X4 X5 X6 X7 X8 (ix2 r o)
      = rowF (fun c => X1 (ix2 r c)) (fun c => X2 (ix2 r c)) X3 (row0 X4) X5 (row0 X6) X7 (row0 X8) o := by
  unfold k2_pay2 rowF hidF row0 six seven
  pointwise

/-- An entry of the sum of its rows. -/
theorem tail_sum (X1 X2 : Vec Ideal S256x3 .f32) (X3 : Vec Ideal S3x128 .f32) (X4 : Vec Ideal S1x128 .f32) (X5 : Vec Ideal S3x128 .f32)
    (X6 : Vec Ideal S1x128 .f32) (X7 : Vec Ideal S128x128 .f32) (X8 : Vec Ideal S1x128 .f32) (o : Fin 128) :
    k2_pay3 X1 X2 X3 X4 X5 X6 X7 X8 (ix2 (0 : Fin 1) o) = ∑ r, k2_pay2 X1 X2 X3 X4 X5 X6 X7 X8 (ix2 r o) := by
  unfold k2_pay3
  generalize k2_pay2 X1 X2 X3 X4 X5 X6 X7 X8 = Z
  pointwise

/-- The hidden layer from the marks. -/
def hidG (M : FVec Ideal S256x4096 .f32) (X1 : FVec Ideal S256x3 .f32) (X3 : FVec Ideal S4096x3 .f32) (X5 : FVec Ideal S3x128 .f32)
    (X6 : FVec Ideal S1x128 .f32) (X7 : FVec Ideal S3x128 .f32) : FVec Ideal S256x128 .f32 :=
  addf (addf (matmul dot_S256x3_S3x128_S256x128_1_0_0_1_n_n none (shapeCast S256x3 X1 shapeCasts_S256x3_S256x3) X5 (constant S256x128 .f32 0x00000000#32))
      (broadcastTo S256x128 (shapeCast S1x128 X6 shapeCasts_S1x128_S1x128) broadcasts_S1x128_S256x128))
    (matmul dot_S256x3_S3x128_S256x128_1_0_0_1_n_n none
      (subf (matmul dot_S256x4096_S4096x3_S256x3_1_0_0_1_n_n none M (shapeCast S4096x3 X3 shapeCasts_S4096x3_S4096x3) (constant S256x3 .f32 0x00000000#32))
        (mulf (broadcast S256x3 (Scalar.ofBits .f32 0x40C00000#32)) (shapeCast S256x3 X1 shapeCasts_S256x3_S256x3)))
      X7 (constant S256x128 .f32 0x00000000#32))

/-- The first call's hidden layer is a function of its marks. -/
theorem headG_eq (i : grid1.Coords) (X1 : Vec Ideal S256x3 .f32) (X2 : Vec Ideal S1x4096x2 .f32) (X3 : Vec Ideal S4096x3 .f32)
    (X5 : Vec Ideal S3x128 .f32) (X6 : Vec Ideal S1x128 .f32) (X7 : Vec Ideal S3x128 .f32) :
    headG i X1 X2 X3 X5 X6 X7 = hidG (marks (k1_pay5 i) (k1_pay6 i X1 X2)) X1 X3 X5 X6 X7 := rfl

/-- An entry of the first call's block. -/
theorem head_row_of (G : Vec Ideal S256x128 .f32) (M : FVec Ideal S256x4096 .f32) (X1 : Vec Ideal S256x3 .f32)
    (X3 : Vec Ideal S4096x3 .f32) (X5 : Vec Ideal S3x128 .f32)
    (X6 : Vec Ideal S1x128 .f32) (X7 : Vec Ideal S3x128 .f32) (X8 : Vec Ideal S1x128 .f32) (X9 : Vec Ideal S128x128 .f32)
    (X10 : Vec Ideal S1x128 .f32) (hG : G = hidG M X1 X3 X5 X6 X7) (r : Fin 256) (o : Fin 128) :
    k1_pay18 G (k1_pay17 X8) X9 X10 (ix2 r o)
      = rowF (fun c => X1 (ix2 r c)) (fun c => ∑ j, M (ix2 r j) * X3 (ix2 j c)) X5 (row0 X6) X7 (row0 X8) X9 (row0 X10) o := by
  subst hG
  unfold k1_pay18 k1_pay17 hidG rowF hidF row0 six seven
  pointwise

/-- Which batch's row a point's sums go to. -/
theorem head_sum (n : Fin 18) (G : Vec Ideal S256x128 .f32) (X8 : Vec Ideal S1x128 .f32) (X9 : Vec Ideal S128x128 .f32)
    (X10 : Vec Ideal S1x128 .f32) (b : Fin 2) (o : Fin 128) :
    k1_pay19 (BitVec.ofNat 32 n.val) G (k1_pay17 X8) X9 X10 (ix2 b o)
      = if b.val = n.val / 16 then ∑ r, k1_pay18 G (k1_pay17 X8) X9 X10 (ix2 r o) else 0 := by
  have hw : ∀ n : Fin 18, ∀ b : Fin 2, IntOp.cmpi .eq (BitVec.ofNat 32 b.val) (Scalar.select (Scalar.andi (Scalar.cmpi .ne (Scalar.subi (Scalar.extui (Scalar.cmpi .sgt (BitVec.ofNat 32 n.val) 0#32) : BitVec 32) (Scalar.extui (Scalar.cmpi .slt (BitVec.ofNat 32 n.val) 0#32)))
      (Scalar.subi (Scalar.extui (Scalar.cmpi .sgt 16#32 0#32) : BitVec 32) (Scalar.extui (Scalar.cmpi .slt 16#32 0#32)))) (Scalar.cmpi .ne (Scalar.remsi (BitVec.ofNat 32 n.val) 16#32) 0#32))
      (Scalar.subi (Scalar.divsi (BitVec.ofNat 32 n.val) 16#32) 1#32) (Scalar.divsi (BitVec.ofNat 32 n.val) 16#32)) = if b.val = n.val / 16 then 1#1 else 0#1 := by
    decide +kernel
  unfold k1_pay19
  generalize k1_pay18 G (k1_pay17 X8) X9 X10 = Z
  have hz : ∀ W : BitVec 32, IntOp.cmpi .eq (BitVec.ofNat 32 b.val) W = (if b.val = n.val / 16 then 1#1 else 0#1) →
      (select (broadcastTo S2x128 (shapeCast S2x1 (cmpi .eq (iota .tc S2x1 32 [0] iota_S2x1_d0_w32) (broadcast S2x1 W)) shapeCasts_S2x1_S2x1) broadcasts_S2x1_S2x128)
        (broadcastTo S2x128 (shapeCast S1x128 (shapeCast S1x128 (multiReduction .add [0] S128 Z 0x00000000#32 reduces_S256x128_S128 (.inl rfl) rfl) shapeCasts_S128_S1x128) shapeCasts_S1x128_S1x128) broadcasts_S1x128_S2x128)
        (broadcast S2x128 (Scalar.ofBits .f32 0x00000000#32)) : FVec Ideal S2x128 .f32) (ix2 b o) = if b.val = n.val / 16 then ∑ r, Z (ix2 r o) else 0 := by
    intro W hW
    pointwise [hW, Ideal.ofBits_zero_f32]
    split <;> simp [Scalar.select]
  exact hz _ (hw n b)

/-- A point's sums are added to those before. -/
theorem head_acc (R A : Vec Ideal S2x128 .f32) (b : Fin 2) (o : Fin 128) : k1_pay2 R A (ix2 b o) = A (ix2 b o) + R (ix2 b o) := by
  unfold k1_pay2
  pointwise

/-- The same in the second call. -/
theorem tail_acc (R A : Vec Ideal S1x128 .f32) (o : Fin 128) : k2_pay1 R A (ix2 (0 : Fin 1) o) = A (ix2 (0 : Fin 1) o) + R (ix2 (0 : Fin 1) o) := by
  unfold k2_pay1
  pointwise

/-- The depots' rows. -/
theorem head_dep (X4 : Vec Ideal S2x2 .f32) (X11 : Vec Ideal S2x128 .f32) (X12 : Vec Ideal S1x128 .f32) (b : Fin 2) (o : Fin 128) :
    k1_pay1 X4 X11 X12 (ix2 b o) = (∑ c, X4 (ix2 b c) * X11 (ix2 c o)) + row0 X12 o := by
  unfold k1_pay1 row0
  pointwise

/-- The query's own mark. -/
theorem head_self (i : grid1.Coords) (r : Fin 256) (j : Node) :
    k1_pay4 i (ix2 r j) = if j.val = 256 * ((i 0).val % 16) + r.val then 1#1 else 0#1 := by
  have hw : ∀ n : Fin 18, (Scalar.muli (Scalar.select (Scalar.andi (Scalar.xori (Scalar.cmpi .slt (Scalar.remsi (BitVec.ofNat 32 n.val) (Scalar.select (Scalar.cmpi .eq 16#32 0#32) 1#32 16#32)) 0#32)
        (Scalar.cmpi .slt (Scalar.select (Scalar.cmpi .eq 16#32 0#32) 1#32 16#32) 0#32)) (Scalar.cmpi .ne (Scalar.remsi (BitVec.ofNat 32 n.val) (Scalar.select (Scalar.cmpi .eq 16#32 0#32) 1#32 16#32)) 0#32))
      (Scalar.addi (Scalar.remsi (BitVec.ofNat 32 n.val) (Scalar.select (Scalar.cmpi .eq 16#32 0#32) 1#32 16#32)) (Scalar.select (Scalar.cmpi .eq 16#32 0#32) 1#32 16#32))
      (Scalar.remsi (BitVec.ofNat 32 n.val) (Scalar.select (Scalar.cmpi .eq 16#32 0#32) 1#32 16#32))) 256#32) = BitVec.ofNat 32 (256 * (n.val % 16)) := by
    decide +kernel
  have hz : ∀ W : BitVec 32, W = BitVec.ofNat 32 (256 * ((i 0).val % 16)) →
      (cmpi .eq (iota .tc S256x4096 32 [1] iota_S256x4096_d1_w32) (broadcastTo S256x4096 (addi (broadcast S256x1 W) (iota .tc S256x1 32 [0] iota_S256x1_d0_w32)) broadcasts_S256x1_S256x4096) : IVec S256x4096 1) (ix2 r j)
        = IntOp.cmpi .eq (BitVec.ofNat 32 j.val) (BitVec.ofNat 32 (256 * ((i 0).val % 16) + r.val)) := by
    intro W hW
    subst hW
    pointwise
    rw [BitVec.ofNat_add]; rfl
  have hi : (i 0).val < 18 := (i 0).isLt
  have hr := r.isLt
  refine (hz _ (hw (i 0))).trans ((cmpi_eq_node j ⟨256 * ((i 0).val % 16) + r.val, by omega⟩).trans ?_)
  simp only [Fin.ext_iff]

/-- The keys of a query row: infinity at itself, the squared distance elsewhere. -/
theorem head_key (i : grid1.Coords) (X1 : Vec Ideal S256x3 .f32) (X2 : Vec Ideal S1x4096x2 .f32) (r : Fin 256) (j : Node) :
    k1_pay6 i X1 X2 (ix2 r j) = if j.val = 256 * ((i 0).val % 16) + r.val then (⊤ : EReal) else
      (X1 (ix2 r (0 : Fin 3)) - X2 (ix3 (0 : Fin 1) j (0 : Fin 2))) * (X1 (ix2 r (0 : Fin 3)) - X2 (ix3 (0 : Fin 1) j (0 : Fin 2)))
        + (X1 (ix2 r (1 : Fin 3)) - X2 (ix3 (0 : Fin 1) j (1 : Fin 2))) * (X1 (ix2 r (1 : Fin 3)) - X2 (ix3 (0 : Fin 1) j (1 : Fin 2))) := by
  have hs := head_self i r j
  have hb : Ideal.ofBits .f32 (2139095040#32) = (⊤ : EReal) := ofBits_inf
  unfold k1_pay6 k1_pay3
  generalize k1_pay4 i = Q at hs
  pointwise [hs, hb]
  split <;> simp [Scalar.select]

end Cert.Proof
-- ==== Proof.Spec.lean ====
module

public import proofs.«01_k».proof.Proof.Layer
public import proofs.«01_k».proof.Proof.Rounds
public import proofs.«01_k».proof.Proof.ScanIdeal
public import proofs.«01_k».proof.Proof.Values

@[expose] public section

/-!
# What both programs compute

The arguments as one record, and the layer's rows written in the problem's own terms: a node's features, its squared
distances to the nodes of its batch, the six nearest, the sum of their features (taken from batch 0, as the reference takes
them), the row. Nothing here mentions either program.
-/

noncomputable section

namespace Cert.Proof

open Cert.KernelIdeal Cert.KernelIdeal.Gen
open Idealize.ShloMosaic

/-- The eleven arguments. -/
structure Args where
  loc : Vec Ideal S2x4096x2 .f32
  dl : Vec Ideal S2x4096 .f32
  dep : Vec Ideal S2x2 .f32
  Wi : Vec Ideal S3x128 .f32
  bi : Vec Ideal S128 .f32
  Wn : Vec Ideal S3x128 .f32
  bn : Vec Ideal S128 .f32
  Wf : Vec Ideal S128x128 .f32
  bf : Vec Ideal S128 .f32
  Wd : Vec Ideal S2x128 .f32
  bd : Vec Ideal S128 .f32

/-- An entry that is a real number. -/
def IsReal (x : EReal) : Prop := ∃ r : ℝ, x = (r : EReal)

namespace IsReal

variable {x y : EReal}

/-- A sum of real numbers is one. -/
theorem add (hx : IsReal x) (hy : IsReal y) : IsReal (x + y) := by
  obtain ⟨a, rfl⟩ := hx; obtain ⟨b, rfl⟩ := hy; exact ⟨a + b, (EReal.coe_add a b).symm⟩
/-- So is a difference, -/
theorem sub (hx : IsReal x) (hy : IsReal y) : IsReal (x - y) := by
  obtain ⟨a, rfl⟩ := hx; obtain ⟨b, rfl⟩ := hy; exact ⟨a - b, (EReal.coe_sub a b).symm⟩
/-- and a product. -/
theorem mul (hx : IsReal x) (hy : IsReal y) : IsReal (x * y) := by
  obtain ⟨a, rfl⟩ := hx; obtain ⟨b, rfl⟩ := hy; exact ⟨a * b, (EReal.coe_mul a b).symm⟩
/-- A real number is below +∞. -/
theorem lt_top (hx : IsReal x) : x < ⊤ := by obtain ⟨a, rfl⟩ := hx; exact EReal.coe_lt_top a
/-- Zero is one. -/
theorem zero : IsReal 0 := ⟨0, EReal.coe_zero.symm⟩

/-- A finite sum of real numbers is one. -/
theorem sum {ι : Type} (s : Finset ι) (f : ι → EReal) (h : ∀ i ∈ s, IsReal (f i)) : IsReal (∑ i ∈ s, f i) := by
  classical
  induction s using Finset.induction_on with
  | empty => exact zero
  | insert a s ha ih =>
    rw [Finset.sum_insert ha]
    exact (h a (Finset.mem_insert_self _ _)).add (ih fun i hi => h i (Finset.mem_insert_of_mem hi))

/-- The square of a difference does not depend on the order. -/
theorem sq_comm (hx : IsReal x) (hy : IsReal y) : (x - y) * (x - y) = (y - x) * (y - x) := by
  obtain ⟨a, rfl⟩ := hx; obtain ⟨b, rfl⟩ := hy
  rw [← EReal.coe_sub, ← EReal.coe_sub, ← EReal.coe_mul, ← EReal.coe_mul]
  congr 1; ring

/-- A square is not negative. -/
theorem sq_nonneg (hx : IsReal x) : 0 ≤ x * x := by
  obtain ⟨a, rfl⟩ := hx
  rw [← EReal.coe_mul]; exact EReal.coe_nonneg.mpr (mul_self_nonneg a)

end IsReal

/-- A node's squared distances to the nodes of its batch. -/
def sq (A : Vec Ideal S2x4096x2 .f32) (b : Fin 2) (i : Node) : Node → EReal := fun j =>
  (A (ix3 b j 0) - A (ix3 b i 0)) * (A (ix3 b j 0) - A (ix3 b i 0)) + (A (ix3 b j 1) - A (ix3 b i 1)) * (A (ix3 b j 1) - A (ix3 b i 1))

namespace Args

variable (A : Args)

/-- Node `i`'s features: its two coordinates and its deadline. -/
def feat (b : Fin 2) (i : Node) : Fin 3 → EReal := fun c =>
  if h : c.val < 2 then A.loc (ix3 b i ⟨c.val, h⟩) else A.dl (ix2 b i)

/-- The sum of the features at the six nearest nodes. -/
def near (b : Fin 2) (i : Node) : Fin 3 → EReal := fun c => ∑ t ∈ Finset.range 6, A.feat 0 (elt (sq A.loc b i) t) c

/-- Node `i`'s row of the result. -/
def row (b : Fin 2) (i : Node) (o : Fin 128) : EReal :=
  rowF (A.feat b i) (A.near b i) A.Wi (fun e => A.bi (ix1 e)) A.Wn (fun e => A.bn (ix1 e)) A.Wf (fun e => A.bf (ix1 e)) o

/-- The depot's row. -/
def depot (b : Fin 2) (o : Fin 128) : EReal := (∑ c : Fin 2, A.dep (ix2 b c) * A.Wd (ix2 c o)) + A.bd (ix1 o)

/-- The first result: the depot's row, then the nodes'. -/
def out : Vec Ideal S2x4097x128 .f32 := fun j =>
  if h : (j 1).val = 0 then A.depot (j 0) (j 2) else A.row (j 0) ⟨(j 1).val - 1, by have : (j 1).val < 4097 := (j 1).isLt; omega⟩ (j 2)

/-- The second: the mean of a batch's rows. -/
def mean : Vec Ideal S2x128 .f32 := fun j =>
  Ideal.div (A.depot (j 0) (j 1) + ∑ i, A.row (j 0) i (j 1)) (Ideal.ofBits .f32 0x45800800#32)

/-- What the claim asks of the arguments: real entries where products are regrouped, and no node with more than five earlier
nodes nearer or as near as itself. -/
structure Ok : Prop where
  loc : ∀ i, IsReal (A.loc i)
  dl : ∀ i, IsReal (A.dl i)
  Wn : ∀ i, IsReal (A.Wn i)
  bn : ∀ i, IsReal (A.bn i)
  Wf : ∀ i, IsReal (A.Wf i)
  few : ∀ b i, rank (sq A.loc b i) i ≤ 5

/-- The first row of the result. -/
theorem out_depot (b : Fin 2) (o : Fin 128) : A.out (ix3 b (0 : Fin 4097) o) = A.depot b o := rfl

/-- Its other rows. -/
theorem out_row (b : Fin 2) (i : Node) (o : Fin 128) : A.out (ix3 b (⟨1 + i.val, by omega⟩ : Fin 4097) o) = A.row b i o := by
  refine (dif_neg (show ¬(1 + i.val = 0) by omega)).trans ?_
  exact congrArg (fun j => A.row b j o) (Fin.ext (show 1 + i.val - 1 = i.val by omega))

/-- An array with the depots' and the nodes' rows is the first result. -/
theorem eq_out {h : Vec Ideal S2x4097x128 .f32} (hd : ∀ b o, h (ix3 b (0 : Fin 4097) o) = A.depot b o)
    (hr : ∀ (b : Fin 2) (i : Node) (o : Fin 128), h (ix3 b (⟨1 + i.val, by omega⟩ : Fin 4097) o) = A.row b i o) : h = A.out := by
  funext j
  obtain ⟨b, i, o, rfl⟩ : ∃ (b : Fin 2) (i : Fin 4097) (o : Fin 128), j = ix3 b i o := ⟨j 0, j 1, j 2, eq_ix3 j⟩
  by_cases hi : i.val = 0
  · obtain rfl : i = 0 := Fin.ext hi
    rw [hd, out_depot]
  · obtain ⟨q, rfl⟩ : ∃ q : Node, i = ⟨1 + q.val, by omega⟩ :=
      ⟨⟨i.val - 1, by omega⟩, Fin.ext (show i.val = 1 + (i.val - 1) by omega)⟩
    rw [hr, out_row]

variable {A}

/-- The features are real numbers. -/
theorem feat_real (h : A.Ok) (b : Fin 2) (i : Node) (c : Fin 3) : IsReal (A.feat b i c) := by
  unfold feat; split <;> [exact h.loc _; exact h.dl _]

/-- So are the squared distances. -/
theorem sq_lt (h : A.Ok) (b : Fin 2) (i j : Node) : sq A.loc b i j < ⊤ :=
  ((((h.loc _).sub (h.loc _)).mul ((h.loc _).sub (h.loc _))).add (((h.loc _).sub (h.loc _)).mul ((h.loc _).sub (h.loc _)))).lt_top

/-- The node itself and the five nearest others give the six nearest. -/
theorem near_eq (h : A.Ok) (b : Fin 2) (i : Node) (c : Fin 3) :
    A.feat 0 i c + ∑ t ∈ Finset.range 5, A.feat 0 (elt (mask (sq A.loc b i) i) t) c = A.near b i c :=
  (sum_six (fun j => A.feat 0 j c) (sq_lt h b i) (h.few b i)).symm

end Args

/-! ## The SparseCore call's sums -/

/-- The distances a lane compares are the node's, its own set aside. -/
theorem laneKey_mask {A : Args} (h : A.Ok) {qx qy : Vec Ideal S3584 .f32} {cx cy : Vec Ideal S4096 .f32} (n : Fin 3584)
    (hqx : ∀ k : Fin 3584, qx (ix1 k) = A.loc (ix3 1 ⟨512 + k.val, by omega⟩ 0))
    (hqy : ∀ k : Fin 3584, qy (ix1 k) = A.loc (ix3 1 ⟨512 + k.val, by omega⟩ 1))
    (hcx : ∀ j : Node, cx (ix1 j) = A.loc (ix3 1 j 0)) (hcy : ∀ j : Node, cy (ix1 j) = A.loc (ix3 1 j 1)) (j : Node) :
    laneKey (blk qx (n.val / 16)) (blk qy (n.val / 16)) (selfV (n.val / 16)) cx cy (at1 (n.val % 16) (Nat.mod_lt _ (by decide))) j.val
      = mask (sq A.loc 1 ⟨512 + n.val, by omega⟩) ⟨512 + n.val, by omega⟩ j := by
  have hn := n.isLt
  have e16 : 16 * (n.val / 16) + n.val % 16 = n.val := by omega
  have hq (q : Vec Ideal S3584 .f32) : blk q (n.val / 16) (at1 (n.val % 16) (Nat.mod_lt _ (by decide))) = q (ix1 n) := by
    show q (at1 ((16 * (n.val / 16) + n.val % 16) % 3584) _) = _
    refine congrArg q (idx1_ext ?_)
    show (16 * (n.val / 16) + n.val % 16) % 3584 = n.val
    omega
  have ht (p : Vec Ideal S4096 .f32) :
      take p (jvec j.val) (at1 (n.val % 16) (Nat.mod_lt _ (by decide))) = p (ix1 j) :=
    (take_node p (jvec_apply _ _)).trans (congrArg p (idx1_ext rfl))
  have hs : selfV (n.val / 16) (at1 (n.val % 16) (Nat.mod_lt _ (by decide))) = BitVec.ofNat 32 (512 + n.val) := by
    show BitVec.ofNat 32 (512 + 16 * (n.val / 16) + n.val % 16) = _
    rw [show 512 + 16 * (n.val / 16) + n.val % 16 = 512 + n.val by omega]
  have hc := cmpi_eq_node j ⟨512 + n.val, by omega⟩
  unfold laneKey masked
  simp only [select, cmpi, addf, mulf, subf, broadcast, hq, ht, hs, jvec_apply, hqx, hqy, hcx, hcy]
  refine Eq.trans (congrArg (fun b => Scalar.select b _ _) hc) ?_
  unfold mask
  by_cases hj : j = ⟨512 + n.val, by omega⟩
  · rw [if_pos hj, if_pos hj]; exact ofBits_inf
  · rw [if_neg hj, if_neg hj]; rfl

/-- One sum of the SparseCore call: the table at the six nearest. -/
theorem outVal_eq {A : Args} (h : A.Ok) {qx qy : Vec Ideal S3584 .f32} {cx cy p : Vec Ideal S4096 .f32} (c : Fin 3)
    (hqx : ∀ k : Fin 3584, qx (ix1 k) = A.loc (ix3 1 ⟨512 + k.val, by omega⟩ 0))
    (hqy : ∀ k : Fin 3584, qy (ix1 k) = A.loc (ix3 1 ⟨512 + k.val, by omega⟩ 1))
    (hcx : ∀ j : Node, cx (ix1 j) = A.loc (ix3 1 j 0)) (hcy : ∀ j : Node, cy (ix1 j) = A.loc (ix3 1 j 1))
    (hp : ∀ j : Node, p (ix1 j) = A.feat 0 j c) (n : Fin 3584) :
    outVal qx qy cx cy p (ix1 n) = A.near 1 ⟨512 + n.val, by omega⟩ c := by
  have hn := n.isLt
  refine (groupSum_eq _ _ _ _ _ _ _ (i := ⟨512 + n.val, by omega⟩) ?_ (laneKey_mask h n hqx hqy hcx hcy) (Args.sq_lt h _ _)).trans ?_
  · show BitVec.ofNat 32 (512 + 16 * (n.val / 16) + n.val % 16) = _
    rw [show 512 + 16 * (n.val / 16) + n.val % 16 = 512 + n.val by omega]
  · have ha (j : Node) : p (atNode j) = A.feat 0 j c := (congrArg p (idx1_ext rfl : atNode j = ix1 j)).trans (hp j)
    rw [← Args.near_eq h, ha]
    exact congrArg _ (Finset.sum_congr rfl fun t _ => ha _)

end Cert.Proof
-- ==== Proof.HostRead.lean ====
module

public import proofs.«01_k».proof.Proof.Run
public import proofs.«01_k».proof.Proof.Spec
public import Idealize.ShloMosaic.PureOps.Ideal.Laws

@[expose] public section

/-!
# What the host operations leave

Each array the calls and the results read, as a function of what the stretch of host operations started from.
-/

noncomputable section

namespace Cert.Proof

open Cert.KernelIdeal Cert.KernelIdeal.Gen
open Idealize.SL.Sem
open Idealize.ShloMosaic
open Idealize.ShloMosaic.TcCoe
open Idealize.ShloMosaic.StableHlo (seq after)

variable (V : Valuation τ sig (Elt Ideal))

/-- The features of all nodes: the coordinates and the deadline side by side. -/
def featArr (loc : Vec Ideal S2x4096x2 .f32) (dl : Vec Ideal S2x4096 .f32) : Vec Ideal S2x4096x3 .f32 :=
  catFeat loc (broadcastInDim S2x4096x1 ![0, 1] bcast_S2x4096_S2x4096x1_0_1 dl)

/-- Batch 0's features. -/
def featArr0 (x : Vec Ideal S2x4096x3 .f32) : Vec Ideal S4096x3 .f32 :=
  shapeCast S4096x3 (extractStridedSlice S1x4096x3 ![0, 0, 0] x slices_S2x4096x3_S1x4096x3_0_0_0) shapeCasts_S1x4096x3_S4096x3

set_option maxHeartbeats 400000

/-- Batch 0's features after the first host operations, -/
theorem read1_v3 : after ops1 V (rf main_v3) = featArr0 (featArr (V (rf main_arg0)) (V (rf main_arg1))) := by
  unfold ops1; after_results_simp; rfl

/-- all features as rows, -/
theorem read1_v8 : after ops1 V (rf main_v8) = shapeCast S8192x3 (featArr (V (rf main_arg0)) (V (rf main_arg1))) shapeCasts_S2x4096x3_S8192x3 := by
  unfold ops1; after_results_simp; rfl

/-- the first layer's bias, -/
theorem read1_v4 : after ops1 V (rf main_v4) = (shapeCast S1x128 (V (rf main_arg4) : Vec Ideal S128 .f32) shapeCasts_S128_S1x128 : Vec Ideal S1x128 .f32) := by
  unfold ops1; after_results_simp; rfl

/-- the neighbours' bias, -/
theorem read1_v5 : after ops1 V (rf main_v5) = (shapeCast S1x128 (V (rf main_arg6) : Vec Ideal S128 .f32) shapeCasts_S128_S1x128 : Vec Ideal S1x128 .f32) := by
  unfold ops1; after_results_simp; rfl

/-- the last layer's bias, -/
theorem read1_v6 : after ops1 V (rf main_v6) = (shapeCast S1x128 (V (rf main_arg8) : Vec Ideal S128 .f32) shapeCasts_S128_S1x128 : Vec Ideal S1x128 .f32) := by
  unfold ops1; after_results_simp; rfl

/-- the depot's bias, -/
theorem read1_v7 : after ops1 V (rf main_v7) = (shapeCast S1x128 (V (rf main_arg10) : Vec Ideal S128 .f32) shapeCasts_S128_S1x128 : Vec Ideal S1x128 .f32) := by
  unfold ops1; after_results_simp; rfl

/-- the first coordinates of the SparseCore call's nodes, -/
theorem read1_v10 : after ops1 V (rf main_v10) = (shapeCast S3584 (extractStridedSlice S1x3584x1 ![1, 512, 0] (V (rf main_arg0) : Vec Ideal S2x4096x2 .f32) slices_S2x4096x2_S1x3584x1_1_512_0) shapeCasts_S1x3584x1_S3584 : Vec Ideal S3584 .f32) := by
  unfold ops1; after_results_simp; rfl

/-- their second coordinates, -/
theorem read1_v12 : after ops1 V (rf main_v12) = (shapeCast S3584 (extractStridedSlice S1x3584x1 ![1, 512, 1] (V (rf main_arg0) : Vec Ideal S2x4096x2 .f32) slices_S2x4096x2_S1x3584x1_1_512_1) shapeCasts_S1x3584x1_S3584 : Vec Ideal S3584 .f32) := by
  unfold ops1; after_results_simp; rfl

/-- batch 1's first coordinates, -/
theorem read1_v14 : after ops1 V (rf main_v14) = (shapeCast S4096 (extractStridedSlice S1x4096x1 ![1, 0, 0] (V (rf main_arg0) : Vec Ideal S2x4096x2 .f32) slices_S2x4096x2_S1x4096x1_1_0_0) shapeCasts_S1x4096x1_S4096 : Vec Ideal S4096 .f32) := by
  unfold ops1; after_results_simp; rfl

/-- its second coordinates, -/
theorem read1_v16 : after ops1 V (rf main_v16) = (shapeCast S4096 (extractStridedSlice S1x4096x1 ![1, 0, 1] (V (rf main_arg0) : Vec Ideal S2x4096x2 .f32) slices_S2x4096x2_S1x4096x1_1_0_1) shapeCasts_S1x4096x1_S4096 : Vec Ideal S4096 .f32) := by
  unfold ops1; after_results_simp; rfl

/-- the first table, -/
theorem read1_v18 : after ops1 V (rf main_v18) = (shapeCast S4096 (extractStridedSlice S4096x1 ![0, 0] (featArr0 (featArr (V (rf main_arg0)) (V (rf main_arg1)))) slices_S4096x3_S4096x1_0_0) shapeCasts_S4096x1_S4096 : Vec Ideal S4096 .f32) := by
  unfold ops1; after_results_simp; rfl

/-- the second table, -/
theorem read1_v20 : after ops1 V (rf main_v20) = (shapeCast S4096 (extractStridedSlice S4096x1 ![0, 1] (featArr0 (featArr (V (rf main_arg0)) (V (rf main_arg1)))) slices_S4096x3_S4096x1_0_1) shapeCasts_S4096x1_S4096 : Vec Ideal S4096 .f32) := by
  unfold ops1; after_results_simp; rfl

/-- the third table. -/
theorem read1_v22 : after ops1 V (rf main_v22) = (shapeCast S4096 (extractStridedSlice S4096x1 ![0, 2] (featArr0 (featArr (V (rf main_arg0)) (V (rf main_arg1)))) slices_S4096x3_S4096x1_0_2) shapeCasts_S4096x1_S4096 : Vec Ideal S4096 .f32) := by
  unfold ops1; after_results_simp; rfl

/-- The rows of the first TensorCore call, -/
theorem read2_v28 : after ops2 V (rf main_v28)
    = (extractStridedSlice S4608x3 ![0, 0] (V (rf main_v8) : Vec Ideal S8192x3 .f32) slices_S8192x3_S4608x3_0_0 : Vec Ideal S4608x3 .f32) := by
  unfold ops2; after_results_simp

/-- The SparseCore call's three results side by side. -/
def sumsArr (a b c : Vec Ideal S3584 .f32) : Vec Ideal S3584x3 .f32 :=
  catCols (broadcastInDim S3584x1 ![0] bcast_S3584_S3584x1_0 a) (broadcastInDim S3584x1 ![0] bcast_S3584_S3584x1_0 b)
    (broadcastInDim S3584x1 ![0] bcast_S3584_S3584x1_0 c)

/-- and the SparseCore call's sums side by side. -/
theorem read2_v27 : after ops2 V (rf main_v27) = sumsArr (V (rf main_v23_0)) (V (rf main_v23_1)) (V (rf main_v23_2)) := by
  unfold ops2; after_results_simp; rfl

/-- The rows of the second TensorCore call. -/
theorem read3_v30 : after ops3 V (rf main_v30)
    = (extractStridedSlice S3584x3 ![4608, 0] (V (rf main_v8) : Vec Ideal S8192x3 .f32) slices_S8192x3_S3584x3_4608_0 : Vec Ideal S3584x3 .f32) := by
  unfold ops3; after_results_simp

/-- The result's rows: the depots' before the nodes'. -/
def rowsArr (d : Vec Ideal S2x128 .f32) (a : Vec Ideal S4608x128 .f32) (b : Vec Ideal S3584x128 .f32) : Vec Ideal S2x4097x128 .f32 :=
  catDepot (broadcastInDim S2x1x128 ![0, 2] bcast_S2x128_S2x1x128_0_2 d)
    (shapeCast S2x4096x128 (catCalls a b) shapeCasts_S8192x128_S2x4096x128)

/-- The first result, -/
theorem read4_v35 : after ops4 V (rf main_v35) = rowsArr (V (rf main_v29_1)) (V (rf main_v29_0)) (V (rf main_v31_0)) := by
  unfold ops4; after_results_simp; rfl

/-- The mean of the rows from the depots' and the calls' sums. -/
def meanArr (d s : Vec Ideal S2x128 .f32) (t : Vec Ideal S1x128 .f32) : Vec Ideal S2x128 .f32 :=
  Host.divf (addf d (addf s (catSums (broadcastInDim S1x128 ![] bcast_S_S1x128 (constant S_ .f32 0x00000000#32)) t)))
    (broadcastInDim S2x128 ![] bcast_S_S2x128 (constant S_ .f32 0x45800800#32))

/-- and the second. -/
theorem read4_v41 : after ops4 V (rf main_v41) = meanArr (V (rf main_v29_1)) (V (rf main_v29_2)) (V (rf main_v31_1)) := by
  unfold ops4; after_results_simp; rfl

end Cert.Proof
-- ==== Proof.Windows.lean ====
/-
  What the TensorCore calls' input windows hold at each point: the point's block of the array, or the whole array.
-/
module

public import proofs.«01_k».proof.Proof.Head
public import Idealize.ShloMosaic.Lib.Pipeline.ValueKit.Geometry
public import Idealize.ShloMosaic.Lib.Pointwise

@[expose] public section

noncomputable section

namespace Cert.Proof

open Cert.KernelIdeal Cert.KernelIdeal.Gen
open Idealize.ShloMosaic Idealize.ShloMosaic.TcCoe
open Idealize.ShloMosaic.Pipeline (Dat Cfg Window heldIn heldIn_of_fetch heldIn_of_not_fetch)
open Idealize.SL Idealize.SL.Sem

variable {F : FTy → Type} [FloatOps F] [∀ e, Nonempty (Elt F e)] (c : Dev nD)

/-- A window that is fetched whenever its block changes holds the point's block. -/
theorem held_eq {Λ : Labels} (cfg : Cfg sig Λ) (A : (w : Fin cfg.W) → Buf (Elt F) ((cfg.win w).arr.view.loc (c : Thread nD τ))) (w : Fin cfg.W)
    (E : ℕ → (cfg.win w).block.Idx → Elt F (cfg.win w).elt)
    (hr : ∀ t : Fin cfg.N, (cfg.win w).fill (cfg.grid.coords t) (fun _ => Classical.arbitrary _) (((cfg.win w).blk t).view.read (Elt F) (A w)) = E t.val)
    (hs : ∀ n (h : n + 1 < cfg.N), (cfg.win w).fetch ⟨n + 1, h⟩ = false → E (n + 1) = E n) :
    ∀ n (h : n < cfg.N), heldIn cfg A w n h = E n
  | 0, h => hr ⟨0, h⟩
  | n + 1, h => by
    cases hf : (cfg.win w).fetch ⟨n + 1, h⟩ with
    | true => exact (heldIn_of_fetch A w ⟨n + 1, h⟩ hf).trans (hr _)
    | false => exact (heldIn_of_not_fetch A w n h hf).trans ((held_eq cfg A w E hr hs n _).trans (hs n h hf).symm)

variable (V : (b : Ref sig .tc) → Buf (Elt F) ((c : Thread nD τ).loc b))

/-! ## The whole arrays -/

/-- Every point of the first call has all of batch 0's features. -/
theorem head_in2 (t : Fin cfg1.N) : headIn c V 2 t = V main_v3 :=
  held_eq c cfg1 (headA c V) 2 (fun _ => V main_v3) (fun t => by
    show (((cfg1.win 2).blk t).view.read (Elt F) (V main_v3)) = V main_v3
    funext y
    blk_ext [show win1_2.index t 0 = 0 from rfl, show win1_2.index t 1 = 0 from rfl]) (fun _ _ _ => rfl) t.val t.isLt

/-- Every point of the first call has all of the depots. -/
theorem head_in3 (t : Fin cfg1.N) : headIn c V 3 t = V main_arg2 :=
  held_eq c cfg1 (headA c V) 3 (fun _ => V main_arg2) (fun t => by
    show (((cfg1.win 3).blk t).view.read (Elt F) (V main_arg2)) = V main_arg2
    funext y
    blk_ext [show win1_3.index t 0 = 0 from rfl, show win1_3.index t 1 = 0 from rfl]) (fun _ _ _ => rfl) t.val t.isLt

/-- Every point of the first call has all of the first layer's weights. -/
theorem head_in4 (t : Fin cfg1.N) : headIn c V 4 t = V main_arg3 :=
  held_eq c cfg1 (headA c V) 4 (fun _ => V main_arg3) (fun t => by
    show (((cfg1.win 4).blk t).view.read (Elt F) (V main_arg3)) = V main_arg3
    funext y
    blk_ext [show win1_4.index t 0 = 0 from rfl, show win1_4.index t 1 = 0 from rfl]) (fun _ _ _ => rfl) t.val t.isLt

/-- Every point of the first call has all of the first layer's bias. -/
theorem head_in5 (t : Fin cfg1.N) : headIn c V 5 t = V main_v4 :=
  held_eq c cfg1 (headA c V) 5 (fun _ => V main_v4) (fun t => by
    show (((cfg1.win 5).blk t).view.read (Elt F) (V main_v4)) = V main_v4
    funext y
    blk_ext [show win1_5.index t 0 = 0 from rfl, show win1_5.index t 1 = 0 from rfl]) (fun _ _ _ => rfl) t.val t.isLt

/-- Every point of the first call has all of the neighbours' weights. -/
theorem head_in6 (t : Fin cfg1.N) : headIn c V 6 t = V main_arg5 :=
  held_eq c cfg1 (headA c V) 6 (fun _ => V main_arg5) (fun t => by
    show (((cfg1.win 6).blk t).view.read (Elt F) (V main_arg5)) = V main_arg5
    funext y
    blk_ext [show win1_6.index t 0 = 0 from rfl, show win1_6.index t 1 = 0 from rfl]) (fun _ _ _ => rfl) t.val t.isLt

/-- Every point of the first call has all of the neighbours' bias. -/
theorem head_in7 (t : Fin cfg1.N) : headIn c V 7 t = V main_v5 :=
  held_eq c cfg1 (headA c V) 7 (fun _ => V main_v5) (fun t => by
    show (((cfg1.win 7).blk t).view.read (Elt F) (V main_v5)) = V main_v5
    funext y
    blk_ext [show win1_7.index t 0 = 0 from rfl, show win1_7.index t 1 = 0 from rfl]) (fun _ _ _ => rfl) t.val t.isLt

/-- Every point of the first call has all of the last layer's weights. -/
theorem head_in8 (t : Fin cfg1.N) : headIn c V 8 t = V main_arg7 :=
  held_eq c cfg1 (headA c V) 8 (fun _ => V main_arg7) (fun t => by
    show (((cfg1.win 8).blk t).view.read (Elt F) (V main_arg7)) = V main_arg7
    funext y
    blk_ext [show win1_8.index t 0 = 0 from rfl, show win1_8.index t 1 = 0 from rfl]) (fun _ _ _ => rfl) t.val t.isLt

/-- Every point of the first call has all of the last layer's bias. -/
theorem head_in9 (t : Fin cfg1.N) : headIn c V 9 t = V main_v6 :=
  held_eq c cfg1 (headA c V) 9 (fun _ => V main_v6) (fun t => by
    show (((cfg1.win 9).blk t).view.read (Elt F) (V main_v6)) = V main_v6
    funext y
    blk_ext [show win1_9.index t 0 = 0 from rfl, show win1_9.index t 1 = 0 from rfl]) (fun _ _ _ => rfl) t.val t.isLt

/-- Every point of the first call has all of the depots' weights. -/
theorem head_in10 (t : Fin cfg1.N) : headIn c V 10 t = V main_arg9 :=
  held_eq c cfg1 (headA c V) 10 (fun _ => V main_arg9) (fun t => by
    show (((cfg1.win 10).blk t).view.read (Elt F) (V main_arg9)) = V main_arg9
    funext y
    blk_ext [show win1_10.index t 0 = 0 from rfl, show win1_10.index t 1 = 0 from rfl]) (fun _ _ _ => rfl) t.val t.isLt

/-- Every point of the first call has all of the depots' bias. -/
theorem head_in11 (t : Fin cfg1.N) : headIn c V 11 t = V main_v7 :=
  held_eq c cfg1 (headA c V) 11 (fun _ => V main_v7) (fun t => by
    show (((cfg1.win 11).blk t).view.read (Elt F) (V main_v7)) = V main_v7
    funext y
    blk_ext [show win1_11.index t 0 = 0 from rfl, show win1_11.index t 1 = 0 from rfl]) (fun _ _ _ => rfl) t.val t.isLt

/-- Every point of the second call has all of the first layer's weights. -/
theorem tail_in2 (t : Fin cfg2.N) : tailIn c V 2 t = V main_arg3 :=
  held_eq c cfg2 (tailA c V) 2 (fun _ => V main_arg3) (fun t => by
    show (((cfg2.win 2).blk t).view.read (Elt F) (V main_arg3)) = V main_arg3
    funext y
    blk_ext [show win2_2.index t 0 = 0 from rfl, show win2_2.index t 1 = 0 from rfl]) (fun _ _ _ => rfl) t.val t.isLt

/-- Every point of the second call has all of the first layer's bias. -/
theorem tail_in3 (t : Fin cfg2.N) : tailIn c V 3 t = V main_v4 :=
  held_eq c cfg2 (tailA c V) 3 (fun _ => V main_v4) (fun t => by
    show (((cfg2.win 3).blk t).view.read (Elt F) (V main_v4)) = V main_v4
    funext y
    blk_ext [show win2_3.index t 0 = 0 from rfl, show win2_3.index t 1 = 0 from rfl]) (fun _ _ _ => rfl) t.val t.isLt

/-- Every point of the second call has all of the neighbours' weights. -/
theorem tail_in4 (t : Fin cfg2.N) : tailIn c V 4 t = V main_arg5 :=
  held_eq c cfg2 (tailA c V) 4 (fun _ => V main_arg5) (fun t => by
    show (((cfg2.win 4).blk t).view.read (Elt F) (V main_arg5)) = V main_arg5
    funext y
    blk_ext [show win2_4.index t 0 = 0 from rfl, show win2_4.index t 1 = 0 from rfl]) (fun _ _ _ => rfl) t.val t.isLt

/-- Every point of the second call has all of the neighbours' bias. -/
theorem tail_in5 (t : Fin cfg2.N) : tailIn c V 5 t = V main_v5 :=
  held_eq c cfg2 (tailA c V) 5 (fun _ => V main_v5) (fun t => by
    show (((cfg2.win 5).blk t).view.read (Elt F) (V main_v5)) = V main_v5
    funext y
    blk_ext [show win2_5.index t 0 = 0 from rfl, show win2_5.index t 1 = 0 from rfl]) (fun _ _ _ => rfl) t.val t.isLt

/-- Every point of the second call has all of the last layer's weights. -/
theorem tail_in6 (t : Fin cfg2.N) : tailIn c V 6 t = V main_arg7 :=
  held_eq c cfg2 (tailA c V) 6 (fun _ => V main_arg7) (fun t => by
    show (((cfg2.win 6).blk t).view.read (Elt F) (V main_arg7)) = V main_arg7
    funext y
    blk_ext [show win2_6.index t 0 = 0 from rfl, show win2_6.index t 1 = 0 from rfl]) (fun _ _ _ => rfl) t.val t.isLt

/-- Every point of the second call has all of the last layer's bias. -/
theorem tail_in7 (t : Fin cfg2.N) : tailIn c V 7 t = V main_v6 :=
  held_eq c cfg2 (tailA c V) 7 (fun _ => V main_v6) (fun t => by
    show (((cfg2.win 7).blk t).view.read (Elt F) (V main_v6)) = V main_v6
    funext y
    blk_ext [show win2_7.index t 0 = 0 from rfl, show win2_7.index t 1 = 0 from rfl]) (fun _ _ _ => rfl) t.val t.isLt

/-! ## The blocks of rows -/

/-- The first call's blocks of rows follow the points. -/
theorem index1_0 : ∀ t : Fin grid1.N, win1_0.index t 0 = t.val ∧ win1_0.index t 1 = 0 := by decide +kernel
/-- Its blocks of coordinates follow the batches. -/
theorem index1_1 : ∀ t : Fin grid1.N, win1_1.index t 0 = t.val / 16 ∧ win1_1.index t 1 = 0 ∧ win1_1.index t 2 = 0 := by decide +kernel
/-- Its blocks of results follow the points. -/
theorem index1_12 : ∀ t : Fin grid1.N, win1_12.index t 0 = t.val ∧ win1_12.index t 1 = 0 := by decide +kernel
/-- The second call's blocks of rows follow the points. -/
theorem index2_0 : ∀ t : Fin grid2.N, win2_0.index t 0 = t.val ∧ win2_0.index t 1 = 0 := by decide +kernel
/-- So do its blocks of sums. -/
theorem index2_1 : ∀ t : Fin grid2.N, win2_1.index t 0 = t.val ∧ win2_1.index t 1 = 0 := by decide +kernel
/-- And of results. -/
theorem index2_8 : ∀ t : Fin grid2.N, win2_8.index t 0 = t.val ∧ win2_8.index t 1 = 0 := by decide +kernel
/-- Where a point fetches no coordinates, it is in the same batch as the point before. -/
theorem fetch1_1 : ∀ n (h : n + 1 < grid1.N), win1_1.fetch ⟨n + 1, h⟩ = false → (n + 1) / 16 = n / 16 := by
  have h : ∀ t : Fin grid1.N, win1_1.fetch t = false → t.val / 16 = (t.val - 1) / 16 := by decide +kernel
  exact fun n hn hf => h ⟨n + 1, hn⟩ hf

/-- The first call's rows: 256 to a point. -/
theorem head_in0 (t : Fin cfg1.N) (r : Fin 256) (k : Fin 3) (h : 256 * t.val + r.val < 4608) :
    headIn c V 0 t (ix2 r k) = V main_v28 (ix2 (⟨256 * t.val + r.val, h⟩ : Fin 4608) k) := by
  refine (congrFun (heldIn_of_fetch (headA c V) 0 t (fetch1_0 t)) _).trans ?_
  show (((cfg1.win 0).blk t).view.read (Elt F) (V main_v28)) (ix2 r k) = _
  have h0 := (index1_0 t).1
  have h1 := (index1_0 t).2
  blk_ext [h0, h1]

/-- The locations of a point's batch. -/
theorem head_in1 (t : Fin cfg1.N) (j : Fin 4096) (k : Fin 2) (h : t.val / 16 < 2) :
    headIn c V 1 t (ix3 (0 : Fin 1) j k) = V main_arg0 (ix3 (⟨t.val / 16, h⟩ : Fin 2) j k) := by
  have hN : ∀ n, n < cfg1.N → n / 16 < 2 := fun n hn => by
    have : cfg1.N = 18 := N_1
    omega
  refine (congrFun (held_eq c cfg1 (headA c V) 1 (fun n => if hn : n / 16 < 2 then
    (fun y : S1x4096x2.Idx => V main_arg0 (ix3 (⟨n / 16, hn⟩ : Fin 2) (y 1) (y 2))) else fun _ => Classical.arbitrary _) (fun t => ?_) (fun n hn hf => ?_) t.val t.isLt) _).trans ?_
  · rw [dif_pos (hN _ t.isLt)]
    show (((cfg1.win 1).blk t).view.read (Elt F) (V main_arg0)) = _
    have h0 := (index1_1 t).1
    have h1 := (index1_1 t).2.1
    have h2 := (index1_1 t).2.2
    funext y
    have hy : (y 0).val < 1 := (y 0).isLt
    blk_ext [h0, h1, h2]
  · have he := fetch1_1 n hn hf
    simp only [he]
  · rw [dif_pos h]; rfl

/-- The second call's rows. -/
theorem tail_in0 (t : Fin cfg2.N) (r : Fin 256) (k : Fin 3) (h : 256 * t.val + r.val < 3584) :
    tailIn c V 0 t (ix2 r k) = V main_v30 (ix2 (⟨256 * t.val + r.val, h⟩ : Fin 3584) k) := by
  refine (congrFun (heldIn_of_fetch (tailA c V) 0 t (fetch2_0 t)) _).trans ?_
  show (((cfg2.win 0).blk t).view.read (Elt F) (V main_v30)) (ix2 r k) = _
  have h0 := (index2_0 t).1
  have h1 := (index2_0 t).2
  blk_ext [h0, h1]

/-- Their neighbours' sums. -/
theorem tail_in1 (t : Fin cfg2.N) (r : Fin 256) (k : Fin 3) (h : 256 * t.val + r.val < 3584) :
    tailIn c V 1 t (ix2 r k) = V main_v27 (ix2 (⟨256 * t.val + r.val, h⟩ : Fin 3584) k) := by
  refine (congrFun (heldIn_of_fetch (tailA c V) 1 t (fetch2_1 t)) _).trans ?_
  show (((cfg2.win 1).blk t).view.read (Elt F) (V main_v27)) (ix2 r k) = _
  have h0 := (index2_1 t).1
  have h1 := (index2_1 t).2
  blk_ext [h0, h1]

end Cert.Proof
-- ==== Proof.Results.lean ====
/-
  What the TensorCore calls' result arrays hold after them, entry by entry.
-/
module

public import proofs.«01_k».proof.Proof.Windows

@[expose] public section

noncomputable section

namespace Cert.Proof

open Cert.KernelIdeal Cert.KernelIdeal.Gen
open Idealize.ShloMosaic Idealize.ShloMosaic.TcCoe
open Idealize.ShloMosaic.Pipeline (Dat Cfg Window heldIn)
open Idealize.SL Idealize.SL.Sem

variable {F : FTy → Type} [FloatOps F] [∀ e, Nonempty (Elt F e)] (c : Dev nD)
variable (V : (b : Ref sig .tc) → Buf (Elt F) ((c : Thread nD τ).loc b)) (b : ℕ)

/-- The point of the first call that computes a row, and of the second. -/
def headPt (n : Fin 4608) : Fin cfg1.N := ⟨n.val / 256, by have : cfg1.N = 18 := N_1; have := n.isLt; omega⟩
/-- The point of the second call that writes a row. -/
def tailPt (n : Fin 3584) : Fin cfg2.N := ⟨n.val / 256, by have : cfg2.N = 14 := N_2; have := n.isLt; omega⟩

/-- A row's place in its block. -/
def inBlk (n : ℕ) : Fin 256 := ⟨n % 256, Nat.mod_lt _ (by decide)⟩

/-- The first call's rows of results. -/
def headOut : Vec F S4608x128 .f32 := fun i => headFAt c V (headPt (i 0)) (ix2 (inBlk (i 0).val) (i 1 : Fin 128))

/-- The second call's rows of results. -/
def tailOut : Vec F S3584x128 .f32 := fun i => tailF c V (tailPt (i 0)) (ix2 (inBlk (i 0).val) (i 1 : Fin 128))

/-- The first call's rows. -/
theorem headOut_eq : (headDat c V b).arrAt 12 cfg1.N = headOut c V := by
  refine (headDat c V b).arrAt_eq_of_covers 12 _ (by decide +kernel) fun t hf y => ?_
  have h0 := (index1_12 t).1
  have h1 := (index1_12 t).2
  have hN : cfg1.N = 18 := N_1
  have ht := t.isLt
  have hy0 : (y 0).val < 256 := (y 0).isLt
  have hy1 : (y 1).val < 128 := (y 1).isLt
  show headFAt c V t _ = headFAt c V _ _
  have e0 : ((((cfg1.win 12).blk t).view.emb y) 0).val = t.val * 256 + (y 0).val := by
    blk_simp [h0]
  have e1 : ((((cfg1.win 12).blk t).view.emb y) 1).val = (y 1).val := by
    blk_simp [h1]
  have ep : headPt ((((cfg1.win 12).blk t).view.emb y) 0) = t := Fin.ext (by
    show (((((cfg1.win 12).blk t).view.emb y) 0).val) / 256 = t.val
    rw [e0]; omega)
  rw [ep]
  congr 1
  funext a
  match a with
  | ⟨0, _⟩ => exact Fin.ext (by show (y 0).val = ((((cfg1.win 12).blk t).view.emb y) 0).val % 256; rw [e0]; omega)
  | ⟨1, _⟩ => exact Fin.ext e1.symm

/-- The second call's rows. -/
theorem tailOut_eq : (tailDat c V b).arrAt 8 cfg2.N = tailOut c V := by
  refine (tailDat c V b).arrAt_eq_of_covers 8 _ (by decide +kernel) fun t hf y => ?_
  have h0 := (index2_8 t).1
  have h1 := (index2_8 t).2
  have hN : cfg2.N = 14 := N_2
  have ht := t.isLt
  have hy0 : (y 0).val < 256 := (y 0).isLt
  have hy1 : (y 1).val < 128 := (y 1).isLt
  show tailF c V t _ = tailF c V _ _
  have e0 : ((((cfg2.win 8).blk t).view.emb y) 0).val = t.val * 256 + (y 0).val := by
    blk_simp [h0]
  have e1 : ((((cfg2.win 8).blk t).view.emb y) 1).val = (y 1).val := by
    blk_simp [h1]
  have ep : tailPt ((((cfg2.win 8).blk t).view.emb y) 0) = t := Fin.ext (by
    show (((((cfg2.win 8).blk t).view.emb y) 0).val) / 256 = t.val
    rw [e0]; omega)
  rw [ep]
  congr 1
  funext a
  match a with
  | ⟨0, _⟩ => exact Fin.ext (by show (y 0).val = ((((cfg2.win 8).blk t).view.emb y) 0).val % 256; rw [e0]; omega)
  | ⟨1, _⟩ => exact Fin.ext e1.symm

/-- The last points. -/
def headEnd : Fin cfg1.N := ⟨17, by have : cfg1.N = 18 := N_1; omega⟩
/-- The last point of the second call. -/
def tailEnd : Fin cfg2.N := ⟨13, by have : cfg2.N = 14 := N_2; omega⟩

/-- The depots' rows, -/
theorem headDep_eq : (headDat c V b).arrAt 13 cfg1.N = headDepVal c V :=
  (headDat c V b).arrAt_eq_of_after_last 13 headEnd (by decide +kernel) _ fun _ => rfl

/-- the first call's row sums, -/
theorem headSum_eq (h : 17 < cfg1.N) : (headDat c V b).arrAt 14 cfg1.N = headAcc c V 17 h :=
  (headDat c V b).arrAt_eq_of_after_last 14 headEnd (by decide +kernel) _ fun _ => rfl

/-- and the second's. -/
theorem tailSum_eq (h : 13 < cfg2.N) : (tailDat c V b).arrAt 9 cfg2.N = tailAcc c V 13 h :=
  (tailDat c V b).arrAt_eq_of_after_last 9 tailEnd (by decide +kernel) _ fun _ => rfl

end Cert.Proof
-- ==== Proof.Sums.lean ====
/-
  The running row sums of the TensorCore calls, over the extended reals: each is the sum of the rows of its batch.
-/
module

public import proofs.«01_k».proof.Proof.Results
public import proofs.«01_k».proof.Proof.Layer

@[expose] public section

noncomputable section

namespace Cert.Proof

open Cert.KernelIdeal Cert.KernelIdeal.Gen
open Idealize.ShloMosaic Idealize.ShloMosaic.TcCoe
open Idealize.SL Idealize.SL.Sem
open scoped BigOperators

variable (c : Dev nD) (V : (b : Ref sig .tc) → Buf (Elt Ideal) ((c : Thread nD τ).loc b))

/-- A point's only coordinate is its number. -/
theorem coords1 : ∀ t : Fin grid1.N, (grid1.coords t 0).val = t.val := by decide +kernel

/-- A row of the first call's results by its number, and of the second's. -/
def headRow (n : ℕ) (o : Fin 128) : EReal := if h : n < 4608 then headOut c V (ix2 (⟨n, h⟩ : Fin 4608) o) else 0
/-- An entry of the second call's rows, by number. -/
def tailRow (n : ℕ) (o : Fin 128) : EReal := if h : n < 3584 then tailOut c V (ix2 (⟨n, h⟩ : Fin 3584) o) else 0

/-- An entry of a point's block of the first call. -/
theorem headRow_at (t : Fin cfg1.N) (r : Fin 256) (o : Fin 128) : headRow c V (256 * t.val + r.val) o = headFAt c V t (ix2 r o) := by
  have hN : cfg1.N = 18 := N_1
  have ht := t.isLt
  have hr := r.isLt
  unfold headRow headOut
  rw [dif_pos (by omega)]
  have ep : headPt (⟨256 * t.val + r.val, by omega⟩ : Fin 4608) = t := Fin.ext (by show (256 * t.val + r.val) / 256 = t.val; omega)
  have er : inBlk (256 * t.val + r.val) = r := Fin.ext (by show (256 * t.val + r.val) % 256 = r.val; omega)
  show headFAt c V (headPt (⟨256 * t.val + r.val, _⟩ : Fin 4608)) (ix2 (inBlk (256 * t.val + r.val)) o) = _
  rw [ep, er]

/-- An entry of a point's block of the second. -/
theorem tailRow_at (t : Fin cfg2.N) (r : Fin 256) (o : Fin 128) : tailRow c V (256 * t.val + r.val) o = tailF c V t (ix2 r o) := by
  have hN : cfg2.N = 14 := N_2
  have ht := t.isLt
  have hr := r.isLt
  unfold tailRow tailOut
  rw [dif_pos (by omega)]
  have ep : tailPt (⟨256 * t.val + r.val, by omega⟩ : Fin 3584) = t := Fin.ext (by show (256 * t.val + r.val) / 256 = t.val; omega)
  have er : inBlk (256 * t.val + r.val) = r := Fin.ext (by show (256 * t.val + r.val) % 256 = r.val; omega)
  show tailF c V (tailPt (⟨256 * t.val + r.val, _⟩ : Fin 3584)) (ix2 (inBlk (256 * t.val + r.val)) o) = _
  rw [ep, er]

/-- A point's sums in the first call: its 256 rows, in their batch's line. -/
theorem headR_apply (t : Fin cfg1.N) (b : Fin 2) (o : Fin 128) : headRAt c V t (ix2 b o)
    = if b.val = t.val / 16 then ∑ r ∈ Finset.range 256, headRow c V (256 * t.val + r) o else 0 := by
  have ht : t.val < 18 := by have : cfg1.N = 18 := N_1; have := t.isLt; omega
  have hc : (grid1.coords t 0).val = t.val := coords1 t
  unfold headRAt headR
  rw [hc]
  refine (head_sum ⟨t.val, ht⟩ _ _ _ _ b o).trans ?_
  show (if b.val = t.val / 16 then _ else (0 : EReal)) = _
  split
  · rw [Finset.sum_range]
    exact Finset.sum_congr rfl fun r _ => (headRow_at c V t r o).symm
  · rfl

/-- A point's sum in the second. -/
theorem tailR_apply (t : Fin cfg2.N) (o : Fin 128) : tailR c V t (ix2 (0 : Fin 1) o)
    = ∑ r ∈ Finset.range 256, tailRow c V (256 * t.val + r) o := by
  rw [Finset.sum_range]
  refine (tail_sum _ _ _ _ _ _ _ _ o).trans ?_
  exact Finset.sum_congr rfl fun r _ => (tailRow_at c V t r o).symm

/-- The first call's sums up to a point. -/
theorem headAcc_apply (b : Fin 2) (o : Fin 128) : ∀ n h, headAcc c V n h (ix2 b o)
    = ∑ t ∈ Finset.range (n + 1), if b.val = t / 16 then ∑ r ∈ Finset.range 256, headRow c V (256 * t + r) o else 0
  | 0, h => by
    rw [Finset.sum_range_one]
    exact headR_apply c V ⟨0, h⟩ b o
  | n + 1, h => by
    rw [Finset.sum_range_succ, ← headAcc_apply b o n (Nat.lt_of_succ_lt h)]
    refine (head_acc _ _ b o).trans ?_
    rw [headR_apply]

/-- The second's. -/
theorem tailAcc_apply (o : Fin 128) : ∀ n h, tailAcc c V n h (ix2 (0 : Fin 1) o)
    = ∑ t ∈ Finset.range (n + 1), ∑ r ∈ Finset.range 256, tailRow c V (256 * t + r) o
  | 0, h => by
    rw [Finset.sum_range_one]
    exact tailR_apply c V ⟨0, h⟩ o
  | n + 1, h => by
    rw [Finset.sum_range_succ, ← tailAcc_apply o n (Nat.lt_of_succ_lt h)]
    refine (tail_acc _ _ o).trans ?_
    rw [tailR_apply]

/-- A sum by blocks is the sum. -/
theorem sum_blocks (f : ℕ → EReal) (k : ℕ) : ∀ T, ∑ t ∈ Finset.range T, ∑ r ∈ Finset.range k, f (k * t + r) = ∑ n ∈ Finset.range (k * T), f n
  | 0 => by simp
  | T + 1 => by rw [Finset.sum_range_succ, sum_blocks f k T, Nat.mul_succ, Finset.sum_range_add]

/-- The first call's sums: all of batch 0's rows, -/
theorem headSum0 (o : Fin 128) (h : 17 < cfg1.N) : headAcc c V 17 h (ix2 (0 : Fin 2) o) = ∑ n ∈ Finset.range 4096, headRow c V n o := by
  rw [headAcc_apply, show 17 + 1 = 16 + 2 from rfl, Finset.sum_range_add]
  have h1 : ∑ x ∈ Finset.range 2, (if ((0 : Fin 2)).val = (16 + x) / 16 then ∑ r ∈ Finset.range 256, headRow c V (256 * (16 + x) + r) o else 0) = 0 :=
    Finset.sum_eq_zero fun x hx => if_neg (by have := Finset.mem_range.mp hx; show ¬0 = _; omega)
  rw [h1, add_zero, ← sum_blocks (fun n => headRow c V n o) 256 16]
  exact Finset.sum_congr rfl fun x hx => if_pos (by have := Finset.mem_range.mp hx; show 0 = _; omega)

/-- and the first 512 of batch 1's. -/
theorem headSum1 (o : Fin 128) (h : 17 < cfg1.N) : headAcc c V 17 h (ix2 (1 : Fin 2) o) = ∑ n ∈ Finset.range 512, headRow c V (4096 + n) o := by
  rw [headAcc_apply, show 17 + 1 = 16 + 2 from rfl, Finset.sum_range_add]
  have h1 : ∑ x ∈ Finset.range 16, (if ((1 : Fin 2)).val = x / 16 then ∑ r ∈ Finset.range 256, headRow c V (256 * x + r) o else 0) = 0 :=
    Finset.sum_eq_zero fun x hx => if_neg (by have := Finset.mem_range.mp hx; show ¬1 = _; omega)
  rw [h1, zero_add, ← sum_blocks (fun n => headRow c V (4096 + n) o) 256 2]
  refine Finset.sum_congr rfl fun x hx => (if_pos (by have := Finset.mem_range.mp hx; show 1 = _; omega)).trans ?_
  exact Finset.sum_congr rfl fun r _ => by rw [show 256 * (16 + x) + r = 4096 + (256 * x + r) by omega]

/-- The second call's sum: the other rows of batch 1. -/
theorem tailSum1 (o : Fin 128) (h : 13 < cfg2.N) : tailAcc c V 13 h (ix2 (0 : Fin 1) o) = ∑ n ∈ Finset.range 3584, tailRow c V n o := by
  rw [tailAcc_apply]
  exact sum_blocks (fun n => tailRow c V n o) 256 14

end Cert.Proof
-- ==== Proof.KernelRows.lean ====
module

public import proofs.«01_k».proof.Proof.Spec
public import proofs.«01_k».proof.Proof.Sums
public import proofs.«01_k».proof.Proof.Windows

@[expose] public section

/-!
# The rows the two TensorCore calls leave

Each call is given the arguments' arrays (features, coordinates, weights; the second call also the sums of the SparseCore
call). Row by row its result is then the row of the specification.
-/

noncomputable section

namespace Cert.Proof

open Cert.KernelIdeal Cert.KernelIdeal.Gen
open Idealize.ShloMosaic Idealize.ShloMosaic.TcCoe

variable (c : Dev nD) (V : (b : Ref sig .tc) → Buf (Elt Ideal) ((c : Thread nD τ).loc b)) (A : Args)

/-- The batch and the node of a row of the flattened features. -/
def batchOf (n : ℕ) (h : n < 8192) : Fin 2 := ⟨n / 4096, by omega⟩
/-- The node of a row of both batches. -/
def nodeOf (n : ℕ) : Node := ⟨n % 4096, Nat.mod_lt _ (by decide)⟩

/-- The first call's operands are the arguments'. -/
structure HeadGiven : Prop where
  feats : ∀ (n : Fin 4608) (k : Fin 3), V main_v28 (ix2 n k) = A.feat (batchOf n.val (by omega)) (nodeOf n.val) k
  loc : V main_arg0 = A.loc
  table : ∀ (j : Node) (k : Fin 3), V main_v3 (ix2 j k) = A.feat 0 j k
  dep : V main_arg2 = A.dep
  Wi : V main_arg3 = A.Wi
  bi : row0 (V main_v4) = fun e => A.bi (ix1 e)
  Wn : V main_arg5 = A.Wn
  bn : row0 (V main_v5) = fun e => A.bn (ix1 e)
  Wf : V main_arg7 = A.Wf
  bf : row0 (V main_v6) = fun e => A.bf (ix1 e)
  Wd : V main_arg9 = A.Wd
  bd : row0 (V main_v7) = fun e => A.bd (ix1 e)

/-- The second call's operands are the arguments', and the sums at the nearest nodes. -/
structure TailGiven : Prop where
  feats : ∀ (n : Fin 3584) (k : Fin 3), V main_v30 (ix2 n k) = A.feat 1 ⟨512 + n.val, by omega⟩ k
  sums : ∀ (n : Fin 3584) (k : Fin 3), V main_v27 (ix2 n k) = A.near 1 ⟨512 + n.val, by omega⟩ k
  Wi : V main_arg3 = A.Wi
  bi : row0 (V main_v4) = fun e => A.bi (ix1 e)
  Wn : V main_arg5 = A.Wn
  bn : row0 (V main_v5) = fun e => A.bn (ix1 e)
  Wf : V main_arg7 = A.Wf
  bf : row0 (V main_v6) = fun e => A.bf (ix1 e)

variable {A}

/-- A row of the first call's distances is its node's, the node itself set aside. -/
theorem head_dist (h : A.Ok) (i : grid1.Coords) {X1 : Vec Ideal S256x3 .f32} {X2 : Vec Ideal S1x4096x2 .f32} {r : Fin 256} {b : Fin 2}
    {q : Node} (hq : q.val = 256 * ((i 0).val % 16) + r.val) (h1 : ∀ k, X1 (ix2 r k) = A.feat b q k)
    (h2 : ∀ j k, X2 (ix3 (0 : Fin 1) j k) = A.loc (ix3 b j k)) : rowOf (k1_pay6 i X1 X2) r = mask (sq A.loc b q) q := by
  have f0 : A.feat b q 0 = A.loc (ix3 b q 0) := rfl
  have f1 : A.feat b q 1 = A.loc (ix3 b q 1) := rfl
  funext j
  show k1_pay6 i X1 X2 (ix2 r j) = _
  rw [head_key, ← hq, h1, h1, h2, h2, f0, f1]
  unfold mask
  by_cases hj : j = q
  · rw [if_pos (congrArg Fin.val hj), if_pos hj]
  · rw [if_neg (fun e => hj (Fin.ext e)), if_neg hj, (h.loc _).sq_comm (h.loc (ix3 b j 0)), (h.loc _).sq_comm (h.loc (ix3 b j 1))]
    rfl

/-- One row of the first call. -/
theorem head_row (h : A.Ok) (hV : HeadGiven c V A) (t : Fin cfg1.N) (r : Fin 256) (o : Fin 128) (hn : 256 * t.val + r.val < 4608) :
    headFAt c V t (ix2 r o) = A.row (batchOf (256 * t.val + r.val) (by omega)) (nodeOf (256 * t.val + r.val)) o := by
  have hN : cfg1.N = 18 := N_1
  have ht := t.isLt
  have hr := r.isLt
  have hb : (⟨t.val / 16, by omega⟩ : Fin 2) = batchOf (256 * t.val + r.val) (by omega) := Fin.ext (by
    show t.val / 16 = (256 * t.val + r.val) / 4096; omega)
  have hq : (nodeOf (256 * t.val + r.val)).val = 256 * ((grid1.coords t 0).val % 16) + r.val := by
    rw [coords1]; show (256 * t.val + r.val) % 4096 = _; omega
  have h1 (k : Fin 3) : headIn c V 0 t (ix2 r k) = A.feat (batchOf (256 * t.val + r.val) (by omega)) (nodeOf (256 * t.val + r.val)) k :=
    (head_in0 c V t r k hn).trans (hV.feats _ k)
  have h2 (j : Node) (k : Fin 2) : headIn c V 1 t (ix3 (0 : Fin 1) j k) = A.loc (ix3 (batchOf (256 * t.val + r.val) (by omega)) j k) :=
    (head_in1 c V t j k (by omega)).trans (by rw [hV.loc, hb])
  have hQ (j : Node) : k1_pay5 (F := Ideal) (grid1.coords t) (ix2 r j) = if j = nodeOf (256 * t.val + r.val) then 1 else 0 :=
    markF_apply _ _ _ _ ((head_self (grid1.coords t) r j).trans (if_congr (by rw [← hq]; exact Fin.ext_iff.symm) rfl rfl))
  unfold headFAt headF
  refine (head_row_of _ (marks (k1_pay5 (grid1.coords t)) (k1_pay6 (grid1.coords t) (headIn c V 0 t) (headIn c V 1 t)))
    _ _ _ _ _ _ _ _ (headG_eq _ _ _ _ _ _ _) r o).trans ?_
  have hD := head_dist h (grid1.coords t) hq h1 h2
  have hs (k : Fin 3) : (∑ j, marks (k1_pay5 (grid1.coords t)) (k1_pay6 (grid1.coords t) (headIn c V 0 t) (headIn c V 1 t)) (ix2 r j)
      * headIn c V 2 t (ix2 j k)) = A.near (batchOf (256 * t.val + r.val) (by omega)) (nodeOf (256 * t.val + r.val)) k := by
    rw [sum_marks _ _ r _ hQ (by rw [hD]; exact has_mask (Args.sq_lt h _ _) _) (fun j => headIn c V 2 t (ix2 j k)), hD, ← Args.near_eq h]
    have hx (j : Node) : headIn c V 2 t (ix2 j k) = A.feat 0 j k := (congrFun (head_in2 c V t) _).trans (hV.table j k)
    rw [hx]
    exact congrArg _ (Finset.sum_congr rfl fun s _ => hx _)
  rw [funext hs, funext h1, head_in4, head_in5, head_in6, head_in7, head_in8, head_in9, hV.Wi, hV.bi, hV.Wn, hV.bn, hV.Wf, hV.bf]
  rfl

/-- One row of the second call. -/
theorem tail_row_eq (hV : TailGiven c V A) (t : Fin cfg2.N) (r : Fin 256) (o : Fin 128) (hn : 256 * t.val + r.val < 3584) :
    tailF c V t (ix2 r o) = A.row 1 ⟨512 + (256 * t.val + r.val), by omega⟩ o := by
  have h1 (k : Fin 3) : tailIn c V 0 t (ix2 r k) = A.feat 1 ⟨512 + (256 * t.val + r.val), by omega⟩ k :=
    (tail_in0 c V t r k hn).trans (hV.feats _ k)
  have h2 (k : Fin 3) : tailIn c V 1 t (ix2 r k) = A.near 1 ⟨512 + (256 * t.val + r.val), by omega⟩ k :=
    (tail_in1 c V t r k hn).trans (hV.sums _ k)
  unfold tailF
  refine (tail_row _ _ _ _ _ _ _ _ r o).trans ?_
  rw [funext h1, funext h2, tail_in2, tail_in3, tail_in4, tail_in5, tail_in6, tail_in7, hV.Wi, hV.bi, hV.Wn, hV.bn, hV.Wf, hV.bf]
  rfl

/-- The first call's rows of results. -/
theorem headOut_row (h : A.Ok) (hV : HeadGiven c V A) (n : Fin 4608) (o : Fin 128) :
    headOut c V (ix2 n o) = A.row (batchOf n.val (by omega)) (nodeOf n.val) o := by
  have e : 256 * (n.val / 256) + n.val % 256 = n.val := by omega
  have hn := n.isLt
  have := head_row c V h hV (headPt n) (inBlk n.val) o (by show 256 * (n.val / 256) + n.val % 256 < 4608; omega)
  refine (show headOut c V (ix2 n o) = _ from this).trans ?_
  congr 1
  · exact Fin.ext (by show (256 * (n.val / 256) + n.val % 256) / 4096 = n.val / 4096; omega)
  · exact Fin.ext (by show (256 * (n.val / 256) + n.val % 256) % 4096 = n.val % 4096; omega)

/-- The second call's rows of results. -/
theorem tailOut_row (hV : TailGiven c V A) (n : Fin 3584) (o : Fin 128) :
    tailOut c V (ix2 n o) = A.row 1 ⟨512 + n.val, by omega⟩ o := by
  have hn := n.isLt
  have := tail_row_eq c V hV (tailPt n) (inBlk n.val) o (by show 256 * (n.val / 256) + n.val % 256 < 3584; omega)
  refine (show tailOut c V (ix2 n o) = _ from this).trans ?_
  congr 1
  exact Fin.ext (by show 512 + (256 * (n.val / 256) + n.val % 256) = 512 + n.val; omega)

/-- The depots' rows. -/
theorem headDep_row (hV : HeadGiven c V A) (b : Fin 2) (o : Fin 128) : headDepVal c V (ix2 b o) = A.depot b o := by
  unfold headDepVal
  refine (head_dep _ _ _ b o).trans ?_
  rw [head_in3, head_in10, head_in11, hV.dep, hV.Wd, hV.bd]
  rfl

/-- The sum of batch 0's rows, and of the first 512 of batch 1's, -/
theorem headSum0_row (h : A.Ok) (hV : HeadGiven c V A) (o : Fin 128) (hl : 17 < cfg1.N) :
    headAcc c V 17 hl (ix2 (0 : Fin 2) o) = ∑ i : Node, A.row 0 i o := by
  rw [headSum0, ← Fin.sum_univ_eq_sum_range (fun n => headRow c V n o) 4096]
  refine Finset.sum_congr rfl fun i _ => ?_
  have hi := i.isLt
  unfold headRow
  rw [dif_pos (by omega), headOut_row c V h hV]
  congr 1
  · exact Fin.ext (by show i.val / 4096 = 0; omega)
  · exact Fin.ext (by show i.val % 4096 = i.val; omega)

/-- The first call's sum for batch 1: its first 512 rows. -/
theorem headSum1_row (h : A.Ok) (hV : HeadGiven c V A) (o : Fin 128) (hl : 17 < cfg1.N) :
    headAcc c V 17 hl (ix2 (1 : Fin 2) o) = ∑ i : Fin 512, A.row 1 ⟨i.val, by omega⟩ o := by
  rw [headSum1, ← Fin.sum_univ_eq_sum_range (fun n => headRow c V (4096 + n) o) 512]
  refine Finset.sum_congr rfl fun i _ => ?_
  have hi := i.isLt
  unfold headRow
  rw [dif_pos (by omega), headOut_row c V h hV]
  congr 1
  · exact Fin.ext (by show (4096 + i.val) / 4096 = 1; omega)
  · exact Fin.ext (by show (4096 + i.val) % 4096 = i.val; omega)

/-- and of the other rows of batch 1. -/
theorem tailSum_row (hV : TailGiven c V A) (o : Fin 128) (hl : 13 < cfg2.N) :
    tailAcc c V 13 hl (ix2 (0 : Fin 1) o) = ∑ i : Fin 3584, A.row 1 ⟨512 + i.val, by omega⟩ o := by
  rw [tailSum1, ← Fin.sum_univ_eq_sum_range (fun n => tailRow c V n o) 3584]
  refine Finset.sum_congr rfl fun i _ => ?_
  unfold tailRow
  rw [dif_pos i.isLt]
  exact tailOut_row c V hV i o

/-- Batch 1's rows in two parts. -/
theorem sum_parts (x : Node → EReal) :
    ∑ i : Node, x i = (∑ i : Fin 512, x ⟨i.val, by omega⟩) + ∑ i : Fin 3584, x ⟨512 + i.val, by omega⟩ :=
  Fin.sum_univ_add (a := 512) (b := 3584) x

end Cert.Proof
-- ==== Proof.HostValues.lean ====
module

public import proofs.«01_k».proof.Proof.HostRead
public import proofs.«01_k».proof.Proof.KernelRows
public import Idealize.ShloMosaic.Lib.Pointwise

@[expose] public section

/-!
# The host arrays entry by entry
-/

noncomputable section

namespace Cert.Proof

open Cert.KernelIdeal Cert.KernelIdeal.Gen
open Idealize.ShloMosaic Idealize.ShloMosaic.TcCoe

variable (A : Args)

/-- The features, entry by entry. -/
theorem featArr_apply (b : Fin 2) (j : Node) (k : Fin 3) : featArr A.loc A.dl (ix3 b j k) = A.feat b j k := by
  unfold featArr catFeat Args.feat
  pointwise

/-- Batch 0's features. -/
theorem featArr0_apply (X : Vec Ideal S2x4096x3 .f32) (j : Node) (k : Fin 3) : featArr0 X (ix2 j k) = X (ix3 0 j k) := by
  unfold featArr0
  pointwise

/-- The rows of both batches one after the other. -/
theorem flat_apply (X : Vec Ideal S2x4096x3 .f32) (n : Fin 8192) (k : Fin 3) :
    (shapeCast S8192x3 X shapeCasts_S2x4096x3_S8192x3 : Vec Ideal S8192x3 .f32) (ix2 n k) = X (ix3 (batchOf n.val n.isLt) (nodeOf n.val) k) := by
  pointwise
  rfl

/-- A bias as an array of one row. -/
theorem row0_apply (B : Vec Ideal S128 .f32) :
    row0 (shapeCast S1x128 B shapeCasts_S128_S1x128 : Vec Ideal S1x128 .f32) = fun e => B (ix1 e) := by
  funext e
  unfold row0
  pointwise

/-- The first coordinates of the nodes the SparseCore call works on. -/
theorem query_apply0 (n : Fin 3584) : (shapeCast S3584 (extractStridedSlice S1x3584x1 ![1, 512, 0] A.loc slices_S2x4096x2_S1x3584x1_1_512_0) shapeCasts_S1x3584x1_S3584 : Vec Ideal S3584 .f32) (ix1 n)
    = A.loc (ix3 1 ⟨512 + n.val, by omega⟩ 0) := by
  pointwise

/-- Their second coordinates. -/
theorem query_apply1 (n : Fin 3584) : (shapeCast S3584 (extractStridedSlice S1x3584x1 ![1, 512, 1] A.loc slices_S2x4096x2_S1x3584x1_1_512_1) shapeCasts_S1x3584x1_S3584 : Vec Ideal S3584 .f32) (ix1 n)
    = A.loc (ix3 1 ⟨512 + n.val, by omega⟩ 1) := by
  pointwise

/-- The first coordinates of batch 1. -/
theorem cand_apply0 (j : Node) : (shapeCast S4096 (extractStridedSlice S1x4096x1 ![1, 0, 0] A.loc slices_S2x4096x2_S1x4096x1_1_0_0) shapeCasts_S1x4096x1_S4096 : Vec Ideal S4096 .f32) (ix1 j)
    = A.loc (ix3 1 j 0) := by
  pointwise

/-- Its second coordinates. -/
theorem cand_apply1 (j : Node) : (shapeCast S4096 (extractStridedSlice S1x4096x1 ![1, 0, 1] A.loc slices_S2x4096x2_S1x4096x1_1_0_1) shapeCasts_S1x4096x1_S4096 : Vec Ideal S4096 .f32) (ix1 j)
    = A.loc (ix3 1 j 1) := by
  pointwise

/-- The first column of a table of features. -/
theorem col_apply0 (x : Vec Ideal S4096x3 .f32) (j : Node) : (shapeCast S4096 (extractStridedSlice S4096x1 ![0, 0] x slices_S4096x3_S4096x1_0_0) shapeCasts_S4096x1_S4096 : Vec Ideal S4096 .f32) (ix1 j)
    = x (ix2 j 0) := by
  pointwise
/-- The second. -/
theorem col_apply1 (x : Vec Ideal S4096x3 .f32) (j : Node) : (shapeCast S4096 (extractStridedSlice S4096x1 ![0, 1] x slices_S4096x3_S4096x1_0_1) shapeCasts_S4096x1_S4096 : Vec Ideal S4096 .f32) (ix1 j)
    = x (ix2 j 1) := by
  pointwise
/-- The third. -/
theorem col_apply2 (x : Vec Ideal S4096x3 .f32) (j : Node) : (shapeCast S4096 (extractStridedSlice S4096x1 ![0, 2] x slices_S4096x3_S4096x1_0_2) shapeCasts_S4096x1_S4096 : Vec Ideal S4096 .f32) (ix1 j)
    = x (ix2 j 2) := by
  pointwise

/-- The rows of the first TensorCore call. -/
theorem first_apply (x : Vec Ideal S8192x3 .f32) (n : Fin 4608) (k : Fin 3) :
    (extractStridedSlice S4608x3 ![0, 0] x slices_S8192x3_S4608x3_0_0 : Vec Ideal S4608x3 .f32) (ix2 n k) = x (ix2 ⟨n.val, by omega⟩ k) := by
  pointwise
/-- The rows of the second. -/
theorem last_apply (x : Vec Ideal S8192x3 .f32) (n : Fin 3584) (k : Fin 3) :
    (extractStridedSlice S3584x3 ![4608, 0] x slices_S8192x3_S3584x3_4608_0 : Vec Ideal S3584x3 .f32) (ix2 n k) = x (ix2 ⟨4608 + n.val, by omega⟩ k) := by
  pointwise

/-- The three sums side by side. -/
theorem sumsArr_apply (a : Fin 3 → Vec Ideal S3584 .f32) (n : Fin 3584) (k : Fin 3) : sumsArr (a 0) (a 1) (a 2) (ix2 n k) = a k (ix1 n) := by
  unfold sumsArr catCols
  fin_cases k <;> pointwise

/-- The depots' rows of the result, -/
theorem rowsArr_depot (d : Vec Ideal S2x128 .f32) (a : Vec Ideal S4608x128 .f32) (t : Vec Ideal S3584x128 .f32) (b : Fin 2) (o : Fin 128) :
    rowsArr d a t (ix3 b (0 : Fin 4097) o) = d (ix2 b o) := by
  unfold rowsArr catDepot
  pointwise

/-- and the nodes'. -/
theorem rowsArr_node (d : Vec Ideal S2x128 .f32) (a : Vec Ideal S4608x128 .f32) (t : Vec Ideal S3584x128 .f32) (b : Fin 2) (i : Node) (o : Fin 128) :
    rowsArr d a t (ix3 b (⟨1 + i.val, by omega⟩ : Fin 4097) o) = if h : b.val * 4096 + i.val < 4608 then a (ix2 ⟨b.val * 4096 + i.val, h⟩ o)
      else t (ix2 ⟨b.val * 4096 + i.val - 4608, by omega⟩ o) := by
  unfold rowsArr catDepot catCalls
  pointwise

/-- The mean's entries. -/
theorem meanArr_apply0 (d s : Vec Ideal S2x128 .f32) (t : Vec Ideal S1x128 .f32) (o : Fin 128) :
    meanArr d s t (ix2 0 o) = Ideal.div (d (ix2 0 o) + s (ix2 0 o)) (Ideal.ofBits .f32 0x45800800#32) := by
  unfold meanArr catSums
  pointwise

/-- The mean of batch 1, to which the second call adds. -/
theorem meanArr_apply1 (d s : Vec Ideal S2x128 .f32) (t : Vec Ideal S1x128 .f32) (o : Fin 128) :
    meanArr d s t (ix2 1 o) = Ideal.div (d (ix2 1 o) + (s (ix2 1 o) + t (ix2 0 o))) (Ideal.ofBits .f32 0x45800800#32) := by
  unfold meanArr catSums
  pointwise

end Cert.Proof
-- ==== Proof.KernelValue.lean ====
module

public import proofs.«01_k».proof.Proof.HostValues

@[expose] public section

/-!
# The kernel's two results

The operands of the two TensorCore calls are the arguments' arrays and the SparseCore call's sums, so the rows the program ends
with are the specification's, and so is their mean.
-/

noncomputable section

namespace Cert.Proof

open Cert.KernelIdeal Cert.KernelIdeal.Gen
open Idealize.ShloMosaic Idealize.ShloMosaic.TcCoe

variable (m : (ℓ : Loc nD τ sig) → Buf (Elt Ideal) ℓ) (d : Dev nD)

/-- The program's arguments. -/
def kArgs : Args where
  loc := m (d, rf main_arg0)
  dl := m (d, rf main_arg1)
  dep := m (d, rf main_arg2)
  Wi := m (d, rf main_arg3)
  bi := m (d, rf main_arg4)
  Wn := m (d, rf main_arg5)
  bn := m (d, rf main_arg6)
  Wf := m (d, rf main_arg7)
  bf := m (d, rf main_arg8)
  Wd := m (d, rf main_arg9)
  bd := m (d, rf main_arg10)

/-- What the first host operations do not write is the argument's. -/
theorem at1_W (r : Ref sig .tc) (h1 : r ∉ writes1) : W1 m d (rf r) = m (d, rf r) :=
  StableHlo.after_of_writes_sub ops1 _ ops1_writes h1

/-- What the SparseCore call and the second host operations do not write stays. -/
theorem at3_W (r : Ref sig .tc) (h2 : r ∉ writes2) (h23 : r ≠ main_v23_0 ∧ r ≠ main_v23_1 ∧ r ≠ main_v23_2) :
    W3 m d (rf r) = W1 m d (rf r) :=
  (StableHlo.after_of_writes_sub ops2 _ ops2_writes h2).trans (put3_ne _ _ _ _ h23.1 h23.2.1 h23.2.2)

/-- What the first TensorCore call and the third host operations do not write stays. -/
theorem at5_W (r : Ref sig .tc) (h3 : r ∉ writes3) (h29 : r ≠ main_v29_0 ∧ r ≠ main_v29_1 ∧ r ≠ main_v29_2) :
    W5 m d (rf r) = W3 m d (rf r) :=
  (StableHlo.after_of_writes_sub ops3 _ ops3_writes h3).trans (put3_ne _ _ _ _ h29.1 h29.2.1 h29.2.2)

/-! ## Before the calls -/

/-- All rows' features. -/
theorem W1_v8 (n : Fin 8192) (k : Fin 3) :
    (W1 m d (rf main_v8) : Vec Ideal S8192x3 .f32) (ix2 n k) = (kArgs m d).feat (batchOf n.val n.isLt) (nodeOf n.val) k :=
  (congrFun (read1_v8 (W0 m d)) _).trans ((flat_apply _ n k).trans (featArr_apply (kArgs m d) _ _ k))

/-- Batch 0's features. -/
theorem W1_v3 (j : Node) (k : Fin 3) : (W1 m d (rf main_v3) : Vec Ideal S4096x3 .f32) (ix2 j k) = (kArgs m d).feat 0 j k :=
  (congrFun (read1_v3 (W0 m d)) _).trans ((featArr0_apply _ j k).trans (featArr_apply (kArgs m d) 0 j k))

/-- The first layer's bias, as a row. -/
theorem W1_v4 : row0 (W1 m d (rf main_v4)) = fun e => (kArgs m d).bi (ix1 e) := (congrArg row0 (read1_v4 (W0 m d))).trans (row0_apply _)
/-- The neighbours' bias, as a row. -/
theorem W1_v5 : row0 (W1 m d (rf main_v5)) = fun e => (kArgs m d).bn (ix1 e) := (congrArg row0 (read1_v5 (W0 m d))).trans (row0_apply _)
/-- The last layer's bias, as a row. -/
theorem W1_v6 : row0 (W1 m d (rf main_v6)) = fun e => (kArgs m d).bf (ix1 e) := (congrArg row0 (read1_v6 (W0 m d))).trans (row0_apply _)
/-- The depot's bias, as a row. -/
theorem W1_v7 : row0 (W1 m d (rf main_v7)) = fun e => (kArgs m d).bd (ix1 e) := (congrArg row0 (read1_v7 (W0 m d))).trans (row0_apply _)

/-- The SparseCore call's sums are those at the nearest nodes. -/
theorem scOut_eq (h : (kArgs m d).Ok) (c : Fin 3) (p : Vec Ideal S4096 .f32) (hp : ∀ j : Node, p (ix1 j) = (kArgs m d).feat 0 j c)
    (n : Fin 3584) : scOut (tabs m d) p (ix1 n) = (kArgs m d).near 1 ⟨512 + n.val, by omega⟩ c :=
  outVal_eq h c (fun k => (congrFun (read1_v10 (W0 m d)) _).trans (query_apply0 (kArgs m d) k))
    (fun k => (congrFun (read1_v12 (W0 m d)) _).trans (query_apply1 (kArgs m d) k))
    (fun j => (congrFun (read1_v14 (W0 m d)) _).trans (cand_apply0 (kArgs m d) j))
    (fun j => (congrFun (read1_v16 (W0 m d)) _).trans (cand_apply1 (kArgs m d) j)) hp n

/-- The SparseCore call's first table. -/
theorem p0_eq (j : Node) : (tabs m d).p0 (ix1 j) = (kArgs m d).feat 0 j 0 :=
  (congrFun (read1_v18 (W0 m d)) _).trans ((col_apply0 _ j).trans ((featArr0_apply _ j 0).trans (featArr_apply (kArgs m d) 0 j 0)))
/-- Its second. -/
theorem p1_eq (j : Node) : (tabs m d).p1 (ix1 j) = (kArgs m d).feat 0 j 1 :=
  (congrFun (read1_v20 (W0 m d)) _).trans ((col_apply1 _ j).trans ((featArr0_apply _ j 1).trans (featArr_apply (kArgs m d) 0 j 1)))
/-- Its third. -/
theorem p2_eq (j : Node) : (tabs m d).p2 (ix1 j) = (kArgs m d).feat 0 j 2 :=
  (congrFun (read1_v22 (W0 m d)) _).trans ((col_apply2 _ j).trans ((featArr0_apply _ j 2).trans (featArr_apply (kArgs m d) 0 j 2)))

/-- They side by side. -/
theorem W3_v27 (h : (kArgs m d).Ok) (n : Fin 3584) (k : Fin 3) :
    (W3 m d (rf main_v27) : Vec Ideal S3584x3 .f32) (ix2 n k) = (kArgs m d).near 1 ⟨512 + n.val, by omega⟩ k := by
  have e0 : W2 m d (rf main_v23_0) = scOut (tabs m d) (tabs m d).p0 := by
    unfold W2 put3
    rw [Function.update_of_ne (by decide +kernel), Function.update_of_ne (by decide +kernel), Function.update_self]
  have e1 : W2 m d (rf main_v23_1) = scOut (tabs m d) (tabs m d).p1 := by
    unfold W2 put3
    rw [Function.update_of_ne (by decide +kernel), Function.update_self]
  have e2 : W2 m d (rf main_v23_2) = scOut (tabs m d) (tabs m d).p2 := by
    unfold W2 put3
    rw [Function.update_self]
  have hr := read2_v27 (W2 m d)
  rw [e0, e1, e2] at hr
  refine (congrFun hr _).trans ((sumsArr_apply ![scOut (tabs m d) (tabs m d).p0, scOut (tabs m d) (tabs m d).p1, scOut (tabs m d) (tabs m d).p2] n k).trans ?_)
  fin_cases k
  · exact scOut_eq m d h 0 _ (p0_eq m d) n
  · exact scOut_eq m d h 1 _ (p1_eq m d) n
  · exact scOut_eq m d h 2 _ (p2_eq m d) n

/-- The first call's operands. -/
theorem headGiven : HeadGiven d (atRefs (W3 m) d) (kArgs m d) where
  feats n k := by
    refine (congrFun (read2_v28 (W2 m d)) _).trans ((first_apply _ n k).trans ?_)
    have e : W2 m d (rf main_v8) = W1 m d (rf main_v8) := put3_ne _ _ _ _ (by decide) (by decide) (by decide)
    rw [e]
    exact W1_v8 m d _ k
  loc := (at3_W m d main_arg0 (by decide) (by decide)).trans (at1_W m d _ (by decide))
  table j k := (congrFun (at3_W m d main_v3 (by decide) (by decide)) _).trans (W1_v3 m d j k)
  dep := (at3_W m d main_arg2 (by decide) (by decide)).trans (at1_W m d _ (by decide))
  Wi := (at3_W m d main_arg3 (by decide) (by decide)).trans (at1_W m d _ (by decide))
  bi := (congrArg row0 (at3_W m d main_v4 (by decide) (by decide))).trans (W1_v4 m d)
  Wn := (at3_W m d main_arg5 (by decide) (by decide)).trans (at1_W m d _ (by decide))
  bn := (congrArg row0 (at3_W m d main_v5 (by decide) (by decide))).trans (W1_v5 m d)
  Wf := (at3_W m d main_arg7 (by decide) (by decide)).trans (at1_W m d _ (by decide))
  bf := (congrArg row0 (at3_W m d main_v6 (by decide) (by decide))).trans (W1_v6 m d)
  Wd := (at3_W m d main_arg9 (by decide) (by decide)).trans (at1_W m d _ (by decide))
  bd := (congrArg row0 (at3_W m d main_v7 (by decide) (by decide))).trans (W1_v7 m d)

/-- The second call's. -/
theorem tailGiven (h : (kArgs m d).Ok) : TailGiven d (atRefs (W5 m) d) (kArgs m d) where
  feats n k := by
    have hn := n.isLt
    refine (congrFun (read3_v30 (W4 m d)) _).trans ((last_apply _ n k).trans ?_)
    have e : W4 m d (rf main_v8) = W1 m d (rf main_v8) :=
      (put3_ne _ _ _ _ (by decide) (by decide) (by decide)).trans (at3_W m d main_v8 (by decide) (by decide))
    rw [e]
    refine (W1_v8 m d _ k).trans ?_
    congr 1
    · exact Fin.ext (by show (4608 + n.val) / 4096 = 1; omega)
    · exact Fin.ext (by show (4608 + n.val) % 4096 = 512 + n.val; omega)
  sums n k := (congrFun (at5_W m d main_v27 (by decide) (by decide)) _).trans (W3_v27 m d h n k)
  Wi := (at5_W m d main_arg3 (by decide) (by decide)).trans (headGiven m d).Wi
  bi := (congrArg row0 (at5_W m d main_v4 (by decide) (by decide))).trans (headGiven m d).bi
  Wn := (at5_W m d main_arg5 (by decide) (by decide)).trans (headGiven m d).Wn
  bn := (congrArg row0 (at5_W m d main_v5 (by decide) (by decide))).trans (headGiven m d).bn
  Wf := (at5_W m d main_arg7 (by decide) (by decide)).trans (headGiven m d).Wf
  bf := (congrArg row0 (at5_W m d main_v6 (by decide) (by decide))).trans (headGiven m d).bf

/-! ## After them -/

/-- The first TensorCore call's rows, when both calls are done. -/
theorem W6_v29_0 : W6 m d (rf main_v29_0) = headOut d (atRefs (W3 m) d) := by
  have e6 : W6 m d (rf main_v29_0) = W5 m d (rf main_v29_0) := put3_ne _ _ _ _ (by decide) (by decide) (by decide)
  have e5 : W5 m d (rf main_v29_0) = W4 m d (rf main_v29_0) := StableHlo.after_of_writes_sub ops3 _ ops3_writes (by decide)
  rw [e6, e5]
  unfold W4 put3
  rw [Function.update_of_ne (by decide +kernel), Function.update_of_ne (by decide +kernel), Function.update_self]
  exact headOut_eq d _ _

/-- Its depots' rows. -/
theorem W6_v29_1 : W6 m d (rf main_v29_1) = headDepVal d (atRefs (W3 m) d) := by
  have e6 : W6 m d (rf main_v29_1) = W5 m d (rf main_v29_1) := put3_ne _ _ _ _ (by decide) (by decide) (by decide)
  have e5 : W5 m d (rf main_v29_1) = W4 m d (rf main_v29_1) := StableHlo.after_of_writes_sub ops3 _ ops3_writes (by decide)
  rw [e6, e5]
  unfold W4 put3
  rw [Function.update_of_ne (by decide +kernel), Function.update_self]
  exact headDep_eq d _ _

/-- Its sums. -/
theorem W6_v29_2 (hl : 17 < cfg1.N) : W6 m d (rf main_v29_2) = headAcc d (atRefs (W3 m) d) 17 hl := by
  have e6 : W6 m d (rf main_v29_2) = W5 m d (rf main_v29_2) := put3_ne _ _ _ _ (by decide) (by decide) (by decide)
  have e5 : W5 m d (rf main_v29_2) = W4 m d (rf main_v29_2) := StableHlo.after_of_writes_sub ops3 _ ops3_writes (by decide)
  rw [e6, e5]
  unfold W4 put3
  rw [Function.update_self]
  exact headSum_eq d _ _ hl

/-- The second TensorCore call's rows. -/
theorem W6_v31_0 : W6 m d (rf main_v31_0) = tailOut d (atRefs (W5 m) d) := by
  unfold W6 put3
  rw [Function.update_of_ne (by decide +kernel), Function.update_self]
  exact tailOut_eq d _ _

/-- Its sum. -/
theorem W6_v31_1 (hl : 13 < cfg2.N) : W6 m d (rf main_v31_1) = tailAcc d (atRefs (W5 m) d) 13 hl := by
  unfold W6 put3
  rw [Function.update_self]
  exact tailSum_eq d _ _ hl

/-- The first result. -/
theorem kernel_out (h : (kArgs m d).Ok) : W7 m d (rf main_v35) = (kArgs m d).out := by
  refine (read4_v35 (W6 m d)).trans ?_
  rw [W6_v29_1, W6_v29_0, W6_v31_0]
  refine Args.eq_out _ (fun b o => ?_) fun b i o => ?_
  · rw [rowsArr_depot]; exact headDep_row d _ (headGiven m d) b o
  · have hi := i.isLt
    have hb := b.isLt
    rw [rowsArr_node]
    by_cases h' : b.val * 4096 + i.val < 4608
    · rw [dif_pos h', headOut_row d _ h (headGiven m d) ⟨b.val * 4096 + i.val, h'⟩ o]
      exact congrArg₂ (fun b i => (kArgs m d).row b i o) (Fin.ext (show (b.val * 4096 + i.val) / 4096 = b.val by omega))
        (Fin.ext (show (b.val * 4096 + i.val) % 4096 = i.val by omega))
    · rw [dif_neg h', tailOut_row d _ (tailGiven m d h) ⟨b.val * 4096 + i.val - 4608, by omega⟩ o]
      exact congrArg₂ (fun b i => (kArgs m d).row b i o) (Fin.ext (show 1 = b.val by omega))
        (Fin.ext (show 512 + (b.val * 4096 + i.val - 4608) = i.val by omega))

/-- The second. -/
theorem kernel_mean (h : (kArgs m d).Ok) : W7 m d (rf main_v41) = (kArgs m d).mean := by
  have h1 : 17 < cfg1.N := by have : cfg1.N = 18 := N_1; omega
  have h2 : 13 < cfg2.N := by have : cfg2.N = 14 := N_2; omega
  refine (read4_v41 (W6 m d)).trans ?_
  rw [W6_v29_1, W6_v29_2 m d h1, W6_v31_1 m d h2]
  funext j
  obtain ⟨b, o, rfl⟩ : ∃ (b : Fin 2) (o : Fin 128), j = ix2 b o := ⟨j 0, j 1, eq_ix2 j⟩
  fin_cases b
  · refine (meanArr_apply0 _ _ _ o).trans ?_
    rw [headDep_row d _ (headGiven m d), headSum0_row d _ h (headGiven m d)]
    rfl
  · refine (meanArr_apply1 _ _ _ o).trans ?_
    rw [headDep_row d _ (headGiven m d), headSum1_row d _ h (headGiven m d), tailSum_row d _ (tailGiven m d h), ← sum_parts (fun i => (kArgs m d).row 1 i o)]
    rfl

end Cert.Proof
-- ==== Proof.RefTerm.lean ====
module

public import proofs.«01_k».proof.Proof.Gen.ReferenceIdeal.Run
public import Idealize.ShloMosaic.PureOps.Ideal.Laws

@[expose] public section

/-!
# The reference's results by stages

The reference's two results as a chain of named arrays: features, differences, distances, the stable order, the six nearest,
their features, the seven hidden rows of a node, the summed rows, the whole result, its mean.
-/

noncomputable section

namespace Cert.Proof.Ref

open Cert.ReferenceIdeal Cert.ReferenceIdeal.Gen
open Idealize.ShloMosaic Idealize.ShloMosaic.TcCoe

variable (A0 : FVec Ideal S2x4096x2 .f32) (A1 : FVec Ideal S2x4096 .f32) (A2 : FVec Ideal S2x2 .f32) (A3 : FVec Ideal S3x128 .f32)
  (A4 : FVec Ideal S128 .f32) (A5 : FVec Ideal S3x128 .f32) (A6 : FVec Ideal S128 .f32) (A7 : FVec Ideal S128x128 .f32)
  (A8 : FVec Ideal S128 .f32) (A9 : FVec Ideal S2x128 .f32) (A10 : FVec Ideal S128 .f32)

/-- Features. -/
def feats : FVec Ideal S2x4096x3 .f32 :=
  concatenate S2x4096x3 2 [⟨S2x4096x2, A0⟩, ⟨S2x4096x1, (broadcastInDim S2x4096x1 ![0, 1] bcast_S2x4096_S2x4096x1_0_1 A1)⟩]
    concatenates_S2x4096x2_S2x4096x1_S2x4096x3_d2

/-- Differences of coordinates. -/
def diffs (X : FVec Ideal S2x4096x3 .f32) : FVec Ideal S2x4096x4096x2 .f32 :=
  subf (broadcastInDim S2x4096x4096x2 ![0, 1, 2, 3] bcast_S2x1x4096x2_S2x4096x4096x2_0_1_2_3
      (broadcastInDim S2x1x4096x2 ![0, 2, 3] bcast_S2x4096x2_S2x1x4096x2_0_2_3
        (extractStridedSlice S2x4096x2 ![0, 0, 0] X slices_S2x4096x3_S2x4096x2_0_0_0)))
    (broadcastInDim S2x4096x4096x2 ![0, 1, 2, 3] bcast_S2x4096x1x2_S2x4096x4096x2_0_1_2_3
      (broadcastInDim S2x4096x1x2 ![0, 1, 3] bcast_S2x4096x2_S2x4096x1x2_0_1_3
        (extractStridedSlice S2x4096x2 ![0, 0, 0] X slices_S2x4096x3_S2x4096x2_0_0_0)))

/-- Distances. -/
def dists (D : FVec Ideal S2x4096x4096x2 .f32) : FVec Ideal S2x4096x4096 .f32 :=
  Host.sqrt (Host.reduceAdd (mulf D D) (constant (F := Ideal) S_ .f32 0x00000000#32) reducesTo_S2x4096x4096x2_S2x4096x4096_d3 h_S_)

/-- The nodes in the stable order of their distances. -/
def order (E : FVec Ideal S2x4096x4096 .f32) : IVec S2x4096x4096 32 :=
  (Host.sort2 S2x4096x4096 2 comparator_f32_i32_d2 E (iotaInDim S2x4096x4096 32 2)).2

/-- The six nearest, counted from the end where negative. -/
def nearest (P : IVec S2x4096x4096 32) : IVec S2x4096x6 32 :=
  select (cmpi .slt (extractStridedSlice S2x4096x6 ![0, 0, 0] P slices_S2x4096x4096_S2x4096x6_0_0_0)
      (broadcastInDim S2x4096x6 ![] bcast_S_S2x4096x6 (constantI S_ 32 0#32)))
    (addi (extractStridedSlice S2x4096x6 ![0, 0, 0] P slices_S2x4096x4096_S2x4096x6_0_0_0)
      (broadcastInDim S2x4096x6 ![] bcast_S_S2x4096x6 (constantI S_ 32 4096#32)))
    (extractStridedSlice S2x4096x6 ![0, 0, 0] P slices_S2x4096x4096_S2x4096x6_0_0_0)

/-- Whether they are nodes. -/
def inside (N : IVec S2x4096x6 32) : IVec S2x4096x6 1 :=
  Host.reduce IntOp.andi
    (andi (cmpi .sge (broadcastInDim S2x4096x6x1 ![0, 1, 2] bcast_S2x4096x6_S2x4096x6x1_0_1_2 N)
        (broadcastInDim S2x4096x6x1 ![] bcast_S_S2x4096x6x1 (constantI S_ 32 0#32)))
      (cmpi .sle (broadcastInDim S2x4096x6x1 ![0, 1, 2] bcast_S2x4096x6_S2x4096x6x1_0_1_2 N)
        (broadcastInDim S2x4096x6x1 ![0, 1, 2, 3] bcast_S1x1x1x1_S2x4096x6x1_0_1_2_3
          (broadcastInDim S1x1x1x1 ![3] bcast_S1_S1x1x1x1_3 (constantI S1 32 4095#32)))))
    (constantI S_ 1 1#1) reducesTo_S2x4096x6x1_S2x4096x6_d3 h_S_

/-- Batch 0's features at them. -/
def taken (X : FVec Ideal S2x4096x3 .f32) (N : IVec S2x4096x6 32) : FVec Ideal S2x4096x6x3 .f32 :=
  select (broadcastInDim S2x4096x6x3 ![0, 1, 2] bcast_S2x4096x6_S2x4096x6x3_0_1_2 (inside N))
    (Host.gather gather_S4096x3_S2x4096x6x1_S2x4096x6x3_3_0_n_n_0_3_13
      (shapeCast _ (extractStridedSlice S1x4096x3 ![0, 0, 0] X slices_S2x4096x3_S1x4096x3_0_0_0) shapeCasts_S1x4096x3_S4096x3)
      (broadcastInDim S2x4096x6x1 ![0, 1, 2] bcast_S2x4096x6_S2x4096x6x1_0_1_2 N))
    (broadcastInDim S2x4096x6x3 ![] bcast_S_S2x4096x6x3 (constant (F := Ideal) S_ .f32 0x7FC00000#32))

/-- A node's own hidden row. -/
def hidSelf (X : FVec Ideal S2x4096x3 .f32) : FVec Ideal S2x4096x1x128 .f32 :=
  broadcastInDim S2x4096x1x128 ![0, 1, 3] bcast_S2x4096x128_S2x4096x1x128_0_1_3
    (addf (Host.dotGeneral dot_S2x4096x3_S3x128_S2x4096x128_2_0_01_1_n_n none X A3)
      (broadcastInDim S2x4096x128 ![0, 1, 2] bcast_S1x1x128_S2x4096x128_0_1_2 (broadcastInDim S1x1x128 ![2] bcast_S128_S1x1x128_2 A4)))

/-- The hidden rows of its neighbours. -/
def hidNear (X : FVec Ideal S2x4096x3 .f32) (T : FVec Ideal S2x4096x6x3 .f32) : FVec Ideal S2x4096x6x128 .f32 :=
  addf (Host.dotGeneral dot_S2x4096x6x3_S3x128_S2x4096x6x128_3_0_012_1_n_n none
      (subf T (broadcastInDim S2x4096x6x3 ![0, 1, 2, 3] bcast_S2x4096x1x3_S2x4096x6x3_0_1_2_3
        (broadcastInDim S2x4096x1x3 ![0, 1, 3] bcast_S2x4096x3_S2x4096x1x3_0_1_3 X))) A5)
    (broadcastInDim S2x4096x6x128 ![0, 1, 2, 3] bcast_S1x1x1x128_S2x4096x6x128_0_1_2_3
      (broadcastInDim S1x1x1x128 ![3] bcast_S128_S1x1x1x128_3 A6))

/-- All seven. -/
def hid (s : FVec Ideal S2x4096x1x128 .f32) (n : FVec Ideal S2x4096x6x128 .f32) : FVec Ideal S2x4096x7x128 .f32 :=
  concatenate S2x4096x7x128 2 [⟨S2x4096x1x128, s⟩, ⟨S2x4096x6x128, n⟩] concatenates_S2x4096x1x128_S2x4096x6x128_S2x4096x7x128_d2

/-- The last layer, summed over the seven. -/
def rows (H : FVec Ideal S2x4096x7x128 .f32) : FVec Ideal S2x4096x128 .f32 :=
  Host.reduceAdd (addf (Host.dotGeneral dot_S2x4096x7x128_S128x128_S2x4096x7x128_3_0_012_1_n_n none H A7)
      (broadcastInDim S2x4096x7x128 ![0, 1, 2, 3] bcast_S1x1x1x128_S2x4096x7x128_0_1_2_3
        (broadcastInDim S1x1x1x128 ![3] bcast_S128_S1x1x1x128_3 A8)))
    (constant (F := Ideal) S_ .f32 0x00000000#32) reducesTo_S2x4096x7x128_S2x4096x128_d2 h_S_

/-- The depots' rows. -/
def depots : FVec Ideal S2x128 .f32 :=
  addf (Host.dotGeneral dot_S2x2_S2x128_S2x128_1_0_0_1_n_n none A2 A9)
    (broadcastInDim S2x128 ![0, 1] bcast_S1x128_S2x128_0_1 (broadcastInDim S1x128 ![1] bcast_S128_S1x128_1 A10))

/-- The depots' rows before the nodes'. -/
def whole (d : FVec Ideal S2x128 .f32) (R : FVec Ideal S2x4096x128 .f32) : FVec Ideal S2x4097x128 .f32 :=
  concatenate S2x4097x128 1 [⟨S2x1x128, (broadcastInDim S2x1x128 ![0, 2] bcast_S2x128_S2x1x128_0_2 d)⟩, ⟨S2x4096x128, R⟩]
    concatenates_S2x1x128_S2x4096x128_S2x4097x128_d1

/-- Their mean. -/
def mean (h : FVec Ideal S2x4097x128 .f32) : FVec Ideal S2x128 .f32 :=
  Host.divf (Host.reduceAdd h (constant (F := Ideal) S_ .f32 0x00000000#32) reducesTo_S2x4097x128_S2x128_d1 h_S_)
    (broadcastInDim S2x128 ![] bcast_S_S2x128 (constant (F := Ideal) S_ .f32 0x45800800#32))

/-- The first result from the features. -/
def result (X : FVec Ideal S2x4096x3 .f32) : FVec Ideal S2x4097x128 .f32 :=
  whole (depots A2 A9 A10) (rows A7 A8 (hid (hidSelf A3 A4 X) (hidNear A5 A6 X (taken X (nearest (order (dists (diffs X))))))))

variable (m : (ℓ : Loc nD τ sig) → Buf (Elt Ideal) ℓ) (c : Dev nD)

/-- The first result of the reference. -/
theorem out0_eq : Value.res_out0 m c = result (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (feats (m ((c.tc : Thread nD τ).loc main_arg0)) (m ((c.tc : Thread nD τ).loc main_arg1))) := rfl

/-- The second is its mean. -/
theorem out1_eq : Value.res_out1 m c = mean (Value.res_out0 m c) := rfl

end Cert.Proof.Ref
-- ==== Proof.RefTake.lean ====
module

public import proofs.«01_k».proof.Proof.RefTerm
public import proofs.«01_k».proof.Proof.Spec
public import Idealize.ShloMosaic.Lib.Pointwise
public import Idealize.ShloMosaic.Lib.ValueIdxCore

@[expose] public section

/-!
# The reference's rows taken by index

The reference takes batch 0's features at the six nearest nodes by a gather of whole rows, whose indices are all nodes: nothing is
counted from the end, nothing is filled in.
-/

noncomputable section

namespace Cert.Proof.Ref

open Cert.ReferenceIdeal Cert.ReferenceIdeal.Gen
open Idealize.ShloMosaic Idealize.ShloMosaic.TcCoe

/-- The gather of rows: one index per row, a row of three. -/
abbrev gd := gather_S4096x3_S2x4096x6x1_S2x4096x6x3_3_0_n_n_0_3_13

/-- A node's number, read as a signed word. -/
theorem index_toInt (q : Node) : (BitVec.ofNat 32 q.val).toInt = (q.val : Int) := by
  have := q.isLt
  rw [BitVec.toInt_eq_toNat_of_lt (by rw [BitVec.toNat_ofNat]; omega), BitVec.toNat_ofNat]; omega

/-- A row gathered at a node's index is that node's. -/
theorem gather_row_apply (x : FVec Ideal S4096x3 .f32) (idx : IVec S2x4096x6x1 32) (b : Fin 2) (i : Node) (t : Fin 6) (k : Fin 3) (q : Node)
    (hq : idx (ix4 b i t 0) = BitVec.ofNat 32 q.val) : Host.gather gd x idx (ix4 b i t k) = x (ix2 q k) := by
  have hqn : (BitVec.ofNat 32 q.val).toInt.toNat = q.val := by rw [index_toInt]; omega
  unfold Host.gather
  refine congrArg x ?_
  funext a
  refine Fin.ext ?_
  show (GatherDims.start gd (ix4 b i t k) idx a) + (GatherDims.batchCoord gd (ix4 b i t k) a) + (GatherDims.offCoord gd (ix4 b i t k) a) = _
  have h01 : ∀ a : Fin 2, a = 0 ∨ a = 1 := by decide
  rcases h01 a with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd).startIndexMap from List.mem_singleton.mpr rfl)]
    have hsi : (gd).siIdx (ix4 b i t k) ⟨List.idxOf (0 : Fin 2) (gd).startIndexMap,
        List.idxOf_lt_length_iff.2 (List.mem_singleton.mpr rfl)⟩ = ix4 b i t 0 := by
      funext c; refine Fin.ext ?_
      have hc : ∀ c : Fin 4, c = 0 ∨ c = 1 ∨ c = 2 ∨ c = 3 := by decide
      rcases hc c with rfl | rfl | rfl | rfl <;> rfl
    rw [hsi, hq, hqn]
    show min q.val (4096 - 1) = q.val
    have := q.isLt
    omega
  · rw [GatherDims.batchCoord_eq_zero _ _ _ List.not_mem_nil]
    unfold GatherDims.start
    rw [dif_neg (show ¬(1 : Fin 2) ∈ (gd).startIndexMap by decide)]
    unfold GatherDims.offCoord
    rw [dif_pos (show (1 : Fin 2) ∈ (gd).sKept by decide)]
    simp only [Nat.zero_add]
    rfl

/-- A node's number is not negative. -/
theorem index_slt (q : Node) : IntOp.cmpi .slt (BitVec.ofNat 32 q.val) 0#32 = 0#1 := by
  have h : ¬((q.val : Int) < 0) := by omega
  simp only [IntOp.cmpi, BitVec.slt, index_toInt q, BitVec.toInt_zero, decide_eq_false h]
  rfl

/-- A node's number is at least 0. -/
theorem index_sge (q : Node) : IntOp.cmpi .sge (BitVec.ofNat 32 q.val) 0#32 = 1#1 := by
  have h : (0 : Int) ≤ (q.val : Int) := by omega
  simp only [IntOp.cmpi, BitVec.sle, index_toInt q, BitVec.toInt_zero, decide_eq_true h]
  rfl

/-- A node's number is at most 4095. -/
theorem index_sle (q : Node) : IntOp.cmpi .sle (BitVec.ofNat 32 q.val) 4095#32 = 1#1 := by
  have hk : (4095#32 : BitVec 32).toInt = 4095 := by decide
  have h : (q.val : Int) ≤ 4095 := by have := q.isLt; omega
  simp only [IntOp.cmpi, BitVec.sle, index_toInt q, hk, decide_eq_true h]
  rfl

/-- The six nearest are kept as they are. -/
theorem nearest_apply (P : IVec S2x4096x4096 32) (b : Fin 2) (i : Node) (t : Fin 6) (q : Node)
    (hP : P (ix3 b i ⟨t.val, by omega⟩) = BitVec.ofNat 32 q.val) : nearest P (ix3 b i t) = BitVec.ofNat 32 q.val := by
  have hs := index_slt q
  unfold nearest
  pointwise [hP, hs]

/-- The features taken. -/
theorem taken_apply (X : FVec Ideal S2x4096x3 .f32) (N : IVec S2x4096x6 32) (b : Fin 2) (i : Node) (t : Fin 6) (k : Fin 3) (q : Node)
    (hN : N (ix3 b i t) = BitVec.ofNat 32 q.val) : taken X N (ix4 b i t k) = X (ix3 0 q k) := by
  have hin : inside N (ix3 b i t) = 1#1 := by
    have h1 := index_sge q
    have h2 := index_sle q
    unfold inside
    pointwise [hN, h1, h2]
    rfl
  have hg := gather_row_apply (shapeCast _ (extractStridedSlice S1x4096x3 ![0, 0, 0] X slices_S2x4096x3_S1x4096x3_0_0_0) shapeCasts_S1x4096x3_S4096x3)
    (broadcastInDim S2x4096x6x1 ![0, 1, 2] bcast_S2x4096x6_S2x4096x6x1_0_1_2 N) b i t k q (by pointwise [hN])
  have hx : (shapeCast S4096x3 (extractStridedSlice S1x4096x3 ![0, 0, 0] X slices_S2x4096x3_S1x4096x3_0_0_0) shapeCasts_S1x4096x3_S4096x3 : FVec Ideal S4096x3 .f32) (ix2 q k) = X (ix3 0 q k) := by
    pointwise
  unfold taken
  generalize inside N = I at hin
  pointwise [hin]
  exact hg.trans hx

end Cert.Proof.Ref
-- ==== Proof.PreCount.lean ====
module

public import proofs.«01_k».proof.Proof.Gen.Pre_pre
public import proofs.«01_k».proof.Proof.Spec
public import proofs.«01_k».proof.Proof.RefTake
public import Idealize.ShloMosaic.Lib.Affine
public import Idealize.ShloMosaic.Lib.Pointwise
public import Idealize.ShloMosaic.Lib.IndicatorCount
public import Idealize.ShloMosaic.Lib.ReduceAll

@[expose] public section

/-!
# The precondition's parts
-/

noncomputable section

namespace Cert.Proof.Pre

open Cert.Pre_pre Cert.Pre_pre.Gen
open Idealize.ShloMosaic

/-- Which nodes `j` lie where node `i` lies and come before it. -/
def earlier (X : FVec Ideal S2x4096x2 .f32) : IVec S2x4096x4096 1 :=
  andi (Host.reduce IntOp.andi
      (cmpf .oeq (broadcastInDim S2x4096x4096x2 ![0, 1, 2, 3] bcast_S2x4096x1x2_S2x4096x4096x2_0_1_2_3
          (broadcastInDim S2x4096x1x2 ![0, 1, 3] bcast_S2x4096x2_S2x4096x1x2_0_1_3 X))
        (broadcastInDim S2x4096x4096x2 ![0, 1, 2, 3] bcast_S2x1x4096x2_S2x4096x4096x2_0_1_2_3
          (broadcastInDim S2x1x4096x2 ![0, 2, 3] bcast_S2x4096x2_S2x1x4096x2_0_2_3 X)))
      (constantI S_ 1 1#1) reducesTo_S2x4096x4096x2_S2x4096x4096_d3 h_S_)
    (broadcastInDim S2x4096x4096 ![0, 1, 2] bcast_S1x4096x4096_S2x4096x4096_0_1_2
      (broadcastInDim S1x4096x4096 ![1, 2] bcast_S4096x4096_S1x4096x4096_1_2
        (cmpi .slt (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0))))))

/-- How many. -/
def count (E : IVec S2x4096x4096 1) : IVec S2x4096 32 :=
  Host.reduce IntOp.addi (extui 32 E natLt_1_32) (constantI S_ 32 0#32) reducesTo_S2x4096x4096_S2x4096_d2 h_S_

/-- At most five everywhere. -/
def few (C : IVec S2x4096 32) : IVec S_ 1 :=
  Host.reduce IntOp.andi (cmpi .sle C (broadcastInDim S2x4096 ![] bcast_S_S2x4096 (constantI S_ 32 5#32))) (constantI S_ 1 1#1)
    reducesTo_S2x4096_S_d0_1 h_S_

/-- Whether an array's entries are finite. -/
def below {s : Shape} (x : FVec Ideal s .f32) (hb : S_.BroadcastsInDim s (![] : Fin 0 → Fin s.rank)) : IVec s 1 :=
  cmpf .olt (Host.absf x) (broadcastInDim s ![] hb (constant (F := Ideal) S_ .f32 0x7F800000#32))

/-- The precondition is their conjunction. -/
theorem fn_eq (A0 : FVec Ideal S2x4096x2 .f32) (A1 : FVec Ideal S2x4096 .f32) (A2 : FVec Ideal S2x2 .f32) (A3 : FVec Ideal S3x128 .f32)
    (A4 : FVec Ideal S128 .f32) (A5 : FVec Ideal S3x128 .f32) (A6 : FVec Ideal S128 .f32) (A7 : FVec Ideal S128x128 .f32)
    (A8 : FVec Ideal S128 .f32) (A9 : FVec Ideal S2x128 .f32) (A10 : FVec Ideal S128 .f32) :
    Cert.Pre_pre.fn (F := Ideal) A0 A1 A2 A3 A4 A5 A6 A7 A8 A9 A10
      = andi (andi (andi (andi (andi (few (count (earlier A0)))
          (Host.reduce IntOp.andi (below A0 bcast_S_S2x4096x2) (constantI S_ 1 1#1) reducesTo_S2x4096x2_S_d0_1_2 h_S_))
          (Host.reduce IntOp.andi (below A1 bcast_S_S2x4096) (constantI S_ 1 1#1) reducesTo_S2x4096_S_d0_1 h_S_))
          (Host.reduce IntOp.andi (below A5 bcast_S_S3x128) (constantI S_ 1 1#1) reducesTo_S3x128_S_d0_1 h_S_))
          (Host.reduce IntOp.andi (below A6 bcast_S_S128) (constantI S_ 1 1#1) reducesTo_S128_S_d0 h_S_))
          (Host.reduce IntOp.andi (below A7 bcast_S_S128x128) (constantI S_ 1 1#1) reducesTo_S128x128_S_d0_1 h_S_) := rfl

/-- A bit of `below` says its entry is a real number. -/
theorem below_real {s : Shape} (x : FVec Ideal s .f32) (hb) (i : s.Idx) (h : below x hb i = 1#1) : IsReal (x i) := by
  have h' : Ideal.cmp .olt (max (x i) (-(x i))) (Ideal.ofBits .f32 0x7F800000#32) = 1#1 := h
  rw [ofBits_inf] at h'
  have hlt : max (x i) (-(x i)) < (⊤ : EReal) := by
    by_contra hn
    simp only [Ideal.cmp, decide_eq_false hn] at h'
    exact absurd h' (by decide)
  generalize (x i : EReal) = y at hlt
  induction y using EReal.rec with
  | coe r => exact ⟨r, rfl⟩
  | bot => simp at hlt
  | top => simp at hlt

/-- The comparison of two nodes' numbers. -/
theorem node_slt (i j : Node) : IntOp.cmpi .slt (BitVec.ofNat 32 j.val) (BitVec.ofNat 32 i.val) = 1#1 ↔ j < i := by
  simp only [IntOp.cmpi, BitVec.slt, Ref.index_toInt]
  by_cases h : j < i
  · have h' : (j.val : Int) < (i.val : Int) := by have : j.val < i.val := h; omega
    rw [decide_eq_true h']
    exact ⟨fun _ => h, fun _ => rfl⟩
  · have h' : ¬(j.val : Int) < (i.val : Int) := fun hc => h (show j.val < i.val by omega)
    rw [decide_eq_false h']
    exact ⟨fun hc => absurd hc (by decide), fun hc => absurd hc h⟩

/-- A bit of a test. -/
theorem ofBool_one {p : Prop} [Decidable p] : BitVec.ofBool (decide p) = 1#1 ↔ p := by
  by_cases h : p <;> simp [h]

/-- What a bit of `earlier` says. -/
theorem earlier_apply (X : FVec Ideal S2x4096x2 .f32) (b : Fin 2) (i j : Node) :
    earlier X (ix3 b i j) = 1#1 ↔ (X (ix3 b i 0) = X (ix3 b j 0) ∧ X (ix3 b i 1) = X (ix3 b j 1)) ∧ j < i := by
  have h2 (f : Fin 2 → BitVec 1) : Finset.fold IntOp.andi (1#1) f Finset.univ = IntOp.andi (f 0) (IntOp.andi (f 1) 1#1) := rfl
  unfold earlier
  pointwise
  rw [h2, IntOp.andi_eq_one, IntOp.andi_eq_one, IntOp.andi_eq_one]
  exact ⟨fun h => ⟨⟨ofBool_one.1 h.1.1, ofBool_one.1 h.1.2.1⟩, (node_slt i j).1 h.2⟩,
    fun h => ⟨⟨ofBool_one.2 h.1.1, ofBool_one.2 h.1.2, rfl⟩, (node_slt i j).2 h.2⟩⟩

/-- The count. -/
theorem count_apply (E : IVec S2x4096x4096 1) (b : Fin 2) (i : Node) :
    count E (ix2 b i) = BitVec.ofNat 32 (Finset.univ.filter fun j : Node => E (ix3 b i j) = 1#1).card := by
  have h := IndicatorCount.fold_addi_setWidth_eq_card (w := 32) (fun j : Node => E (ix3 b i j)) Finset.univ
  unfold count
  pointwise
  exact h

/-- The test of a count. -/
theorem count_sle {n : ℕ} (hn : n ≤ 4096) (h : IntOp.cmpi .sle (BitVec.ofNat 32 n) 5#32 = 1#1) : n ≤ 5 := by
  have hi : (BitVec.ofNat 32 n).toInt = (n : Int) := by
    rw [BitVec.toInt_eq_toNat_of_lt (by rw [BitVec.toNat_ofNat]; omega), BitVec.toNat_ofNat]; omega
  have hk : (5#32 : BitVec 32).toInt = 5 := by decide
  simp only [IntOp.cmpi, BitVec.sle, hi, hk, ofBool_one] at h
  omega

/-- A node's distance to itself is nothing. -/
theorem sq_self {X : FVec Ideal S2x4096x2 .f32} (hX : ∀ i, IsReal (X i)) (b : Fin 2) (i : Node) : sq X b i i = 0 := by
  obtain ⟨x, hx⟩ := hX (ix3 b i 0)
  obtain ⟨y, hy⟩ := hX (ix3 b i 1)
  unfold sq
  rw [hx, hy]
  simp only [← EReal.coe_sub, ← EReal.coe_mul, ← EReal.coe_add]
  norm_num

/-- A node at no distance is at the same place. -/
theorem sq_zero {X : FVec Ideal S2x4096x2 .f32} (hX : ∀ i, IsReal (X i)) {b : Fin 2} {i j : Node} (h : sq X b i j = 0) :
    X (ix3 b i 0) = X (ix3 b j 0) ∧ X (ix3 b i 1) = X (ix3 b j 1) := by
  obtain ⟨x, hx⟩ := hX (ix3 b i 0)
  obtain ⟨y, hy⟩ := hX (ix3 b i 1)
  obtain ⟨x', hx'⟩ := hX (ix3 b j 0)
  obtain ⟨y', hy'⟩ := hX (ix3 b j 1)
  unfold sq at h
  rw [hx, hy, hx', hy'] at h
  simp only [← EReal.coe_sub, ← EReal.coe_mul, ← EReal.coe_add] at h
  have h0 : (x' - x) * (x' - x) + (y' - y) * (y' - y) = 0 := EReal.coe_eq_zero.mp h
  have h1 : x' - x = 0 := by nlinarith [mul_self_nonneg (x' - x), mul_self_nonneg (y' - y), mul_self_eq_zero.mp (le_antisymm (by nlinarith [mul_self_nonneg (y' - y)]) (mul_self_nonneg (x' - x)) : (x' - x) * (x' - x) = 0)]
  have h2 : y' - y = 0 := by nlinarith [mul_self_eq_zero.mp (le_antisymm (by nlinarith [mul_self_nonneg (x' - x)]) (mul_self_nonneg (y' - y)) : (y' - y) * (y' - y) = 0)]
  rw [hx, hy, hx', hy']
  exact ⟨congrArg _ (by linarith), congrArg _ (by linarith)⟩

/-- The nodes before a node, in its own order, are the earlier nodes at its place. -/
theorem rank_le {X : FVec Ideal S2x4096x2 .f32} (hX : ∀ i, IsReal (X i)) (b : Fin 2) (i : Node) :
    rank (sq X b i) i ≤ (Finset.univ.filter fun j : Node => earlier X (ix3 b i j) = 1#1).card := by
  refine Finset.card_le_card fun j hj => ?_
  simp only [Finset.mem_filter, Finset.mem_univ, true_and] at hj ⊢
  have hn : 0 ≤ sq X b i j := add_nonneg ((hX _).sub (hX _)).sq_nonneg ((hX _).sub (hX _)).sq_nonneg
  rcases hj with h | ⟨h, hji⟩
  · rw [sq_self hX] at h
    exact absurd h (not_lt.mpr hn)
  · rw [sq_self hX] at h
    exact (earlier_apply X b i j).mpr ⟨sq_zero hX h, hji⟩

/-- The precondition gives what the proof asks of the arguments. -/
theorem ok_of_pre (A : Args)
    (h : Cert.Pre_pre.fn (F := Ideal) A.loc A.dl A.dep A.Wi A.bi A.Wn A.bn A.Wf A.bf A.Wd A.bd = fun _ => 1#1) : A.Ok := by
  have hj := congrFun ((fn_eq _ _ _ _ _ _ _ _ _ _ _).symm.trans h) (Shape.Idx.first h_S_)
  obtain ⟨hj, h7⟩ := IntOp.andi_eq_one.1 hj
  obtain ⟨hj, h6⟩ := IntOp.andi_eq_one.1 hj
  obtain ⟨hj, h5⟩ := IntOp.andi_eq_one.1 hj
  obtain ⟨hj, h1⟩ := IntOp.andi_eq_one.1 hj
  obtain ⟨hf, h0⟩ := IntOp.andi_eq_one.1 hj
  have hloc : ∀ i, IsReal (A.loc i) := fun i => below_real A.loc _ i (Host.reduce_andi_eq_one _ _ _ _ _ h0 i (funext fun a => a.elim0))
  refine ⟨hloc, fun i => below_real A.dl _ i (Host.reduce_andi_eq_one _ _ _ _ _ h1 i (funext fun a => a.elim0)),
    fun i => below_real A.Wn _ i (Host.reduce_andi_eq_one _ _ _ _ _ h5 i (funext fun a => a.elim0)),
    fun i => below_real A.bn _ i (Host.reduce_andi_eq_one _ _ _ _ _ h6 i (funext fun a => a.elim0)),
    fun i => below_real A.Wf _ i (Host.reduce_andi_eq_one _ _ _ _ _ h7 i (funext fun a => a.elim0)), fun b i => ?_⟩
  have hc : IntOp.cmpi .sle (count (earlier A.loc) (ix2 b i)) 5#32 = 1#1 :=
    Host.reduce_andi_eq_one _ _ _ _ _ hf (ix2 b i) (funext fun a => a.elim0)
  rw [count_apply] at hc
  refine (rank_le hloc b i).trans (count_sle ?_ hc)
  exact (Finset.card_le_univ _).trans (by simp)

end Cert.Proof.Pre
-- ==== Proof.RefMlp.lean ====
module

public import proofs.«01_k».proof.Proof.Layer
public import proofs.«01_k».proof.Proof.Spec

@[expose] public section

/-!
# Seven rows through the last layer, and their sum through it

The reference sends a node's own hidden row and its six neighbours' through the last layer and sums; the kernel sums first. The two
agree for real coordinates, neighbour weights and last-layer weights.
-/

noncomputable section

namespace Cert.Proof

open Cert.KernelIdeal Cert.KernelIdeal.Gen
open Idealize.ShloMosaic

/-- Six is six. -/
theorem six_eq : six = ((6 : ℝ) : EReal) := by
  simp [six, Ideal.ofBits, Ideal.ieee]
  refine (EReal.coe_mul _ _).symm.trans (congrArg _ ?_)
  norm_num

/-- Seven is seven. -/
theorem seven_eq : seven = ((7 : ℝ) : EReal) := by
  simp [seven, Ideal.ofBits, Ideal.ieee]
  refine (EReal.coe_mul _ _).symm.trans (congrArg _ ?_)
  norm_num

/-- A real number added before a product by a real number. -/
theorem add_real_mul (a : EReal) {r w : EReal} (hr : IsReal r) (hw : IsReal w) : (a + r) * w = a * w + r * w := by
  obtain ⟨r, rfl⟩ := hr
  obtain ⟨w, rfl⟩ := hw
  induction a using EReal.rec with
  | coe a => norm_cast; ring
  | bot =>
    rw [EReal.bot_add]
    rcases lt_trichotomy w 0 with h | rfl | h
    · rw [EReal.bot_mul_coe_of_neg h, ← EReal.coe_mul, EReal.top_add_coe]
    · simp
    · rw [EReal.bot_mul_coe_of_pos h, EReal.bot_add]
  | top =>
    rw [EReal.top_add_coe]
    rcases lt_trichotomy w 0 with h | rfl | h
    · rw [EReal.top_mul_coe_of_neg h, EReal.bot_add]
    · simp
    · rw [EReal.top_mul_coe_of_pos h, ← EReal.coe_mul, EReal.top_add_coe]

/-- Seven copies of any number. -/
theorem seven_mul (b : EReal) : seven * b = b + ∑ _t : Fin 6, b := by
  rw [seven_eq, Fin.sum_univ_six]
  induction b using EReal.rec with
  | coe b => norm_cast; ring
  | bot => rw [EReal.coe_mul_bot_of_pos (by norm_num)]; simp
  | top => rw [EReal.coe_mul_top_of_pos (by norm_num)]; simp

/-- The six neighbours' part of the hidden layer, one by one and at once. -/
theorem near_sum {x : Fin 3 → EReal} {N : Fin 6 → Fin 3 → EReal} {w : Fin 3 → EReal} {b : EReal} (hx : ∀ c, IsReal (x c))
    (hN : ∀ t c, IsReal (N t c)) (hw : ∀ c, IsReal (w c)) (hb : IsReal b) :
    ∑ t, ((∑ c, (N t c - x c) * w c) + b) = (∑ c, ((∑ t, N t c) - six * x c) * w c) + six * b := by
  obtain ⟨b, rfl⟩ := hb
  choose x' hx' using hx
  choose N' hN' using hN
  choose w' hw' using hw
  simp only [hx', hN', hw', six_eq, Fin.sum_univ_six, Fin.sum_univ_three]
  norm_cast
  ring

/-- The sum of seven rows sent through the last layer is their sum sent through it. -/
theorem seven_rows {x : Fin 3 → EReal} {N : Fin 6 → Fin 3 → EReal} {Wi Wn : Vec Ideal S3x128 .f32} {bi bn : Fin 128 → EReal}
    {Wf : Vec Ideal S128x128 .f32} {bf : Fin 128 → EReal} (hx : ∀ c, IsReal (x c)) (hN : ∀ t c, IsReal (N t c)) (hWn : ∀ i, IsReal (Wn i))
    (hbn : ∀ e, IsReal (bn e)) (hWf : ∀ i, IsReal (Wf i)) (o : Fin 128) :
    ((∑ e, ((∑ c, x c * Wi (ix2 c e)) + bi e) * Wf (ix2 e o)) + bf o)
        + ∑ t, ((∑ e, ((∑ c, (N t c - x c) * Wn (ix2 c e)) + bn e) * Wf (ix2 e o)) + bf o)
      = rowF x (fun c => ∑ t, N t c) Wi bi Wn bn Wf bf o := by
  have hn (t : Fin 6) (e : Fin 128) : IsReal ((∑ c, (N t c - x c) * Wn (ix2 c e)) + bn e) :=
    (IsReal.sum _ _ fun c _ => ((hN t c).sub (hx c)).mul (hWn _)).add (hbn e)
  have he (e : Fin 128) : hidF x (fun c => ∑ t, N t c) Wi Wn bi bn e * Wf (ix2 e o)
      = ((∑ c, x c * Wi (ix2 c e)) + bi e) * Wf (ix2 e o) + ∑ t, ((∑ c, (N t c - x c) * Wn (ix2 c e)) + bn e) * Wf (ix2 e o) := by
    unfold hidF
    rw [add_assoc, ← near_sum hx hN (fun c => hWn (ix2 c e)) (hbn e), add_real_mul _ (IsReal.sum _ _ fun t _ => hn t e) (hWf _)]
    congr 1
    obtain ⟨w, hw⟩ := hWf (ix2 e o)
    choose n' hn' using fun t => hn t e
    simp only [hw, hn', Fin.sum_univ_six]
    simp only [← EReal.coe_add, ← EReal.coe_mul]
    refine congrArg _ ?_
    ring
  unfold rowF
  rw [Finset.sum_congr rfl fun e _ => he e, Finset.sum_add_distrib, Finset.sum_add_distrib, Finset.sum_comm (s := (Finset.univ : Finset (Fin 128))), seven_mul]
  exact add_add_add_comm _ _ _ _

end Cert.Proof
-- ==== Proof.RefOrder.lean ====
module

public import proofs.«01_k».proof.Proof.RefTerm
public import proofs.«01_k».proof.Proof.Spec
public import Idealize.ShloMosaic.Lib.SortPrefix

@[expose] public section

/-!
# The reference's stable order

The reference orders the nodes by distance with a stable sort, so its first six are the first by (distance, index): the order
the kernel's selection follows. The square root does not change it, on squares of real numbers.
-/

noncomputable section

namespace Cert.Proof.Ref

open Cert.ReferenceIdeal Cert.ReferenceIdeal.Gen
open Idealize.ShloMosaic Idealize.ShloMosaic.TcCoe

/-- A stable sort of an increasing list asks of a pair only whether the later element comes before the earlier. -/
theorem stable_eq {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Where a sort's elements come from depends on no more of the order than that. -/
theorem sortedFrom_eq {n : ℕ} (R R' : Fin n → Fin n → Bool) (h : ∀ a b, a < b → R b a = R' b a) : sortedFrom R = sortedFrom R' := by
  have e : sortPositions n R = sortPositions n R' := stable_eq R R' h _ (List.pairwise_lt_finRange n)
  funext k
  unfold sortedFrom
  simp only [List.get_eq_getElem, Fin.val_cast, e]

/-- The first six of a stable sort by `e`. -/
theorem sortedFrom_elt (e : Node → EReal) (t : Fin 6) :
    sortedFrom (fun a b : Node => decide (e a < e b)) ⟨t.val, by omega⟩ = elt e t.val := by
  classical
  have hB : StrictTotalBefore fun a b : Node => decide (Before e a b) :=
    { irrefl := fun a => decide_eq_false (Before.irrefl a)
      trans := fun a b c hab hbc => decide_eq_true ((of_decide_eq_true hab).trans (of_decide_eq_true hbc))
      total := fun a b hne => (Before.total hne).imp (decide_eq_true ·) (decide_eq_true ·) }
  have hr (i : Fin 6) : rank e (elt e i.val) = i.val := rank_elt (by omega)
  rw [sortedFrom_eq _ (fun a b : Node => decide (Before e a b)) fun a b hab => ?_]
  · refine hB.sortedFrom_eq_of_prefix (by decide : 6 ≤ 4096) (fun i => elt e i.val) (fun i j h => ?_) (fun i j hij => ?_) (fun i p hp => ?_) t
    · have h' := congrArg (rank e) h
      simp only [hr] at h'
      exact Fin.ext h'
    · refine decide_eq_false fun h => ?_
      have h' := rank_lt_of_before h
      rw [hr, hr] at h'
      exact absurd hij (by simp only [Fin.lt_def]; omega)
    · refine decide_eq_false fun h => ?_
      have h' := rank_lt_of_before h
      rw [hr] at h'
      exact hp ⟨rank e p, by omega⟩ (elt_of_rank rfl).symm
  · refine decide_eq_decide.mpr ⟨fun h => .inl h, fun h => h.elim id fun h => ?_⟩
    exact absurd (h.2.trans hab) (lt_irrefl _)

/-- The comparator is the order of the distances. -/
theorem comparator_eq (a b : EReal) (i j : BitVec 32) :
    comparator_f32_i32_d2 (F := Ideal) (a, i) (b, j) = BitVec.ofBool (decide (a < b)) := by
  have hz : Ideal.ofBits .f32 (0#32) = 0 := Ideal.ofBits_zero_f32
  have hs (x : EReal) (c : EReal) : Scalar.select (Ideal.cmp .une x x) c (Scalar.select (Ideal.cmp .oeq x (Ideal.ofBits .f32 0#32)) (Ideal.ofBits .f32 0#32) x) = x := by
    rw [hz]
    by_cases hx : x = 0 <;> simp [Ideal.cmp, Scalar.select, hx]
  show Ideal.cmp CmpDirection.lt.ordered _ _ = _
  refine (congrArg₂ (Ideal.cmp CmpDirection.lt.ordered) (hs a _) (hs b _)).trans ?_
  rfl

/-- The stage's first six. -/
theorem order_apply (E : FVec Ideal S2x4096x4096 .f32) (e : Node → EReal) (b : Fin 2) (i : Node)
    (hE : ∀ j j', E (ix3 b i j) < E (ix3 b i j') ↔ e j < e j') (t : Fin 6) :
    order E (ix3 b i ⟨t.val, by omega⟩) = BitVec.ofNat 32 (elt e t.val).val := by
  have hal (q k : Node) : (ix3 b i q : S2x4096x4096.Idx).along 2 k = ix3 b i k := by
    funext a
    match a with
    | 0 => rfl
    | 1 => rfl
    | 2 => rfl
  have hs := sortedFrom_elt e t
  have hf : (fun k k' : Node => comparator_f32_i32_d2 (F := Ideal)
      (E ((ix3 b i ⟨t.val, by omega⟩ : S2x4096x4096.Idx).along 2 k), iotaInDim S2x4096x4096 32 2 ((ix3 b i ⟨t.val, by omega⟩ : S2x4096x4096.Idx).along 2 k))
      (E ((ix3 b i ⟨t.val, by omega⟩ : S2x4096x4096.Idx).along 2 k'), iotaInDim S2x4096x4096 32 2 ((ix3 b i ⟨t.val, by omega⟩ : S2x4096x4096.Idx).along 2 k')) == 1#1)
      = fun a b => decide (e a < e b) := by
    funext k k'
    rw [comparator_eq, hal, hal]
    by_cases h : e k < e k'
    · rw [decide_eq_true ((hE k k').mpr h), decide_eq_true h]; rfl
    · rw [decide_eq_false (fun h' => h ((hE k k').mp h')), decide_eq_false h]; rfl
  have hq := (congrArg (fun R : Node → Node → Bool => sortedFrom R ⟨t.val, by omega⟩) hf).trans hs
  unfold order Host.sort2
  rw [dif_pos (by decide : 2 < S2x4096x4096.rank)]
  refine (congrArg (fun k : Node => iotaInDim S2x4096x4096 32 2 ((ix3 b i ⟨t.val, by omega⟩ : S2x4096x4096.Idx).along 2 k)) hq).trans ?_
  show iotaInDim S2x4096x4096 32 2 ((ix3 b i ⟨t.val, by omega⟩ : S2x4096x4096.Idx).along 2 (elt e t.val)) = _
  rw [hal]
  rfl

/-- The square root keeps the order of real numbers that are not negative. -/
theorem sqrt_lt {x y : EReal} (hx : IsReal x) (hy : IsReal y) (hx0 : 0 ≤ x) (hy0 : 0 ≤ y) : Ideal.sqrt x < Ideal.sqrt y ↔ x < y := by
  obtain ⟨a, rfl⟩ := hx
  obtain ⟨b, rfl⟩ := hy
  have ha : 0 ≤ a := EReal.coe_nonneg.mp hx0
  have hb : 0 ≤ b := EReal.coe_nonneg.mp hy0
  rw [Ideal.sqrt_coe, Ideal.sqrt_coe, if_neg (not_lt.mpr ha), if_neg (not_lt.mpr hb), EReal.coe_lt_coe_iff, EReal.coe_lt_coe_iff]
  exact Real.sqrt_lt_sqrt_iff ha

end Cert.Proof.Ref
-- ==== Proof.RefValue.lean ====
module

public import proofs.«01_k».proof.Proof.RefTerm
public import proofs.«01_k».proof.Proof.Spec
public import Idealize.ShloMosaic.Lib.Pointwise

@[expose] public section

/-!
# The reference's stages entry by entry
-/

noncomputable section

namespace Cert.Proof.Ref

open Cert.ReferenceIdeal Cert.ReferenceIdeal.Gen
open Idealize.ShloMosaic Idealize.ShloMosaic.TcCoe

/-- The features. -/
theorem feats_apply (A : Args) (b : Fin 2) (j : Node) (k : Fin 3) : feats A.loc A.dl (ix3 b j k) = A.feat b j k := by
  unfold feats Args.feat
  pointwise

/-- The differences. -/
theorem diffs_apply (X : FVec Ideal S2x4096x3 .f32) (b : Fin 2) (i j : Node) (k : Fin 2) :
    diffs X (ix4 b i j k) = X (ix3 b j ⟨k.val, by omega⟩) - X (ix3 b i ⟨k.val, by omega⟩) := by
  unfold diffs
  pointwise

/-- The distances. -/
theorem dists_apply (D : FVec Ideal S2x4096x4096x2 .f32) (b : Fin 2) (i j : Node) :
    dists D (ix3 b i j) = Ideal.sqrt (D (ix4 b i j 0) * D (ix4 b i j 0) + D (ix4 b i j 1) * D (ix4 b i j 1)) := by
  unfold dists
  pointwise
  rw [Fin.sum_univ_two]

/-- A node's own hidden row. -/
theorem hidSelf_apply (A3 A4) (X : FVec Ideal S2x4096x3 .f32) (b : Fin 2) (i : Node) (e : Fin 128) :
    hidSelf A3 A4 X (ix4 b i 0 e) = (∑ c, X (ix3 b i c) * A3 (ix2 c e)) + A4 (ix1 e) := by
  unfold hidSelf
  pointwise

/-- Its neighbours' hidden rows. -/
theorem hidNear_apply (A5 A6) (X : FVec Ideal S2x4096x3 .f32) (T : FVec Ideal S2x4096x6x3 .f32) (b : Fin 2) (i : Node) (t : Fin 6) (e : Fin 128) :
    hidNear A5 A6 X T (ix4 b i t e) = (∑ c, (T (ix4 b i t c) - X (ix3 b i c)) * A5 (ix2 c e)) + A6 (ix1 e) := by
  unfold hidNear
  pointwise

/-- The first of the seven is the node's own. -/
theorem hid_apply0 (s n) (b : Fin 2) (i : Node) (e : Fin 128) : hid s n (ix4 b i 0 e) = s (ix4 b i 0 e) := by
  unfold hid
  pointwise

/-- The others are its neighbours'. -/
theorem hid_apply (s n) (b : Fin 2) (i : Node) (t : Fin 6) (e : Fin 128) : hid s n (ix4 b i t.succ e) = n (ix4 b i t e) := by
  unfold hid
  pointwise
  refine (dif_neg (by simp)).trans ?_
  exact congrArg (fun k => n (ix4 b i k e)) (Fin.ext (by simp))

/-- The summed rows. -/
theorem rows_apply (A7 A8) (H : FVec Ideal S2x4096x7x128 .f32) (b : Fin 2) (i : Node) (o : Fin 128) :
    rows A7 A8 H (ix3 b i o) = ∑ k : Fin 7, ((∑ e, H (ix4 b i k e) * A7 (ix2 e o)) + A8 (ix1 o)) := by
  unfold rows
  pointwise

/-- The depots' rows. -/
theorem depots_apply (A : Args) (b : Fin 2) (o : Fin 128) : depots A.dep A.Wd A.bd (ix2 b o) = A.depot b o := by
  unfold depots Args.depot
  pointwise

/-- The first row is the depot's. -/
theorem whole_depot (d R) (b : Fin 2) (o : Fin 128) : whole d R (ix3 b (0 : Fin 4097) o) = d (ix2 b o) := by
  unfold whole
  pointwise

/-- The others are the nodes'. -/
theorem whole_row (d R) (b : Fin 2) (i : Node) (o : Fin 128) : whole d R (ix3 b (⟨1 + i.val, by omega⟩ : Fin 4097) o) = R (ix3 b i o) := by
  unfold whole
  pointwise

/-- The mean. -/
theorem mean_apply (h) (b : Fin 2) (o : Fin 128) : mean h (ix2 b o) = Ideal.div (∑ i : Fin 4097, h (ix3 b i o)) (Ideal.ofBits .f32 0x45800800#32) := by
  unfold mean
  pointwise

end Cert.Proof.Ref
-- ==== Proof.RefRows.lean ====
module

public import proofs.«01_k».proof.Proof.RefMlp
public import proofs.«01_k».proof.Proof.RefOrder
public import proofs.«01_k».proof.Proof.RefTake
public import proofs.«01_k».proof.Proof.RefValue

@[expose] public section

/-!
# What the reference computes

The reference's first result is the depots' rows and the nodes', its second their mean.
-/

noncomputable section

namespace Cert.Proof.Ref

open Cert.ReferenceIdeal Cert.ReferenceIdeal.Gen
open Idealize.ShloMosaic Idealize.ShloMosaic.TcCoe

variable {A : Args}

/-- The distances are the squared distances' square roots. -/
theorem dist_eq (A : Args) (b : Fin 2) (i j : Node) :
    dists (diffs (feats A.loc A.dl)) (ix3 b i j) = Ideal.sqrt (sq A.loc b i j) := by
  rw [dists_apply, diffs_apply, diffs_apply, feats_apply, feats_apply, feats_apply, feats_apply]
  rfl

/-- Squared distances are real numbers. -/
theorem sq_real (h : A.Ok) (b : Fin 2) (i j : Node) : IsReal (sq A.loc b i j) :=
  (((h.loc _).sub (h.loc _)).mul ((h.loc _).sub (h.loc _))).add (((h.loc _).sub (h.loc _)).mul ((h.loc _).sub (h.loc _)))

/-- And not negative. -/
theorem sq_nonneg (h : A.Ok) (b : Fin 2) (i j : Node) : 0 ≤ sq A.loc b i j :=
  add_nonneg ((h.loc _).sub (h.loc _)).sq_nonneg ((h.loc _).sub (h.loc _)).sq_nonneg

/-- The nearest nodes' features. -/
theorem near_apply (h : A.Ok) (b : Fin 2) (i : Node) (t : Fin 6) (c : Fin 3) :
    taken (feats A.loc A.dl) (nearest (order (dists (diffs (feats A.loc A.dl))))) (ix4 b i t c)
      = A.feat 0 (elt (sq A.loc b i) t.val) c := by
  have ho := order_apply (dists (diffs (feats A.loc A.dl))) (sq A.loc b i) b i (fun j j' => by
    rw [dist_eq, dist_eq]
    exact sqrt_lt (sq_real h b i j) (sq_real h b i j') (sq_nonneg h b i j) (sq_nonneg h b i j')) t
  rw [taken_apply _ _ b i t c _ (nearest_apply _ b i t _ ho), feats_apply]

/-- A node's row of the reference. -/
theorem row_apply (h : A.Ok) (b : Fin 2) (i : Node) (o : Fin 128) :
    rows A.Wf A.bf (hid (hidSelf A.Wi A.bi (feats A.loc A.dl)) (hidNear A.Wn A.bn (feats A.loc A.dl)
      (taken (feats A.loc A.dl) (nearest (order (dists (diffs (feats A.loc A.dl)))))))) (ix3 b i o) = A.row b i o := by
  rw [rows_apply, Fin.sum_univ_succ]
  simp only [hid_apply0, hid_apply, hidSelf_apply, hidNear_apply, near_apply h, feats_apply]
  refine (seven_rows (x := A.feat b i) (N := fun t c => A.feat 0 (elt (sq A.loc b i) t.val) c) (Wi := A.Wi) (Wn := A.Wn)
    (bi := fun e => A.bi (ix1 e)) (bn := fun e => A.bn (ix1 e)) (Wf := A.Wf) (bf := fun e => A.bf (ix1 e)) (Args.feat_real h b i)
    (fun t c => Args.feat_real h 0 _ c) h.Wn (fun e => h.bn _) h.Wf o).trans ?_
  unfold Args.row
  refine congrArg (fun S => rowF (A.feat b i) S A.Wi (fun e => A.bi (ix1 e)) A.Wn (fun e => A.bn (ix1 e)) A.Wf (fun e => A.bf (ix1 e)) o) ?_
  funext c
  exact (Finset.sum_range fun t => A.feat 0 (elt (sq A.loc b i) t) c).symm

/-- The first result. -/
theorem result_eq (h : A.Ok) :
    result A.dep A.Wi A.bi A.Wn A.bn A.Wf A.bf A.Wd A.bd (feats A.loc A.dl) = A.out :=
  Args.eq_out A (fun b o => (whole_depot _ _ b o).trans (depots_apply A b o)) fun b i o => (whole_row _ _ b i o).trans (row_apply h b i o)

/-- The second. -/
theorem mean_eq (A : Args) : mean A.out = A.mean := by
  funext j
  obtain ⟨b, o, rfl⟩ : ∃ (b : Fin 2) (o : Fin 128), j = ix2 b o := ⟨j 0, j 1, eq_ix2 j⟩
  rw [mean_apply]
  refine congrArg (fun s => Ideal.div s (Ideal.ofBits .f32 0x45800800#32)) ?_
  refine (Fin.sum_univ_succ (n := 4096) _).trans (congrArg₂ (· + ·) (A.out_depot b o) (Finset.sum_congr rfl fun i _ => ?_))
  refine Eq.trans ?_ (A.out_row b i o)
  exact congrArg (fun k : Fin 4097 => A.out (ix3 b k o)) (Fin.ext (by rw [Fin.val_succ]; exact Nat.add_comm _ _))

end Cert.Proof.Ref
-- ==== Proof.Agree.lean ====
module

public import proofs.«01_k».proof.Proof.Frames
public import proofs.«01_k».proof.Proof.KernelValue
public import proofs.«01_k».proof.Proof.PreCount
public import proofs.«01_k».proof.Proof.RefRows

@[expose] public section

/-!
# The kernel computes what the reference computes

Both programs end with the two results the arguments determine: the rows, and their mean.
-/

noncomputable section

namespace Cert.Proof

open Idealize.ShloMosaic Idealize.ShloMosaic.TcCoe
open Idealize.SL.Sem

/-- The reference's results from arguments that are the kernel's. -/
theorem ref_values {m' : (ℓ : Loc Cert.ReferenceIdeal.nD Cert.ReferenceIdeal.τ Cert.ReferenceIdeal.sig) → Buf (Elt Ideal) ℓ}
    {c : Dev Cert.ReferenceIdeal.nD} {A : Args} (h : A.Ok)
    (h0 : m' ((c.tc : Thread Cert.ReferenceIdeal.nD Cert.ReferenceIdeal.τ).loc Cert.ReferenceIdeal.main_arg0) = A.loc)
    (h1 : m' ((c.tc : Thread Cert.ReferenceIdeal.nD Cert.ReferenceIdeal.τ).loc Cert.ReferenceIdeal.main_arg1) = A.dl)
    (h2 : m' ((c.tc : Thread Cert.ReferenceIdeal.nD Cert.ReferenceIdeal.τ).loc Cert.ReferenceIdeal.main_arg2) = A.dep)
    (h3 : m' ((c.tc : Thread Cert.ReferenceIdeal.nD Cert.ReferenceIdeal.τ).loc Cert.ReferenceIdeal.main_arg3) = A.Wi)
    (h4 : m' ((c.tc : Thread Cert.ReferenceIdeal.nD Cert.ReferenceIdeal.τ).loc Cert.ReferenceIdeal.main_arg4) = A.bi)
    (h5 : m' ((c.tc : Thread Cert.ReferenceIdeal.nD Cert.ReferenceIdeal.τ).loc Cert.ReferenceIdeal.main_arg5) = A.Wn)
    (h6 : m' ((c.tc : Thread Cert.ReferenceIdeal.nD Cert.ReferenceIdeal.τ).loc Cert.ReferenceIdeal.main_arg6) = A.bn)
    (h7 : m' ((c.tc : Thread Cert.ReferenceIdeal.nD Cert.ReferenceIdeal.τ).loc Cert.ReferenceIdeal.main_arg7) = A.Wf)
    (h8 : m' ((c.tc : Thread Cert.ReferenceIdeal.nD Cert.ReferenceIdeal.τ).loc Cert.ReferenceIdeal.main_arg8) = A.bf)
    (h9 : m' ((c.tc : Thread Cert.ReferenceIdeal.nD Cert.ReferenceIdeal.τ).loc Cert.ReferenceIdeal.main_arg9) = A.Wd)
    (h10 : m' ((c.tc : Thread Cert.ReferenceIdeal.nD Cert.ReferenceIdeal.τ).loc Cert.ReferenceIdeal.main_arg10) = A.bd) :
    Cert.ReferenceIdeal.Value.res_out0 m' c = A.out ∧ Cert.ReferenceIdeal.Value.res_out1 m' c = A.mean := by
  have e0 : Cert.ReferenceIdeal.Value.res_out0 m' c = A.out := by
    rw [Ref.out0_eq, h0, h1, h2, h3, h4, h5, h6, h7, h8, h9, h10]
    exact Ref.result_eq h
  exact ⟨e0, by rw [Ref.out1_eq, e0]; exact Ref.mean_eq A⟩

/-- The two results outlive the calls. -/
theorem results_outlive : rf Cert.KernelIdeal.main_v35 ∈ Pipeline.ucRefs Cert.KernelIdeal.τ Cert.KernelIdeal.sig
    ∧ rf Cert.KernelIdeal.main_v41 ∈ Pipeline.ucRefs Cert.KernelIdeal.τ Cert.KernelIdeal.sig := by decide +kernel

/-- Over real numbers the kernel's two results are the reference's. -/
theorem agree : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hpre hargs
  have hok (c : Dev Cert.KernelIdeal.nD) : (kArgs m c).Ok := Pre.ok_of_pre (kArgs m c) (hpre c)
  refine ⟨fun c => (kArgs m c).out, fun c => (kArgs m c).mean, ?_, ?_⟩
  · refine (θ_run Cert.KernelIdeal.defs _ _).mono (fun r h c => ?_) (run_main m g)
    have k := args_of_run m h.1 c
    exact ⟨(h.1 c _ results_outlive.1).trans (kernel_out m c (hok c)), (h.1 c _ results_outlive.2).trans (kernel_mean m c (hok c)),
      k Cert.KernelIdeal.main_arg0 (by decide), k Cert.KernelIdeal.main_arg1 (by decide), k Cert.KernelIdeal.main_arg2 (by decide),
      k Cert.KernelIdeal.main_arg3 (by decide), k Cert.KernelIdeal.main_arg4 (by decide), k Cert.KernelIdeal.main_arg5 (by decide),
      k Cert.KernelIdeal.main_arg6 (by decide), k Cert.KernelIdeal.main_arg7 (by decide), k Cert.KernelIdeal.main_arg8 (by decide),
      k Cert.KernelIdeal.main_arg9 (by decide), k Cert.KernelIdeal.main_arg10 (by decide)⟩
  · refine (θ_run Cert.ReferenceIdeal.defs _ _).mono (fun r h c => ?_) (Cert.ReferenceIdeal.Value.run (F := Ideal) m' g')
    obtain ⟨h0, h1, h2, h3, h4, h5, h6, h7, h8, h9, h10⟩ := hargs c
    have e := ref_values (m' := m') (c := c) (hok c) h0 h1 h2 h3 h4 h5 h6 h7 h8 h9 h10
    exact ⟨(h c).1.trans e.1, (h c).2.1.trans e.2, (h c).2.2⟩

end Cert.Proof
-- ==== Proof.lean ====
/-
  The proof of `Cert.Claim`: the frames of the three programs (Proof/Frames.lean, Proof/FrameKernel.lean) and the agreement of the
  idealized kernel and the reference (Proof/Agree.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pre
public import proofs.«01_k».proof.Proof.Frames
public import proofs.«01_k».proof.Proof.FrameKernel
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_pre.Gen.facts, frame_kernel, frame_ideal,
    fun m g _ => frame_ideal m g trivial, frame_reference, fun m g _ => frame_reference m g trivial, trivial, agree⟩

end Cert.Proof

end
